-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1024x128 : Shape := ⟨2, ![1024, 128]⟩
abbrev S1024 : Shape := ⟨1, ![1024]⟩
abbrev S100000x128 : Shape := ⟨2, ![100000, 128]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x128 .f32) (main_arg1 : FVec F S1024x128 .f32) (main_arg2 : FVec F S1024x128 .f32) (main_arg3 : IVec S1024 32) (main_arg4 : FVec F S100000x128 .f32) (main_arg5 : FVec F S100000x128 .f32) (main_arg6 : FVec F S100000x128 .f32) : IVec S_ 1 :=
  let main_c : IVec S_ 32 := constantI S_ 32 0#32
  let main_v0 : IVec S1024 32 := broadcastInDim S1024 ![] bcast_S_S1024 main_c
  let main_v1 : IVec S1024 1 := cmpi .sge main_arg3 main_v0
  let main_c_0 : IVec S_ 32 := constantI S_ 32 100000#32
  let main_v2 : IVec S1024 32 := broadcastInDim S1024 ![] bcast_S_S1024 main_c_0
  let main_v3 : IVec S1024 1 := cmpi .slt main_arg3 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S1024x128 : Shape := ⟨2, ![1024, 128]⟩
abbrev S1024 : Shape := ⟨1, ![1024]⟩
abbrev S100000x128 : Shape := ⟨2, ![100000, 128]⟩
abbrev S3x2x1024x128 : Shape := ⟨4, ![3, 2, 1024, 128]⟩
abbrev S2048x128 : Shape := ⟨2, ![2048, 128]⟩
abbrev S3x1024x128 : Shape := ⟨3, ![3, 1024, 128]⟩
abbrev S1024x1 : Shape := ⟨2, ![1024, 1]⟩
abbrev S1x1024x128 : Shape := ⟨3, ![1, 1024, 128]⟩
abbrev S1024x2048 : Shape := ⟨2, ![1024, 2048]⟩
abbrev S1x1x1024x128 : Shape := ⟨4, ![1, 1, 1024, 128]⟩
abbrev S1x1024 : Shape := ⟨2, ![1, 1024]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1x128 : Shape := ⟨2, ![1, 128]⟩
abbrev S1 : Shape := ⟨1, ![1]⟩
abbrev S_ : Shape := ⟨0, ![]⟩
abbrev S1x128x128 : Shape := ⟨3, ![1, 128, 128]⟩
abbrev S128x128 : Shape := ⟨2, ![128, 128]⟩
abbrev S128 : Shape := ⟨1, ![128]⟩
abbrev S1x1 : Shape := ⟨2, ![1, 1]⟩

abbrev nBuf : Table → Nat
  | .hbm => 17
  | .local .tc .vmem => 19
  | .local .scVector .vmem => 6
  | _ => 0

abbrev bufTy : (tb : Table) → Fin (nBuf tb) → BufTy
  | .hbm, ⟨0, _⟩ => ⟨S1024x128, .f32⟩
  | .hbm, ⟨1, _⟩ => ⟨S1024x128, .f32⟩
  | .hbm, ⟨2, _⟩ => ⟨S1024x128, .f32⟩
  | .hbm, ⟨3, _⟩ => ⟨S1024, .i32⟩
  | .hbm, ⟨4, _⟩ => ⟨S100000x128, .f32⟩
  | .hbm, ⟨5, _⟩ => ⟨S100000x128, .f32⟩
  | .hbm, ⟨6, _⟩ => ⟨S100000x128, .f32⟩
  | .hbm, ⟨7, _⟩ => ⟨S100000x128, .bf16⟩
  | .hbm, ⟨8, _⟩ => ⟨S100000x128, .bf16⟩
  | .hbm, ⟨9, _⟩ => ⟨S100000x128, .bf16⟩
  | .hbm, ⟨10, _⟩ => ⟨S3x2x1024x128, .f32⟩
  | .hbm, ⟨11, _⟩ => ⟨S1x1024, .i32⟩
  | .hbm, ⟨12, _⟩ => ⟨S1024x128, .f32⟩
  | .hbm, ⟨13, _⟩ => ⟨S1024x128, .f32⟩
  | .hbm, ⟨14, _⟩ => ⟨S1024x128, .f32⟩
  | .hbm, ⟨15, _⟩ => ⟨S1x1, .f32⟩
  | .hbm, ⟨16, _⟩ => ⟨S_, .f32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S2048x128, .bf16⟩
  | .local .tc .vmem, ⟨4, _⟩ => ⟨S2048x128, .bf16⟩
  | .local .tc .vmem, ⟨5, _⟩ => ⟨S2048x128, .bf16⟩
  | .local .tc .vmem, ⟨6, _⟩ => ⟨S2048x128, .bf16⟩
  | .local .tc .vmem, ⟨7, _⟩ => ⟨S2048x128, .bf16⟩
  | .local .tc .vmem, ⟨8, _⟩ => ⟨S2048x128, .bf16⟩
  | .local .tc .vmem, ⟨9, _⟩ => ⟨S3x2x1024x128, .f32⟩
  | .local .tc .vmem, ⟨10, _⟩ => ⟨S3x1024x128, .bf16⟩
  | .local .tc .vmem, ⟨11, _⟩ => ⟨S1024x128, .f32⟩
  | .local .tc .vmem, ⟨12, _⟩ => ⟨S1024x128, .f32⟩
  | .local .tc .vmem, ⟨13, _⟩ => ⟨S1024x128, .f32⟩
  | .local .tc .vmem, ⟨14, _⟩ => ⟨S1024x128, .f32⟩
  | .local .tc .vmem, ⟨15, _⟩ => ⟨S1024x128, .f32⟩
  | .local .tc .vmem, ⟨16, _⟩ => ⟨S1024x128, .f32⟩
  | .local .tc .vmem, ⟨17, _⟩ => ⟨S3x2x1024x128, .f32⟩
  | .local .tc .vmem, ⟨18, _⟩ => ⟨S1x1, .f32⟩
  | .local .scVector .vmem, ⟨0, _⟩ => ⟨S2x1x128, .i32⟩
  | .local .scVector .vmem, ⟨1, _⟩ => ⟨S2x128x128, .f32⟩
  | .local .scVector .vmem, ⟨2, _⟩ => ⟨S2x1x128, .i32⟩
  | .local .scVector .vmem, ⟨3, _⟩ => ⟨S2x128x128, .f32⟩
  | .local .scVector .vmem, ⟨4, _⟩ => ⟨S2x1x128, .i32⟩
  | .local .scVector .vmem, ⟨5, _⟩ => ⟨S2x128x128, .f32⟩
  | _, _ => ⟨S1024x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTables nBuf rfl bufTy 4 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v6 : Ref sig .tc := ⟨.hbm, 15, rfl⟩
abbrev main_v7 : Ref sig .tc := ⟨.hbm, 16, rfl⟩
abbrev main_arg4_scv : Ref sig .scVector := ⟨.hbm, 4, rfl⟩
abbrev main_arg5_scv : Ref sig .scVector := ⟨.hbm, 5, rfl⟩
abbrev main_arg6_scv : Ref sig .scVector := ⟨.hbm, 6, rfl⟩
abbrev main_v4_scv : Ref sig .scVector := ⟨.hbm, 11, rfl⟩
abbrev main_v5_0_scv : Ref sig .scVector := ⟨.hbm, 12, rfl⟩
abbrev main_v5_1_scv : Ref sig .scVector := ⟨.hbm, 13, rfl⟩
abbrev main_v5_2_scv : Ref sig .scVector := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc1_scoped0 : Ref sig .scVector := ⟨.vmem, 0, rfl⟩
abbrev cc1_scoped2 : Ref sig .scVector := ⟨.vmem, 1, rfl⟩
abbrev cc1_scoped6 : Ref sig .scVector := ⟨.vmem, 2, rfl⟩
abbrev cc1_scoped8 : Ref sig .scVector := ⟨.vmem, 3, rfl⟩
abbrev cc1_scoped12 : Ref sig .scVector := ⟨.vmem, 4, rfl⟩
abbrev cc1_scoped14 : Ref sig .scVector := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc2_sem0_0 : DmaSem sig := 28
abbrev cc2_sem1_0 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![49], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c48_i32 : BitVec 32 := 48#32
  let v3 : BitVec 1 := Scalar.cmpi .slt arg0 c48_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c48_i32_2 : BitVec 32 := 48#32
  let v6 : BitVec 1 := Scalar.cmpi .eq arg0 c48_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x2x1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![2, 16], ![false, false]⟩

def k1_cond1 (i : grid1.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c0_i32_27_r0 : BitVec 32 := 0#32
  let v38_r0 : BitVec 1 := Scalar.cmpi .sgt v11 c0_i32_27_r0
  let v39_r0 : BitVec 32 := Scalar.extui v38_r0
  let c0_i32_28_r0 : BitVec 32 := 0#32
  let v40_r0 : BitVec 1 := Scalar.cmpi .ne v39_r0 c0_i32_28_r0
  v40_r0

def k1_cond2 (i : grid1.Coords) : BitVec 1 :=
  let true_44_r0 : BitVec 1 := 1#1
  let c1_i32_29_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v41_r0 : BitVec 32 := Scalar.muli c1_i32_29_r0 v5
  let c0_i32_43_r0 : BitVec 32 := 0#32
  let v59_r0 : BitVec 1 := Scalar.cmpi .sgt v41_r0 c0_i32_43_r0
  let v60_r0 : BitVec 1 := Scalar.andi true_44_r0 v59_r0
  let true_45_r0 : BitVec 1 := 1#1
  let v61_r0 : BitVec 1 := Scalar.andi v60_r0 true_45_r0
  let v62_r0 : BitVec 32 := Scalar.extui v61_r0
  let c0_i32_47_r0 : BitVec 32 := 0#32
  let v63_r0 : BitVec 1 := Scalar.cmpi .ne v62_r0 c0_i32_47_r0
  v63_r0

def k1_off1 : Fin 3 → Nat :=
  let c0_i32_46_r0 : BitVec 32 := 0#32
  let c2_i32_r0 : BitVec 32 := 2#32
  let v104_r0 : BitVec 32 := Scalar.remui c0_i32_46_r0 c2_i32_r0
  let c0_i32_79_r0 : BitVec 32 := 0#32
  let c0_i32_80_r0 : BitVec 32 := 0#32
  ![v104_r0.toNat, 0, 0]
def k1_off2 (i : grid1.Coords) : Fin 2 → Nat :=
  let c0_i32_81_r0 : BitVec 32 := 0#32
  let c128_i32_r0 : BitVec 32 := 128#32
  let c0_i32_32_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v44_r0 : BitVec 32 := Scalar.addi c0_i32_32_r0 v10
  let v105_r0 : BitVec 32 := Scalar.muli c128_i32_r0 v44_r0
  ![0, v105_r0.toNat]
def k1_off3 : Fin 1 → Nat :=
  let c0_i32_46_r0 : BitVec 32 := 0#32
  let c2_i32_r0 : BitVec 32 := 2#32
  let v104_r0 : BitVec 32 := Scalar.remui c0_i32_46_r0 c2_i32_r0
  ![v104_r0.toNat]
@[reducible] def k1_t1_loop (i : grid1.Coords) : Scf.Loop 32 :=
  let c0_i32_51_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v66_r0 : BitVec 32 := Scalar.subi v11 c0_i32_51_r0
  let c1_i32_56_r0 : BitVec 32 := 1#32
  let v68_r0 : BitVec 32 := Scalar.divsi v66_r0 c1_i32_56_r0
  let v69_r0 : BitVec 32 := Scalar.muli v68_r0 c1_i32_56_r0
  let v70_r0 : BitVec 32 := Scalar.addi c0_i32_51_r0 v69_r0
  let c1_i32_57_r0 : BitVec 32 := 1#32
  ⟨c0_i32_51_r0, v70_r0, c1_i32_57_r0⟩
def k1_off4 (arg10_r0 : BitVec 32) : Fin 3 → Nat :=
  let c2_i32_123_r0 : BitVec 32 := 2#32
  let v191_r0 : BitVec 32 := Scalar.remui arg10_r0 c2_i32_123_r0
  let c0_i32_124_r0 : BitVec 32 := 0#32
  let c0_i32_125_r0 : BitVec 32 := 0#32
  ![v191_r0.toNat, 0, 0]
def k1_cond3 (i : grid1.Coords) (k1_t1 : Fin (k1_t1_loop i).trips) (arg14_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let true_87_r0 : BitVec 1 := 1#1
  let c1_i32_86_r0 : BitVec 32 := 1#32
  let v115_r0 : BitVec 32 := Scalar.addi arg14_r0 c1_i32_86_r0
  let v116_r0 : BitVec 32 := Scalar.select true_87_r0 v115_r0 arg14_r0
  let v117_r0 : BitVec 1 := Scalar.cmpi .eq v116_r0 v5
  let c0_i32_88_r0 : BitVec 32 := 0#32
  let v118_r0 : BitVec 32 := Scalar.select v117_r0 c0_i32_88_r0 v116_r0
  let v119_r0 : BitVec 32 := Scalar.addi v118_r0 v10
  let v125_r0 : BitVec 1 := Scalar.cmpi .ne v108_r0 v119_r0
  let c0_i32_51_r0 : BitVec 32 := 0#32
  let c1_i32_57_r0 : BitVec 32 := 1#32
  let arg9_r0 : BitVec 32 := Scf.iv c0_i32_51_r0 c1_i32_57_r0 k1_t1
  let c1_i32_79_r0 : BitVec 32 := 1#32
  let v104_r0 : BitVec 32 := Scalar.muli c1_i32_79_r0 v5
  let c2_i32_r0 : BitVec 32 := 2#32
  let v126_r0 : BitVec 32 := Scalar.subi v104_r0 c2_i32_r0
  let c1_i32_92_r0 : BitVec 32 := 1#32
  let v127_r0 : BitVec 32 := Scalar.addi v126_r0 c1_i32_92_r0
  let v128_r0 : BitVec 1 := Scalar.cmpi .sge arg9_r0 v127_r0
  let true_93_r0 : BitVec 1 := 1#1
  let v129_r0 : BitVec 1 := Scalar.xori v128_r0 true_93_r0
  let v130_r0 : BitVec 1 := Scalar.andi v125_r0 v129_r0
  let true_94_r0 : BitVec 1 := 1#1
  let v131_r0 : BitVec 1 := Scalar.andi v130_r0 true_94_r0
  let v132_r0 : BitVec 32 := Scalar.extui v131_r0
  let c0_i32_95_r0 : BitVec 32 := 0#32
  let v133_r0 : BitVec 1 := Scalar.cmpi .ne v132_r0 c0_i32_95_r0
  v133_r0

def k1_off5 (i : grid1.Coords) (arg14_r0 : BitVec 32) : Fin 2 → Nat :=
  let c0_i32_126_r0 : BitVec 32 := 0#32
  let c128_i32_r0 : BitVec 32 := 128#32
  let true_87_r0 : BitVec 1 := 1#1
  let c1_i32_86_r0 : BitVec 32 := 1#32
  let v115_r0 : BitVec 32 := Scalar.addi arg14_r0 c1_i32_86_r0
  let v116_r0 : BitVec 32 := Scalar.select true_87_r0 v115_r0 arg14_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v117_r0 : BitVec 1 := Scalar.cmpi .eq v116_r0 v5
  let c0_i32_88_r0 : BitVec 32 := 0#32
  let v118_r0 : BitVec 32 := Scalar.select v117_r0 c0_i32_88_r0 v116_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v119_r0 : BitVec 32 := Scalar.addi v118_r0 v10
  let v192_r0 : BitVec 32 := Scalar.muli c128_i32_r0 v119_r0
  ![0, v192_r0.toNat]
def k1_off6 (arg10_r0 : BitVec 32) : Fin 1 → Nat :=
  let c2_i32_123_r0 : BitVec 32 := 2#32
  let v191_r0 : BitVec 32 := Scalar.remui arg10_r0 c2_i32_123_r0
  ![v191_r0.toNat]
def k1_off7 (arg11_r0 : BitVec 32) : Fin 3 → Nat :=
  let c2_i32_123_r0 : BitVec 32 := 2#32
  let v192_r0 : BitVec 32 := Scalar.remui arg11_r0 c2_i32_123_r0
  let c0_i32_124_r0 : BitVec 32 := 0#32
  let c0_i32_125_r0 : BitVec 32 := 0#32
  ![v192_r0.toNat, 0, 0]
def k1_cond4 (i : grid1.Coords) (k1_t1 : Fin (k1_t1_loop i).trips) (arg14_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let true_83_r0 : BitVec 1 := 1#1
  let c1_i32_82_r0 : BitVec 32 := 1#32
  let v109_r0 : BitVec 32 := Scalar.subi arg14_r0 c1_i32_82_r0
  let v110_r0 : BitVec 32 := Scalar.select true_83_r0 v109_r0 arg14_r0
  let c_m1_i32_84_r0 : BitVec 32 := 4294967295#32
  let v111_r0 : BitVec 1 := Scalar.cmpi .eq v110_r0 c_m1_i32_84_r0
  let c1_i32_85_r0 : BitVec 32 := 1#32
  let v112_r0 : BitVec 32 := Scalar.subi v5 c1_i32_85_r0
  let v113_r0 : BitVec 32 := Scalar.select v111_r0 v112_r0 v110_r0
  let v114_r0 : BitVec 32 := Scalar.addi v113_r0 v10
  let v143_r0 : BitVec 1 := Scalar.cmpi .ne v108_r0 v114_r0
  let c0_i32_51_r0 : BitVec 32 := 0#32
  let c1_i32_57_r0 : BitVec 32 := 1#32
  let arg9_r0 : BitVec 32 := Scf.iv c0_i32_51_r0 c1_i32_57_r0 k1_t1
  let c0_i32_80_r0 : BitVec 32 := 0#32
  let v105_r0 : BitVec 1 := Scalar.cmpi .eq arg9_r0 c0_i32_80_r0
  let v144_r0 : BitVec 1 := Scalar.ori v143_r0 v105_r0
  let c0_i32_101_r0 : BitVec 32 := 0#32
  let v145_r0 : BitVec 1 := Scalar.cmpi .sge arg9_r0 c0_i32_101_r0
  let v146_r0 : BitVec 1 := Scalar.andi v144_r0 v145_r0
  let v147_r0 : BitVec 32 := Scalar.extui v146_r0
  let c0_i32_102_r0 : BitVec 32 := 0#32
  let v148_r0 : BitVec 1 := Scalar.cmpi .ne v147_r0 c0_i32_102_r0
  v148_r0

def k1_off8 (i : grid1.Coords) (arg14_r0 : BitVec 32) : Fin 2 → Nat :=
  let c0_i32_126_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let v191_r0 : BitVec 32 := Scalar.muli c128_i32_r0 v108_r0
  ![0, v191_r0.toNat]
def k1_off9 (arg11_r0 : BitVec 32) : Fin 1 → Nat :=
  let c2_i32_123_r0 : BitVec 32 := 2#32
  let v192_r0 : BitVec 32 := Scalar.remui arg11_r0 c2_i32_123_r0
  ![v192_r0.toNat]
def k1_off10 (arg12_r0 : BitVec 32) : Fin 3 → Nat :=
  let c2_i32_106_r0 : BitVec 32 := 2#32
  let v156_r0 : BitVec 32 := Scalar.remui arg12_r0 c2_i32_106_r0
  let c0_i32_123_r1 : BitVec 32 := 0#32
  let c0_i32_124_r1 : BitVec 32 := 0#32
  ![v156_r0.toNat, 0, 0]

def k1_chk2 (i : grid1.Coords) (k1_t1 : Fin (k1_t1_loop i).trips) (arg12_r0 : BitVec 32) : Prop :=
  (∀ (k1_h1 : k1_cond1 i = 1#1), ∀ a, (k1_off10 arg12_r0) a + S1x128x128.size a ≤ S2x128x128.size a)
theorem k1_off10_inb : ∀ (i : grid1.Coords) (k1_t1 : Fin (k1_t1_loop i).trips) (arg12_r0 : BitVec 32) (k1_hw2 : k1_chk2 i k1_t1 arg12_r0), ∀ (k1_h1 : k1_cond1 i = 1#1), ∀ a, (k1_off10 arg12_r0) a + S1x128x128.size a ≤ S2x128x128.size a := fun i k1_t1 arg12_r0 k1_hw2 k1_h1 => k1_hw2 k1_h1

def k1_off11 (arg11_r0 : BitVec 32) : Fin 3 → Nat :=
  let c2_i32_105_r0 : BitVec 32 := 2#32
  let v155_r0 : BitVec 32 := Scalar.remui arg11_r0 c2_i32_105_r0
  let c0_i32_125_r1 : BitVec 32 := 0#32
  let c0_i32_126_r1 : BitVec 32 := 0#32
  ![v155_r0.toNat, 0, 0]

def k1_chk3 (i : grid1.Coords) (k1_t1 : Fin (k1_t1_loop i).trips) (arg11_r0 : BitVec 32) : Prop :=
  (∀ (k1_h1 : k1_cond1 i = 1#1), ∀ a, (k1_off11 arg11_r0) a + S1x1x128.size a ≤ S2x1x128.size a)
theorem k1_off11_inb : ∀ (i : grid1.Coords) (k1_t1 : Fin (k1_t1_loop i).trips) (arg11_r0 : BitVec 32) (k1_hw3 : k1_chk3 i k1_t1 arg11_r0), ∀ (k1_h1 : k1_cond1 i = 1#1), ∀ a, (k1_off11 arg11_r0) a + S1x1x128.size a ≤ S2x1x128.size a := fun i k1_t1 arg11_r0 k1_hw3 k1_h1 => k1_hw3 k1_h1

def k1_off12 (arg12_r0 : BitVec 32) : Fin 3 → Nat :=
  let c2_i32_123_r0 : BitVec 32 := 2#32
  let v191_r0 : BitVec 32 := Scalar.remui arg12_r0 c2_i32_123_r0
  let c0_i32_124_r0 : BitVec 32 := 0#32
  let c0_i32_125_r0 : BitVec 32 := 0#32
  ![v191_r0.toNat, 0, 0]
def k1_cond7 (i : grid1.Coords) (k1_t1 : Fin (k1_t1_loop i).trips) (arg14_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let true_87_r0 : BitVec 1 := 1#1
  let c1_i32_86_r0 : BitVec 32 := 1#32
  let v115_r0 : BitVec 32 := Scalar.addi arg14_r0 c1_i32_86_r0
  let v116_r0 : BitVec 32 := Scalar.select true_87_r0 v115_r0 arg14_r0
  let v117_r0 : BitVec 1 := Scalar.cmpi .eq v116_r0 v5
  let c0_i32_88_r0 : BitVec 32 := 0#32
  let v118_r0 : BitVec 32 := Scalar.select v117_r0 c0_i32_88_r0 v116_r0
  let v119_r0 : BitVec 32 := Scalar.addi v118_r0 v10
  let v162_r0 : BitVec 1 := Scalar.cmpi .ne v108_r0 v119_r0
  let c0_i32_51_r0 : BitVec 32 := 0#32
  let c1_i32_57_r0 : BitVec 32 := 1#32
  let arg9_r0 : BitVec 32 := Scf.iv c0_i32_51_r0 c1_i32_57_r0 k1_t1
  let c1_i32_79_r0 : BitVec 32 := 1#32
  let v104_r0 : BitVec 32 := Scalar.muli c1_i32_79_r0 v5
  let c1_i32_81_r0 : BitVec 32 := 1#32
  let v106_r0 : BitVec 32 := Scalar.subi v104_r0 c1_i32_81_r0
  let v107_r0 : BitVec 1 := Scalar.cmpi .eq arg9_r0 v106_r0
  let v163_r0 : BitVec 1 := Scalar.ori v162_r0 v107_r0
  let v164_r0 : BitVec 32 := Scalar.extui v163_r0
  let c0_i32_109_r0 : BitVec 32 := 0#32
  let v165_r0 : BitVec 1 := Scalar.cmpi .ne v164_r0 c0_i32_109_r0
  v165_r0

def k1_off13 (i : grid1.Coords) (arg14_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let v192_r0 : BitVec 32 := Scalar.muli c128_i32_r0 v108_r0
  let c0_i32_126_r0 : BitVec 32 := 0#32
  ![v192_r0.toNat, 0]
def k1_off14 (arg12_r0 : BitVec 32) : Fin 1 → Nat :=
  let c2_i32_123_r0 : BitVec 32 := 2#32
  let v191_r0 : BitVec 32 := Scalar.remui arg12_r0 c2_i32_123_r0
  ![v191_r0.toNat]
def k1_off15 (arg13_r0 : BitVec 32) : Fin 3 → Nat :=
  let c2_i32_123_r0 : BitVec 32 := 2#32
  let v191_r0 : BitVec 32 := Scalar.remui arg13_r0 c2_i32_123_r0
  let c0_i32_124_r0 : BitVec 32 := 0#32
  let c0_i32_125_r0 : BitVec 32 := 0#32
  ![v191_r0.toNat, 0, 0]
def k1_cond9 (i : grid1.Coords) (k1_t1 : Fin (k1_t1_loop i).trips) (arg14_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let true_83_r0 : BitVec 1 := 1#1
  let c1_i32_82_r0 : BitVec 32 := 1#32
  let v109_r0 : BitVec 32 := Scalar.subi arg14_r0 c1_i32_82_r0
  let v110_r0 : BitVec 32 := Scalar.select true_83_r0 v109_r0 arg14_r0
  let c_m1_i32_84_r0 : BitVec 32 := 4294967295#32
  let v111_r0 : BitVec 1 := Scalar.cmpi .eq v110_r0 c_m1_i32_84_r0
  let c1_i32_85_r0 : BitVec 32 := 1#32
  let v112_r0 : BitVec 32 := Scalar.subi v5 c1_i32_85_r0
  let v113_r0 : BitVec 32 := Scalar.select v111_r0 v112_r0 v110_r0
  let v114_r0 : BitVec 32 := Scalar.addi v113_r0 v10
  let v175_r0 : BitVec 1 := Scalar.cmpi .ne v108_r0 v114_r0
  let c0_i32_51_r0 : BitVec 32 := 0#32
  let c1_i32_57_r0 : BitVec 32 := 1#32
  let arg9_r0 : BitVec 32 := Scf.iv c0_i32_51_r0 c1_i32_57_r0 k1_t1
  let c0_i32_80_r0 : BitVec 32 := 0#32
  let v105_r0 : BitVec 1 := Scalar.cmpi .eq arg9_r0 c0_i32_80_r0
  let true_115_r0 : BitVec 1 := 1#1
  let v176_r0 : BitVec 1 := Scalar.xori v105_r0 true_115_r0
  let v177_r0 : BitVec 1 := Scalar.andi v175_r0 v176_r0
  let v178_r0 : BitVec 32 := Scalar.extui v177_r0
  let c0_i32_116_r0 : BitVec 32 := 0#32
  let v179_r0 : BitVec 1 := Scalar.cmpi .ne v178_r0 c0_i32_116_r0
  v179_r0

def k1_off16 (i : grid1.Coords) (arg14_r0 : BitVec 32) : Fin 2 → Nat :=
  let c128_i32_r0 : BitVec 32 := 128#32
  let true_83_r0 : BitVec 1 := 1#1
  let c1_i32_82_r0 : BitVec 32 := 1#32
  let v109_r0 : BitVec 32 := Scalar.subi arg14_r0 c1_i32_82_r0
  let v110_r0 : BitVec 32 := Scalar.select true_83_r0 v109_r0 arg14_r0
  let c_m1_i32_84_r0 : BitVec 32 := 4294967295#32
  let v111_r0 : BitVec 1 := Scalar.cmpi .eq v110_r0 c_m1_i32_84_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_85_r0 : BitVec 32 := 1#32
  let v112_r0 : BitVec 32 := Scalar.subi v5 c1_i32_85_r0
  let v113_r0 : BitVec 32 := Scalar.select v111_r0 v112_r0 v110_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v114_r0 : BitVec 32 := Scalar.addi v113_r0 v10
  let v192_r0 : BitVec 32 := Scalar.muli c128_i32_r0 v114_r0
  let c0_i32_126_r0 : BitVec 32 := 0#32
  ![v192_r0.toNat, 0]
def k1_off17 (arg13_r0 : BitVec 32) : Fin 1 → Nat :=
  let c2_i32_123_r0 : BitVec 32 := 2#32
  let v191_r0 : BitVec 32 := Scalar.remui arg13_r0 c2_i32_123_r0
  ![v191_r0.toNat]

def k1_chk1 (i : grid1.Coords) (k1_t1 : Fin (k1_t1_loop i).trips) (arg10_r0 : BitVec 32) (arg11_r0 : BitVec 32) (arg12_r0 : BitVec 32) (arg13_r0 : BitVec 32) (arg14_r0 : BitVec 32) : Prop :=
  (∀ (k1_h1 : k1_cond1 i = 1#1), ∀ (k1_h3 : k1_cond3 i k1_t1 arg14_r0 = 1#1), ∀ a, (k1_off4 arg10_r0) a + S1x1x128.size a ≤ S2x1x128.size a) ∧
  (∀ (k1_h1 : k1_cond1 i = 1#1), ∀ (k1_h3 : k1_cond3 i k1_t1 arg14_r0 = 1#1), ∀ a, (k1_off5 i arg14_r0) a + S1x128.size a ≤ S1x1024.size a) ∧
  (∀ (k1_h1 : k1_cond1 i = 1#1), ∀ (k1_h3 : k1_cond3 i k1_t1 arg14_r0 = 1#1), ∀ a, (k1_off6 arg10_r0) a + S1.size a ≤ S2.size a) ∧
  (∀ (k1_h1 : k1_cond1 i = 1#1), ∀ (k1_h4 : k1_cond4 i k1_t1 arg14_r0 = 1#1), ∀ a, (k1_off7 arg11_r0) a + S1x1x128.size a ≤ S2x1x128.size a) ∧
  (∀ (k1_h1 : k1_cond1 i = 1#1), ∀ (k1_h4 : k1_cond4 i k1_t1 arg14_r0 = 1#1), ∀ a, (k1_off8 i arg14_r0) a + S1x128.size a ≤ S1x1024.size a) ∧
  (∀ (k1_h1 : k1_cond1 i = 1#1), ∀ (k1_h4 : k1_cond4 i k1_t1 arg14_r0 = 1#1), ∀ a, (k1_off9 arg11_r0) a + S1.size a ≤ S2.size a) ∧
  (∀ (k1_h1 : k1_cond1 i = 1#1), ∀ (k1_h7 : k1_cond7 i k1_t1 arg14_r0 = 1#1), ∀ a, (k1_off12 arg12_r0) a + S1x128x128.size a ≤ S2x128x128.size a) ∧
  (∀ (k1_h1 : k1_cond1 i = 1#1), ∀ (k1_h7 : k1_cond7 i k1_t1 arg14_r0 = 1#1), ∀ a, (k1_off13 i arg14_r0) a + S128x128.size a ≤ S1024x128.size a) ∧
  (∀ (k1_h1 : k1_cond1 i = 1#1), ∀ (k1_h7 : k1_cond7 i k1_t1 arg14_r0 = 1#1), ∀ a, (k1_off14 arg12_r0) a + S1.size a ≤ S2.size a) ∧
  (∀ (k1_h1 : k1_cond1 i = 1#1), ∀ (k1_h9 : k1_cond9 i k1_t1 arg14_r0 = 1#1), ∀ a, (k1_off15 arg13_r0) a + S1x128x128.size a ≤ S2x128x128.size a) ∧
  (∀ (k1_h1 : k1_cond1 i = 1#1), ∀ (k1_h9 : k1_cond9 i k1_t1 arg14_r0 = 1#1), ∀ a, (k1_off16 i arg14_r0) a + S128x128.size a ≤ S1024x128.size a) ∧
  (∀ (k1_h1 : k1_cond1 i = 1#1), ∀ (k1_h9 : k1_cond9 i k1_t1 arg14_r0 = 1#1), ∀ a, (k1_off17 arg13_r0) a + S1.size a ≤ S2.size a)
theorem k1_off4_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h3 : k1_cond3 i k1_t1 arg14_r0 = 1#1), ∀ a, (k1_off4 arg10_r0) a + S1x1x128.size a ≤ S2x1x128.size a := fun i k1_t1 arg10_r0 arg11_r0 arg12_r0 arg13_r0 arg14_r0 k1_hw1 k1_h1 k1_h3 => k1_hw1.1 k1_h1 k1_h3
theorem k1_off5_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h3 : k1_cond3 i k1_t1 arg14_r0 = 1#1), ∀ a, (k1_off5 i arg14_r0) a + S1x128.size a ≤ S1x1024.size a := fun i k1_t1 arg10_r0 arg11_r0 arg12_r0 arg13_r0 arg14_r0 k1_hw1 k1_h1 k1_h3 => k1_hw1.2.1 k1_h1 k1_h3
theorem k1_off6_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h3 : k1_cond3 i k1_t1 arg14_r0 = 1#1), ∀ a, (k1_off6 arg10_r0) a + S1.size a ≤ S2.size a := fun i k1_t1 arg10_r0 arg11_r0 arg12_r0 arg13_r0 arg14_r0 k1_hw1 k1_h1 k1_h3 => k1_hw1.2.2.1 k1_h1 k1_h3
theorem k1_off7_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h4 : k1_cond4 i k1_t1 arg14_r0 = 1#1), ∀ a, (k1_off7 arg11_r0) a + S1x1x128.size a ≤ S2x1x128.size a := fun i k1_t1 arg10_r0 arg11_r0 arg12_r0 arg13_r0 arg14_r0 k1_hw1 k1_h1 k1_h4 => k1_hw1.2.2.2.1 k1_h1 k1_h4
theorem k1_off8_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h4 : k1_cond4 i k1_t1 arg14_r0 = 1#1), ∀ a, (k1_off8 i arg14_r0) a + S1x128.size a ≤ S1x1024.size a := fun i k1_t1 arg10_r0 arg11_r0 arg12_r0 arg13_r0 arg14_r0 k1_hw1 k1_h1 k1_h4 => k1_hw1.2.2.2.2.1 k1_h1 k1_h4
theorem k1_off9_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h4 : k1_cond4 i k1_t1 arg14_r0 = 1#1), ∀ a, (k1_off9 arg11_r0) a + S1.size a ≤ S2.size a := fun i k1_t1 arg10_r0 arg11_r0 arg12_r0 arg13_r0 arg14_r0 k1_hw1 k1_h1 k1_h4 => k1_hw1.2.2.2.2.2.1 k1_h1 k1_h4
theorem k1_off12_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h7 : k1_cond7 i k1_t1 arg14_r0 = 1#1), ∀ a, (k1_off12 arg12_r0) a + S1x128x128.size a ≤ S2x128x128.size a := fun i k1_t1 arg10_r0 arg11_r0 arg12_r0 arg13_r0 arg14_r0 k1_hw1 k1_h1 k1_h7 => k1_hw1.2.2.2.2.2.2.1 k1_h1 k1_h7
theorem k1_off13_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h7 : k1_cond7 i k1_t1 arg14_r0 = 1#1), ∀ a, (k1_off13 i arg14_r0) a + S128x128.size a ≤ S1024x128.size a := fun i k1_t1 arg10_r0 arg11_r0 arg12_r0 arg13_r0 arg14_r0 k1_hw1 k1_h1 k1_h7 => k1_hw1.2.2.2.2.2.2.2.1 k1_h1 k1_h7
theorem k1_off14_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h7 : k1_cond7 i k1_t1 arg14_r0 = 1#1), ∀ a, (k1_off14 arg12_r0) a + S1.size a ≤ S2.size a := fun i k1_t1 arg10_r0 arg11_r0 arg12_r0 arg13_r0 arg14_r0 k1_hw1 k1_h1 k1_h7 => k1_hw1.2.2.2.2.2.2.2.2.1 k1_h1 k1_h7
theorem k1_off15_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h9 : k1_cond9 i k1_t1 arg14_r0 = 1#1), ∀ a, (k1_off15 arg13_r0) a + S1x128x128.size a ≤ S2x128x128.size a := fun i k1_t1 arg10_r0 arg11_r0 arg12_r0 arg13_r0 arg14_r0 k1_hw1 k1_h1 k1_h9 => k1_hw1.2.2.2.2.2.2.2.2.2.1 k1_h1 k1_h9
theorem k1_off16_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h9 : k1_cond9 i k1_t1 arg14_r0 = 1#1), ∀ a, (k1_off16 i arg14_r0) a + S128x128.size a ≤ S1024x128.size a := fun i k1_t1 arg10_r0 arg11_r0 arg12_r0 arg13_r0 arg14_r0 k1_hw1 k1_h1 k1_h9 => k1_hw1.2.2.2.2.2.2.2.2.2.2.1 k1_h1 k1_h9
theorem k1_off17_inb : ∀ (i : grid1.Coords) (k1_t1 : Fin (k1_t1_loop i).trips) (arg10_r0 : BitVec 32) (arg11_r0 : BitVec 32) (arg12_r0 : BitVec 32) (arg13_r0 : BitVec 32) (arg14_r0 : BitVec 32) (k1_hw1 : k1_chk1 i k1_t1 arg10_r0 arg11_r0 arg12_r0 arg13_r0 arg14_r0), ∀ (k1_h1 : k1_cond1 i = 1#1), ∀ (k1_h9 : k1_cond9 i k1_t1 arg14_r0 = 1#1), ∀ a, (k1_off17 arg13_r0) a + S1.size a ≤ S2.size a := fun i k1_t1 arg10_r0 arg11_r0 arg12_r0 arg13_r0 arg14_r0 k1_hw1 k1_h1 k1_h9 => k1_hw1.2.2.2.2.2.2.2.2.2.2.2 k1_h1 k1_h9

@[reducible] def k1_t2_loop (i : grid1.Coords) : Scf.Loop 32 :=
  let c0_i32_51_r0 : BitVec 32 := 0#32
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let v66_r0 : BitVec 32 := Scalar.subi v11 c0_i32_51_r0
  let c1_i32_56_r0 : BitVec 32 := 1#32
  let v68_r0 : BitVec 32 := Scalar.divsi v66_r0 c1_i32_56_r0
  let v69_r0 : BitVec 32 := Scalar.muli v68_r0 c1_i32_56_r0
  let v70_r0 : BitVec 32 := Scalar.addi c0_i32_51_r0 v69_r0
  let v67_r0 : BitVec 32 := Scalar.addi c0_i32_51_r0 v66_r0
  let c1_i32_58_r0 : BitVec 32 := 1#32
  ⟨v70_r0, v67_r0, c1_i32_58_r0⟩
def k1_off18 (arg10_r0 : BitVec 32) : Fin 3 → Nat :=
  let c2_i32_123_r0 : BitVec 32 := 2#32
  let v191_r0 : BitVec 32 := Scalar.remui arg10_r0 c2_i32_123_r0
  let c0_i32_124_r0 : BitVec 32 := 0#32
  let c0_i32_125_r0 : BitVec 32 := 0#32
  ![v191_r0.toNat, 0, 0]
def k1_cond10 (i : grid1.Coords) (k1_t2 : Fin (k1_t2_loop i).trips) (arg14_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let true_87_r0 : BitVec 1 := 1#1
  let c1_i32_86_r0 : BitVec 32 := 1#32
  let v115_r0 : BitVec 32 := Scalar.addi arg14_r0 c1_i32_86_r0
  let v116_r0 : BitVec 32 := Scalar.select true_87_r0 v115_r0 arg14_r0
  let v117_r0 : BitVec 1 := Scalar.cmpi .eq v116_r0 v5
  let c0_i32_88_r0 : BitVec 32 := 0#32
  let v118_r0 : BitVec 32 := Scalar.select v117_r0 c0_i32_88_r0 v116_r0
  let v119_r0 : BitVec 32 := Scalar.addi v118_r0 v10
  let v125_r0 : BitVec 1 := Scalar.cmpi .ne v108_r0 v119_r0
  let c0_i32_51_r0 : BitVec 32 := 0#32
  let c1_i32_5 : BitVec 32 := 1#32
  let v11 : BitVec 32 := Scalar.muli c1_i32_5 v5
  let v66_r0 : BitVec 32 := Scalar.subi v11 c0_i32_51_r0
  let c1_i32_56_r0 : BitVec 32 := 1#32
  let v68_r0 : BitVec 32 := Scalar.divsi v66_r0 c1_i32_56_r0
  let v69_r0 : BitVec 32 := Scalar.muli v68_r0 c1_i32_56_r0
  let v70_r0 : BitVec 32 := Scalar.addi c0_i32_51_r0 v69_r0
  let c1_i32_58_r0 : BitVec 32 := 1#32
  let arg9_r0 : BitVec 32 := Scf.iv v70_r0 c1_i32_58_r0 k1_t2
  let c1_i32_79_r0 : BitVec 32 := 1#32
  let v104_r0 : BitVec 32 := Scalar.muli c1_i32_79_r0 v5
  let c2_i32_r0 : BitVec 32 := 2#32
  let v126_r0 : BitVec 32 := Scalar.subi v104_r0 c2_i32_r0
  let c1_i32_92_r0 : BitVec 32 := 1#32
  let v127_r0 : BitVec 32 := Scalar.addi v126_r0 c1_i32_92_r0
  let v128_r0 : BitVec 1 := Scalar.cmpi .sge arg9_r0 v127_r0
  let true_93_r0 : BitVec 1 := 1#1
  let v129_r0 : BitVec 1 := Scalar.xori v128_r0 true_93_r0
  let v130_r0 : BitVec 1 := Scalar.andi v125_r0 v129_r0
  let true_94_r0 : BitVec 1 := 1#1
  let v131_r0 : BitVec 1 := Scalar.andi v130_r0 true_94_r0
  let v132_r0 : BitVec 32 := Scalar.extui v131_r0
  let c0_i32_95_r0 : BitVec 32 := 0#32
  let v133_r0 : BitVec 1 := Scalar.cmpi .ne v132_r0 c0_i32_95_r0
  v133_r0

def k1_off19 (i : grid1.Coords) (arg14_r0 : BitVec 32) : Fin 2 → Nat :=
  let c0_i32_126_r0 : BitVec 32 := 0#32
  let c128_i32_r0 : BitVec 32 := 128#32
  let true_87_r0 : BitVec 1 := 1#1
  let c1_i32_86_r0 : BitVec 32 := 1#32
  let v115_r0 : BitVec 32 := Scalar.addi arg14_r0 c1_i32_86_r0
  let v116_r0 : BitVec 32 := Scalar.select true_87_r0 v115_r0 arg14_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v117_r0 : BitVec 1 := Scalar.cmpi .eq v116_r0 v5
  let c0_i32_88_r0 : BitVec 32 := 0#32
  let v118_r0 : BitVec 32 := Scalar.select v117_r0 c0_i32_88_r0 v116_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v119_r0 : BitVec 32 := Scalar.addi v118_r0 v10
  let v192_r0 : BitVec 32 := Scalar.muli c128_i32_r0 v119_r0
  ![0, v192_r0.toNat]
def k1_off20 (arg10_r0 : BitVec 32) : Fin 1 → Nat :=
  let c2_i32_123_r0 : BitVec 32 := 2#32
  let v191_r0 : BitVec 32 := Scalar.remui arg10_r0 c2_i32_123_r0
  ![v191_r0.toNat]
def k1_off21 (arg11_r0 : BitVec 32) : Fin 3 → Nat :=
  let c2_i32_123_r0 : BitVec 32 := 2#32
  let v192_r0 : BitVec 32 := Scalar.remui arg11_r0 c2_i32_123_r0
  let c0_i32_124_r0 : BitVec 32 := 0#32
  let c0_i32_125_r0 : BitVec 32 := 0#32
  ![v192_r0.toNat, 0, 0]
def k1_cond11 (i : grid1.Coords) (k1_t2 : Fin (k1_t2_loop i).trips) (arg14_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let true_83_r0 : BitVec 1 := 1#1
  let c1_i32_82_r0 : BitVec 32 := 1#32
  let v109_r0 : BitVec 32 := Scalar.subi arg14_r0 c1_i32_82_r0
  let v110_r0 : BitVec 32 := Scalar.select true_83_r0 v109_r0 arg14_r0
  let c_m1_i32_84_r0 : BitVec 32 := 4294967295#32
  let v111_r0 : BitVec 1 := Scalar.cmpi .eq v110_r0 c_m1_i32_84_r0
  let c1_i32_85_r0 : BitVec 32 := 1#32
  let v112_r0 : BitVec 32 := Scalar.subi v5 c1_i32_85_r0
  let v113_r0 : BitVec 32 := Scalar.select v111_r0 v112_r0 v110_r0
  let v114_r0 : BitVec 32 := Scalar.addi v113_r0 v10
  let v143_r0 : BitVec 1 := Scalar.cmpi .ne v108_r0 v114_r0
  let c0_i32_51_r0 : BitVec 32 := 0#32
  let c1_i32_5 : BitVec 32 := 1#32
  let v11 : BitVec 32 := Scalar.muli c1_i32_5 v5
  let v66_r0 : BitVec 32 := Scalar.subi v11 c0_i32_51_r0
  let c1_i32_56_r0 : BitVec 32 := 1#32
  let v68_r0 : BitVec 32 := Scalar.divsi v66_r0 c1_i32_56_r0
  let v69_r0 : BitVec 32 := Scalar.muli v68_r0 c1_i32_56_r0
  let v70_r0 : BitVec 32 := Scalar.addi c0_i32_51_r0 v69_r0
  let c1_i32_58_r0 : BitVec 32 := 1#32
  let arg9_r0 : BitVec 32 := Scf.iv v70_r0 c1_i32_58_r0 k1_t2
  let c0_i32_80_r0 : BitVec 32 := 0#32
  let v105_r0 : BitVec 1 := Scalar.cmpi .eq arg9_r0 c0_i32_80_r0
  let v144_r0 : BitVec 1 := Scalar.ori v143_r0 v105_r0
  let c0_i32_101_r0 : BitVec 32 := 0#32
  let v145_r0 : BitVec 1 := Scalar.cmpi .sge arg9_r0 c0_i32_101_r0
  let v146_r0 : BitVec 1 := Scalar.andi v144_r0 v145_r0
  let v147_r0 : BitVec 32 := Scalar.extui v146_r0
  let c0_i32_102_r0 : BitVec 32 := 0#32
  let v148_r0 : BitVec 1 := Scalar.cmpi .ne v147_r0 c0_i32_102_r0
  v148_r0

def k1_off22 (i : grid1.Coords) (arg14_r0 : BitVec 32) : Fin 2 → Nat :=
  let c0_i32_126_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let v191_r0 : BitVec 32 := Scalar.muli c128_i32_r0 v108_r0
  ![0, v191_r0.toNat]
def k1_off23 (arg11_r0 : BitVec 32) : Fin 1 → Nat :=
  let c2_i32_123_r0 : BitVec 32 := 2#32
  let v192_r0 : BitVec 32 := Scalar.remui arg11_r0 c2_i32_123_r0
  ![v192_r0.toNat]
def k1_off24 (arg12_r0 : BitVec 32) : Fin 3 → Nat :=
  let c2_i32_106_r0 : BitVec 32 := 2#32
  let v156_r0 : BitVec 32 := Scalar.remui arg12_r0 c2_i32_106_r0
  let c0_i32_123_r2 : BitVec 32 := 0#32
  let c0_i32_124_r2 : BitVec 32 := 0#32
  ![v156_r0.toNat, 0, 0]

def k1_chk5 (i : grid1.Coords) (k1_t2 : Fin (k1_t2_loop i).trips) (arg12_r0 : BitVec 32) : Prop :=
  (∀ (k1_h1 : k1_cond1 i = 1#1), ∀ a, (k1_off24 arg12_r0) a + S1x128x128.size a ≤ S2x128x128.size a)
theorem k1_off24_inb : ∀ (i : grid1.Coords) (k1_t2 : Fin (k1_t2_loop i).trips) (arg12_r0 : BitVec 32) (k1_hw5 : k1_chk5 i k1_t2 arg12_r0), ∀ (k1_h1 : k1_cond1 i = 1#1), ∀ a, (k1_off24 arg12_r0) a + S1x128x128.size a ≤ S2x128x128.size a := fun i k1_t2 arg12_r0 k1_hw5 k1_h1 => k1_hw5 k1_h1

def k1_off25 (arg11_r0 : BitVec 32) : Fin 3 → Nat :=
  let c2_i32_105_r0 : BitVec 32 := 2#32
  let v155_r0 : BitVec 32 := Scalar.remui arg11_r0 c2_i32_105_r0
  let c0_i32_125_r2 : BitVec 32 := 0#32
  let c0_i32_126_r2 : BitVec 32 := 0#32
  ![v155_r0.toNat, 0, 0]

def k1_chk6 (i : grid1.Coords) (k1_t2 : Fin (k1_t2_loop i).trips) (arg11_r0 : BitVec 32) : Prop :=
  (∀ (k1_h1 : k1_cond1 i = 1#1), ∀ a, (k1_off25 arg11_r0) a + S1x1x128.size a ≤ S2x1x128.size a)
theorem k1_off25_inb : ∀ (i : grid1.Coords) (k1_t2 : Fin (k1_t2_loop i).trips) (arg11_r0 : BitVec 32) (k1_hw6 : k1_chk6 i k1_t2 arg11_r0), ∀ (k1_h1 : k1_cond1 i = 1#1), ∀ a, (k1_off25 arg11_r0) a + S1x1x128.size a ≤ S2x1x128.size a := fun i k1_t2 arg11_r0 k1_hw6 k1_h1 => k1_hw6 k1_h1

def k1_off26 (arg12_r0 : BitVec 32) : Fin 3 → Nat :=
  let c2_i32_123_r0 : BitVec 32 := 2#32
  let v191_r0 : BitVec 32 := Scalar.remui arg12_r0 c2_i32_123_r0
  let c0_i32_124_r0 : BitVec 32 := 0#32
  let c0_i32_125_r0 : BitVec 32 := 0#32
  ![v191_r0.toNat, 0, 0]
def k1_cond14 (i : grid1.Coords) (k1_t2 : Fin (k1_t2_loop i).trips) (arg14_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let true_87_r0 : BitVec 1 := 1#1
  let c1_i32_86_r0 : BitVec 32 := 1#32
  let v115_r0 : BitVec 32 := Scalar.addi arg14_r0 c1_i32_86_r0
  let v116_r0 : BitVec 32 := Scalar.select true_87_r0 v115_r0 arg14_r0
  let v117_r0 : BitVec 1 := Scalar.cmpi .eq v116_r0 v5
  let c0_i32_88_r0 : BitVec 32 := 0#32
  let v118_r0 : BitVec 32 := Scalar.select v117_r0 c0_i32_88_r0 v116_r0
  let v119_r0 : BitVec 32 := Scalar.addi v118_r0 v10
  let v162_r0 : BitVec 1 := Scalar.cmpi .ne v108_r0 v119_r0
  let c0_i32_51_r0 : BitVec 32 := 0#32
  let c1_i32_5 : BitVec 32 := 1#32
  let v11 : BitVec 32 := Scalar.muli c1_i32_5 v5
  let v66_r0 : BitVec 32 := Scalar.subi v11 c0_i32_51_r0
  let c1_i32_56_r0 : BitVec 32 := 1#32
  let v68_r0 : BitVec 32 := Scalar.divsi v66_r0 c1_i32_56_r0
  let v69_r0 : BitVec 32 := Scalar.muli v68_r0 c1_i32_56_r0
  let v70_r0 : BitVec 32 := Scalar.addi c0_i32_51_r0 v69_r0
  let c1_i32_58_r0 : BitVec 32 := 1#32
  let arg9_r0 : BitVec 32 := Scf.iv v70_r0 c1_i32_58_r0 k1_t2
  let c1_i32_79_r0 : BitVec 32 := 1#32
  let v104_r0 : BitVec 32 := Scalar.muli c1_i32_79_r0 v5
  let c1_i32_81_r0 : BitVec 32 := 1#32
  let v106_r0 : BitVec 32 := Scalar.subi v104_r0 c1_i32_81_r0
  let v107_r0 : BitVec 1 := Scalar.cmpi .eq arg9_r0 v106_r0
  let v163_r0 : BitVec 1 := Scalar.ori v162_r0 v107_r0
  let v164_r0 : BitVec 32 := Scalar.extui v163_r0
  let c0_i32_109_r0 : BitVec 32 := 0#32
  let v165_r0 : BitVec 1 := Scalar.cmpi .ne v164_r0 c0_i32_109_r0
  v165_r0

def k1_off27 (i : grid1.Coords) (arg14_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let v192_r0 : BitVec 32 := Scalar.muli c128_i32_r0 v108_r0
  let c0_i32_126_r0 : BitVec 32 := 0#32
  ![v192_r0.toNat, 0]
def k1_off28 (arg12_r0 : BitVec 32) : Fin 1 → Nat :=
  let c2_i32_123_r0 : BitVec 32 := 2#32
  let v191_r0 : BitVec 32 := Scalar.remui arg12_r0 c2_i32_123_r0
  ![v191_r0.toNat]
def k1_off29 (arg13_r0 : BitVec 32) : Fin 3 → Nat :=
  let c2_i32_123_r0 : BitVec 32 := 2#32
  let v191_r0 : BitVec 32 := Scalar.remui arg13_r0 c2_i32_123_r0
  let c0_i32_124_r0 : BitVec 32 := 0#32
  let c0_i32_125_r0 : BitVec 32 := 0#32
  ![v191_r0.toNat, 0, 0]
def k1_cond16 (i : grid1.Coords) (k1_t2 : Fin (k1_t2_loop i).trips) (arg14_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32_2 : BitVec 32 := 8#32
  let v6 : BitVec 1 := Scalar.cmpi .slt v3 c8_i32_2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v108_r0 : BitVec 32 := Scalar.addi arg14_r0 v10
  let true_83_r0 : BitVec 1 := 1#1
  let c1_i32_82_r0 : BitVec 32 := 1#32
  let v109_r0 : BitVec 32 := Scalar.subi arg14_r0 c1_i32_82_r0
  let v110_r0 : BitVec 32 := Scalar.select true_83_r0 v109_r0 arg14_r0
  let c_m1_i32_84_r0 : BitVec 32 := 4294967295#32
  let v111_r0 : BitVec 1 := Scalar.cmpi .eq v110_r0 c_m1_i32_84_r0
  let c1_i32_85_r0 : BitVec 32 := 1#32
  let v112_r0 : BitVec 32 := Scalar.subi v5 c1_i32_85_r0
  let v113_r0 : BitVec 32 := Scalar.select v111_r0 v112_r0 v110_r0
  let v114_r0 : BitVec 32 := Scalar.addi v113_r0 v10
  let v175_r0 : BitVec 1 := Scalar.cmpi .ne v108_r0 v114_r0
  let c0_i32_51_r0 : BitVec 32 := 0#32
  let c1_i32_5 : BitVec 32 := 1#32
  let v11 : BitVec 32 := Scalar.muli c1_i32_5 v5
  let v66_r0 : BitVec 32 := Scalar.subi v11 c0_i32_51_r0
  let c1_i32_56_r0 : BitVec 32 := 1#32
  let v68_r0 : BitVec 32 := Scalar.divsi v66_r0 c1_i32_56_r0
  let v69_r0 : BitVec 32 := Scalar.muli v68_r0 c1_i32_56_r0
  let v70_r0 : BitVec 32 := Scalar.addi c0_i32_51_r0 v69_r0
  let c1_i32_58_r0 : BitVec 32 := 1#32
  let arg9_r0 : BitVec 32 := Scf.iv v70_r0 c1_i32_58_r0 k1_t2
  let c0_i32_80_r0 : BitVec 32 := 0#32
  let v105_r0 : BitVec 1 := Scalar.cmpi .eq arg9_r0 c0_i32_80_r0
  let true_115_r0 : BitVec 1 := 1#1
  let v176_r0 : BitVec 1 := Scalar.xori v105_r0 true_115_r0
  let v177_r0 : BitVec 1 := Scalar.andi v175_r0 v176_r0
  let v178_r0 : BitVec 32 := Scalar.extui v177_r0
  let c0_i32_116_r0 : BitVec 32 := 0#32
  let v179_r0 : BitVec 1 := Scalar.cmpi .ne v178_r0 c0_i32_116_r0
  v179_r0

def k1_off30 (i : grid1.Coords) (arg14_r0 : BitVec 32) : Fin 2 → Nat :=
  let c128_i32_r0 : BitVec 32 := 128#32
  let true_83_r0 : BitVec 1 := 1#1
  let c1_i32_82_r0 : BitVec 32 := 1#32
  let v109_r0 : BitVec 32 := Scalar.subi arg14_r0 c1_i32_82_r0
  let v110_r0 : BitVec 32 := Scalar.select true_83_r0 v109_r0 arg14_r0
  let c_m1_i32_84_r0 : BitVec 32 := 4294967295#32
  let v111_r0 : BitVec 1 := Scalar.cmpi .eq v110_r0 c_m1_i32_84_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_85_r0 : BitVec 32 := 1#32
  let v112_r0 : BitVec 32 := Scalar.subi v5 c1_i32_85_r0
  let v113_r0 : BitVec 32 := Scalar.select v111_r0 v112_r0 v110_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v114_r0 : BitVec 32 := Scalar.addi v113_r0 v10
  let v192_r0 : BitVec 32 := Scalar.muli c128_i32_r0 v114_r0
  let c0_i32_126_r0 : BitVec 32 := 0#32
  ![v192_r0.toNat, 0]
def k1_off31 (arg13_r0 : BitVec 32) : Fin 1 → Nat :=
  let c2_i32_123_r0 : BitVec 32 := 2#32
  let v191_r0 : BitVec 32 := Scalar.remui arg13_r0 c2_i32_123_r0
  ![v191_r0.toNat]

def k1_chk4 (i : grid1.Coords) (k1_t2 : Fin (k1_t2_loop i).trips) (arg10_r0 : BitVec 32) (arg11_r0 : BitVec 32) (arg12_r0 : BitVec 32) (arg13_r0 : BitVec 32) (arg14_r0 : BitVec 32) : Prop :=
  (∀ (k1_h1 : k1_cond1 i = 1#1), ∀ (k1_h10 : k1_cond10 i k1_t2 arg14_r0 = 1#1), ∀ a, (k1_off18 arg10_r0) a + S1x1x128.size a ≤ S2x1x128.size a) ∧
  (∀ (k1_h1 : k1_cond1 i = 1#1), ∀ (k1_h10 : k1_cond10 i k1_t2 arg14_r0 = 1#1), ∀ a, (k1_off19 i arg14_r0) a + S1x128.size a ≤ S1x1024.size a) ∧
  (∀ (k1_h1 : k1_cond1 i = 1#1), ∀ (k1_h10 : k1_cond10 i k1_t2 arg14_r0 = 1#1), ∀ a, (k1_off20 arg10_r0) a + S1.size a ≤ S2.size a) ∧
  (∀ (k1_h1 : k1_cond1 i = 1#1), ∀ (k1_h11 : k1_cond11 i k1_t2 arg14_r0 = 1#1), ∀ a, (k1_off21 arg11_r0) a + S1x1x128.size a ≤ S2x1x128.size a) ∧
  (∀ (k1_h1 : k1_cond1 i = 1#1), ∀ (k1_h11 : k1_cond11 i k1_t2 arg14_r0 = 1#1), ∀ a, (k1_off22 i arg14_r0) a + S1x128.size a ≤ S1x1024.size a) ∧
  (∀ (k1_h1 : k1_cond1 i = 1#1), ∀ (k1_h11 : k1_cond11 i k1_t2 arg14_r0 = 1#1), ∀ a, (k1_off23 arg11_r0) a + S1.size a ≤ S2.size a) ∧
  (∀ (k1_h1 : k1_cond1 i = 1#1), ∀ (k1_h14 : k1_cond14 i k1_t2 arg14_r0 = 1#1), ∀ a, (k1_off26 arg12_r0) a + S1x128x128.size a ≤ S2x128x128.size a) ∧
  (∀ (k1_h1 : k1_cond1 i = 1#1), ∀ (k1_h14 : k1_cond14 i k1_t2 arg14_r0 = 1#1), ∀ a, (k1_off27 i arg14_r0) a + S128x128.size a ≤ S1024x128.size a) ∧
  (∀ (k1_h1 : k1_cond1 i = 1#1), ∀ (k1_h14 : k1_cond14 i k1_t2 arg14_r0 = 1#1), ∀ a, (k1_off28 arg12_r0) a + S1.size a ≤ S2.size a) ∧
  (∀ (k1_h1 : k1_cond1 i = 1#1), ∀ (k1_h16 : k1_cond16 i k1_t2 arg14_r0 = 1#1), ∀ a, (k1_off29 arg13_r0) a + S1x128x128.size a ≤ S2x128x128.size a) ∧
  (∀ (k1_h1 : k1_cond1 i = 1#1), ∀ (k1_h16 : k1_cond16 i k1_t2 arg14_r0 = 1#1), ∀ a, (k1_off30 i arg14_r0) a + S128x128.size a ≤ S1024x128.size a) ∧
  (∀ (k1_h1 : k1_cond1 i = 1#1), ∀ (k1_h16 : k1_cond16 i k1_t2 arg14_r0 = 1#1), ∀ a, (k1_off31 arg13_r0) a + S1.size a ≤ S2.size a)
theorem k1_off18_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h10 : k1_cond10 i k1_t2 arg14_r0 = 1#1), ∀ a, (k1_off18 arg10_r0) a + S1x1x128.size a ≤ S2x1x128.size a := fun i k1_t2 arg10_r0 arg11_r0 arg12_r0 arg13_r0 arg14_r0 k1_hw4 k1_h1 k1_h10 => k1_hw4.1 k1_h1 k1_h10
theorem k1_off19_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h10 : k1_cond10 i k1_t2 arg14_r0 = 1#1), ∀ a, (k1_off19 i arg14_r0) a + S1x128.size a ≤ S1x1024.size a := fun i k1_t2 arg10_r0 arg11_r0 arg12_r0 arg13_r0 arg14_r0 k1_hw4 k1_h1 k1_h10 => k1_hw4.2.1 k1_h1 k1_h10
theorem k1_off20_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h10 : k1_cond10 i k1_t2 arg14_r0 = 1#1), ∀ a, (k1_off20 arg10_r0) a + S1.size a ≤ S2.size a := fun i k1_t2 arg10_r0 arg11_r0 arg12_r0 arg13_r0 arg14_r0 k1_hw4 k1_h1 k1_h10 => k1_hw4.2.2.1 k1_h1 k1_h10
theorem k1_off21_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h11 : k1_cond11 i k1_t2 arg14_r0 = 1#1), ∀ a, (k1_off21 arg11_r0) a + S1x1x128.size a ≤ S2x1x128.size a := fun i k1_t2 arg10_r0 arg11_r0 arg12_r0 arg13_r0 arg14_r0 k1_hw4 k1_h1 k1_h11 => k1_hw4.2.2.2.1 k1_h1 k1_h11
theorem k1_off22_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h11 : k1_cond11 i k1_t2 arg14_r0 = 1#1), ∀ a, (k1_off22 i arg14_r0) a + S1x128.size a ≤ S1x1024.size a := fun i k1_t2 arg10_r0 arg11_r0 arg12_r0 arg13_r0 arg14_r0 k1_hw4 k1_h1 k1_h11 => k1_hw4.2.2.2.2.1 k1_h1 k1_h11
theorem k1_off23_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h11 : k1_cond11 i k1_t2 arg14_r0 = 1#1), ∀ a, (k1_off23 arg11_r0) a + S1.size a ≤ S2.size a := fun i k1_t2 arg10_r0 arg11_r0 arg12_r0 arg13_r0 arg14_r0 k1_hw4 k1_h1 k1_h11 => k1_hw4.2.2.2.2.2.1 k1_h1 k1_h11
theorem k1_off26_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h14 : k1_cond14 i k1_t2 arg14_r0 = 1#1), ∀ a, (k1_off26 arg12_r0) a + S1x128x128.size a ≤ S2x128x128.size a := fun i k1_t2 arg10_r0 arg11_r0 arg12_r0 arg13_r0 arg14_r0 k1_hw4 k1_h1 k1_h14 => k1_hw4.2.2.2.2.2.2.1 k1_h1 k1_h14
theorem k1_off27_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h14 : k1_cond14 i k1_t2 arg14_r0 = 1#1), ∀ a, (k1_off27 i arg14_r0) a + S128x128.size a ≤ S1024x128.size a := fun i k1_t2 arg10_r0 arg11_r0 arg12_r0 arg13_r0 arg14_r0 k1_hw4 k1_h1 k1_h14 => k1_hw4.2.2.2.2.2.2.2.1 k1_h1 k1_h14
theorem k1_off28_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h14 : k1_cond14 i k1_t2 arg14_r0 = 1#1), ∀ a, (k1_off28 arg12_r0) a + S1.size a ≤ S2.size a := fun i k1_t2 arg10_r0 arg11_r0 arg12_r0 arg13_r0 arg14_r0 k1_hw4 k1_h1 k1_h14 => k1_hw4.2.2.2.2.2.2.2.2.1 k1_h1 k1_h14
theorem k1_off29_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h16 : k1_cond16 i k1_t2 arg14_r0 = 1#1), ∀ a, (k1_off29 arg13_r0) a + S1x128x128.size a ≤ S2x128x128.size a := fun i k1_t2 arg10_r0 arg11_r0 arg12_r0 arg13_r0 arg14_r0 k1_hw4 k1_h1 k1_h16 => k1_hw4.2.2.2.2.2.2.2.2.2.1 k1_h1 k1_h16
theorem k1_off30_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h16 : k1_cond16 i k1_t2 arg14_r0 = 1#1), ∀ a, (k1_off30 i arg14_r0) a + S128x128.size a ≤ S1024x128.size a := fun i k1_t2 arg10_r0 arg11_r0 arg12_r0 arg13_r0 arg14_r0 k1_hw4 k1_h1 k1_h16 => k1_hw4.2.2.2.2.2.2.2.2.2.2.1 k1_h1 k1_h16
theorem k1_off31_inb : ∀ (i : grid1.Coords) (k1_t2 : Fin (k1_t2_loop i).trips) (arg10_r0 : BitVec 32) (arg11_r0 : BitVec 32) (arg12_r0 : BitVec 32) (arg13_r0 : BitVec 32) (arg14_r0 : BitVec 32) (k1_hw4 : k1_chk4 i k1_t2 arg10_r0 arg11_r0 arg12_r0 arg13_r0 arg14_r0), ∀ (k1_h1 : k1_cond1 i = 1#1), ∀ (k1_h16 : k1_cond16 i k1_t2 arg14_r0 = 1#1), ∀ a, (k1_off31 arg13_r0) a + S1.size a ≤ S2.size a := fun i k1_t2 arg10_r0 arg11_r0 arg12_r0 arg13_r0 arg14_r0 k1_hw4 k1_h1 k1_h16 => k1_hw4.2.2.2.2.2.2.2.2.2.2.2 k1_h1 k1_h16

def k1_cond18 (i : grid1.Coords) : BitVec 1 :=
  let c1_i32_5 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let v11 : BitVec 32 := Scalar.muli c1_i32_5 v5
  let c1_i32_63_r0 : BitVec 32 := 1#32
  let v78_r0 : BitVec 32 := Scalar.subi v11 c1_i32_63_r0
  let c1_i32_64_r0 : BitVec 32 := 1#32
  let v79_r0 : BitVec 32 := Scalar.muli c1_i32_64_r0 v5
  let c1_i32_66_r0 : BitVec 32 := 1#32
  let v81_r0 : BitVec 32 := Scalar.subi v79_r0 c1_i32_66_r0
  let v82_r0 : BitVec 1 := Scalar.cmpi .eq v78_r0 v81_r0
  let v102_r0 : BitVec 32 := Scalar.extui v82_r0
  let c0_i32_78_r0 : BitVec 32 := 0#32
  let v103_r0 : BitVec 1 := Scalar.cmpi .ne v102_r0 c0_i32_78_r0
  v103_r0

def k1_off32 (v72_3_r0 : BitVec 32) : Fin 3 → Nat :=
  let c2_i32_r0 : BitVec 32 := 2#32
  let v104_r0 : BitVec 32 := Scalar.remui v72_3_r0 c2_i32_r0
  let c0_i32_79_r0 : BitVec 32 := 0#32
  let c0_i32_80_r0 : BitVec 32 := 0#32
  ![v104_r0.toNat, 0, 0]

def k1_off33 (i : grid1.Coords) (v72_4_r0 : BitVec 32) : Fin 2 → Nat :=
  let c128_i32_r0 : BitVec 32 := 128#32
  let true_60_r0 : BitVec 1 := 1#1
  let c1_i32_59_r0 : BitVec 32 := 1#32
  let v73_r0 : BitVec 32 := Scalar.subi v72_4_r0 c1_i32_59_r0
  let v74_r0 : BitVec 32 := Scalar.select true_60_r0 v73_r0 v72_4_r0
  let c_m1_i32_61_r0 : BitVec 32 := 4294967295#32
  let v75_r0 : BitVec 1 := Scalar.cmpi .eq v74_r0 c_m1_i32_61_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c8_i32 : BitVec 32 := 8#32
  let v4 : BitVec 1 := Scalar.cmpi .slt v3 c8_i32
  let c1_i32_0 : BitVec 32 := 1#32
  let c0_i32_1 : BitVec 32 := 0#32
  let v5 : BitVec 32 := Scalar.select v4 c1_i32_0 c0_i32_1
  let c1_i32_62_r0 : BitVec 32 := 1#32
  let v76_r0 : BitVec 32 := Scalar.subi v5 c1_i32_62_r0
  let v77_r0 : BitVec 32 := Scalar.select v75_r0 v76_r0 v74_r0
  let c8_i32_2 : BitVec 32 := 8#32
  let v6 : BitVec 1 := Scalar.cmpi .slt v3 c8_i32_2
  let v7 : BitVec 32 := Scalar.muli v3 v5
  let c0_i32_3 : BitVec 32 := 0#32
  let v8 : BitVec 32 := Scalar.muli v3 c0_i32_3
  let c8_i32_4 : BitVec 32 := 8#32
  let v9 : BitVec 32 := Scalar.addi v8 c8_i32_4
  let v10 : BitVec 32 := Scalar.select v6 v7 v9
  let v83_r0 : BitVec 32 := Scalar.addi v77_r0 v10
  let v105_r0 : BitVec 32 := Scalar.muli c128_i32_r0 v83_r0
  let c0_i32_81_r0 : BitVec 32 := 0#32
  ![v105_r0.toNat, 0]

def k1_chk8 (i : grid1.Coords) (v72_4_r0 : BitVec 32) : Prop :=
  (∀ (k1_h1 : k1_cond1 i = 1#1), ∀ (k1_h18 : k1_cond18 i = 1#1), ∀ a, (k1_off33 i v72_4_r0) a + S128x128.size a ≤ S1024x128.size a)
theorem k1_off33_inb : ∀ (i : grid1.Coords) (v72_4_r0 : BitVec 32) (k1_hw8 : k1_chk8 i v72_4_r0), ∀ (k1_h1 : k1_cond1 i = 1#1), ∀ (k1_h18 : k1_cond18 i = 1#1), ∀ a, (k1_off33 i v72_4_r0) a + S128x128.size a ≤ S1024x128.size a := fun i v72_4_r0 k1_hw8 k1_h1 k1_h18 => k1_hw8 k1_h1 k1_h18

def k1_off34 (v72_3_r0 : BitVec 32) : Fin 1 → Nat :=
  let c2_i32_r0 : BitVec 32 := 2#32
  let v104_r0 : BitVec 32 := Scalar.remui v72_3_r0 c2_i32_r0
  ![v104_r0.toNat]
def k1_off35 (v72_3_r0 : BitVec 32) : Fin 3 → Nat :=
  let c2_i32_r0 : BitVec 32 := 2#32
  let v104_r0 : BitVec 32 := Scalar.remui v72_3_r0 c2_i32_r0
  let c0_i32_83_r0 : BitVec 32 := 0#32
  let c0_i32_84_r0 : BitVec 32 := 0#32
  ![v104_r0.toNat, 0, 0]

def k1_chk7 (i : grid1.Coords) (v72_3_r0 : BitVec 32) : Prop :=
  (∀ (k1_h1 : k1_cond1 i = 1#1), ∀ (k1_h18 : k1_cond18 i = 1#1), ∀ a, (k1_off32 v72_3_r0) a + S1x128x128.size a ≤ S2x128x128.size a) ∧
  (∀ (k1_h1 : k1_cond1 i = 1#1), ∀ (k1_h18 : k1_cond18 i = 1#1), ∀ a, (k1_off34 v72_3_r0) a + S1.size a ≤ S2.size a) ∧
  (∀ (k1_h1 : k1_cond1 i = 1#1), ∀ (k1_h18 : k1_cond18 i = 1#1), ∀ a, (k1_off35 v72_3_r0) a + S1x128x128.size a ≤ S2x128x128.size a)
theorem k1_off32_inb : ∀ (i : grid1.Coords) (v72_3_r0 : BitVec 32) (k1_hw7 : k1_chk7 i v72_3_r0), ∀ (k1_h1 : k1_cond1 i = 1#1), ∀ (k1_h18 : k1_cond18 i = 1#1), ∀ a, (k1_off32 v72_3_r0) a + S1x128x128.size a ≤ S2x128x128.size a := fun i v72_3_r0 k1_hw7 k1_h1 k1_h18 => k1_hw7.1 k1_h1 k1_h18
theorem k1_off34_inb : ∀ (i : grid1.Coords) (v72_3_r0 : BitVec 32) (k1_hw7 : k1_chk7 i v72_3_r0), ∀ (k1_h1 : k1_cond1 i = 1#1), ∀ (k1_h18 : k1_cond18 i = 1#1), ∀ a, (k1_off34 v72_3_r0) a + S1.size a ≤ S2.size a := fun i v72_3_r0 k1_hw7 k1_h1 k1_h18 => k1_hw7.2.1 k1_h1 k1_h18
theorem k1_off35_inb : ∀ (i : grid1.Coords) (v72_3_r0 : BitVec 32) (k1_hw7 : k1_chk7 i v72_3_r0), ∀ (k1_h1 : k1_cond1 i = 1#1), ∀ (k1_h18 : k1_cond18 i = 1#1), ∀ a, (k1_off35 v72_3_r0) a + S1x128x128.size a ≤ S2x128x128.size a := fun i v72_3_r0 k1_hw7 k1_h1 k1_h18 => k1_hw7.2.2 k1_h1 k1_h18

def k1_cond19 (i : grid1.Coords) : BitVec 1 :=
  let c1_i32_15 : BitVec 32 := 1#32
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v23 : BitVec 32 := Scalar.muli c1_i32_15 v17
  let c0_i32_27_r3 : BitVec 32 := 0#32
  let v38_r3 : BitVec 1 := Scalar.cmpi .sgt v23 c0_i32_27_r3
  let v39_r3 : BitVec 32 := Scalar.extui v38_r3
  let c0_i32_28_r3 : BitVec 32 := 0#32
  let v40_r3 : BitVec 1 := Scalar.cmpi .ne v39_r3 c0_i32_28_r3
  v40_r3

def k1_cond20 (i : grid1.Coords) : BitVec 1 :=
  let true_44_r3 : BitVec 1 := 1#1
  let c1_i32_29_r3 : BitVec 32 := 1#32
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v41_r3 : BitVec 32 := Scalar.muli c1_i32_29_r3 v17
  let c0_i32_43_r3 : BitVec 32 := 0#32
  let v59_r3 : BitVec 1 := Scalar.cmpi .sgt v41_r3 c0_i32_43_r3
  let v60_r3 : BitVec 1 := Scalar.andi true_44_r3 v59_r3
  let true_45_r3 : BitVec 1 := 1#1
  let v61_r3 : BitVec 1 := Scalar.andi v60_r3 true_45_r3
  let v62_r3 : BitVec 32 := Scalar.extui v61_r3
  let c0_i32_47_r3 : BitVec 32 := 0#32
  let v63_r3 : BitVec 1 := Scalar.cmpi .ne v62_r3 c0_i32_47_r3
  v63_r3

def k1_off36 : Fin 3 → Nat :=
  let c0_i32_46_r3 : BitVec 32 := 0#32
  let c2_i32_r3 : BitVec 32 := 2#32
  let v104_r3 : BitVec 32 := Scalar.remui c0_i32_46_r3 c2_i32_r3
  let c0_i32_79_r3 : BitVec 32 := 0#32
  let c0_i32_80_r3 : BitVec 32 := 0#32
  ![v104_r3.toNat, 0, 0]
def k1_off37 (i : grid1.Coords) : Fin 2 → Nat :=
  let c0_i32_81_r3 : BitVec 32 := 0#32
  let c128_i32_r3 : BitVec 32 := 128#32
  let c0_i32_32_r3 : BitVec 32 := 0#32
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v44_r3 : BitVec 32 := Scalar.addi c0_i32_32_r3 v22
  let v105_r3 : BitVec 32 := Scalar.muli c128_i32_r3 v44_r3
  ![0, v105_r3.toNat]
def k1_off38 : Fin 1 → Nat :=
  let c0_i32_46_r3 : BitVec 32 := 0#32
  let c2_i32_r3 : BitVec 32 := 2#32
  let v104_r3 : BitVec 32 := Scalar.remui c0_i32_46_r3 c2_i32_r3
  ![v104_r3.toNat]
@[reducible] def k1_t3_loop (i : grid1.Coords) : Scf.Loop 32 :=
  let c0_i32_51_r3 : BitVec 32 := 0#32
  let c1_i32_15 : BitVec 32 := 1#32
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v23 : BitVec 32 := Scalar.muli c1_i32_15 v17
  let v66_r3 : BitVec 32 := Scalar.subi v23 c0_i32_51_r3
  let c1_i32_56_r3 : BitVec 32 := 1#32
  let v68_r3 : BitVec 32 := Scalar.divsi v66_r3 c1_i32_56_r3
  let v69_r3 : BitVec 32 := Scalar.muli v68_r3 c1_i32_56_r3
  let v70_r3 : BitVec 32 := Scalar.addi c0_i32_51_r3 v69_r3
  let c1_i32_57_r3 : BitVec 32 := 1#32
  ⟨c0_i32_51_r3, v70_r3, c1_i32_57_r3⟩
def k1_off39 (arg10_r3 : BitVec 32) : Fin 3 → Nat :=
  let c2_i32_123_r3 : BitVec 32 := 2#32
  let v191_r3 : BitVec 32 := Scalar.remui arg10_r3 c2_i32_123_r3
  let c0_i32_124_r3 : BitVec 32 := 0#32
  let c0_i32_125_r3 : BitVec 32 := 0#32
  ![v191_r3.toNat, 0, 0]
def k1_cond21 (i : grid1.Coords) (k1_t3 : Fin (k1_t3_loop i).trips) (arg14_r3 : BitVec 32) : BitVec 1 :=
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let true_87_r3 : BitVec 1 := 1#1
  let c1_i32_86_r3 : BitVec 32 := 1#32
  let v115_r3 : BitVec 32 := Scalar.addi arg14_r3 c1_i32_86_r3
  let v116_r3 : BitVec 32 := Scalar.select true_87_r3 v115_r3 arg14_r3
  let v117_r3 : BitVec 1 := Scalar.cmpi .eq v116_r3 v17
  let c0_i32_88_r3 : BitVec 32 := 0#32
  let v118_r3 : BitVec 32 := Scalar.select v117_r3 c0_i32_88_r3 v116_r3
  let v119_r3 : BitVec 32 := Scalar.addi v118_r3 v22
  let v125_r3 : BitVec 1 := Scalar.cmpi .ne v108_r3 v119_r3
  let c0_i32_51_r3 : BitVec 32 := 0#32
  let c1_i32_57_r3 : BitVec 32 := 1#32
  let arg9_r3 : BitVec 32 := Scf.iv c0_i32_51_r3 c1_i32_57_r3 k1_t3
  let c1_i32_79_r3 : BitVec 32 := 1#32
  let v104_r3 : BitVec 32 := Scalar.muli c1_i32_79_r3 v17
  let c2_i32_r3 : BitVec 32 := 2#32
  let v126_r3 : BitVec 32 := Scalar.subi v104_r3 c2_i32_r3
  let c1_i32_92_r3 : BitVec 32 := 1#32
  let v127_r3 : BitVec 32 := Scalar.addi v126_r3 c1_i32_92_r3
  let v128_r3 : BitVec 1 := Scalar.cmpi .sge arg9_r3 v127_r3
  let true_93_r3 : BitVec 1 := 1#1
  let v129_r3 : BitVec 1 := Scalar.xori v128_r3 true_93_r3
  let v130_r3 : BitVec 1 := Scalar.andi v125_r3 v129_r3
  let true_94_r3 : BitVec 1 := 1#1
  let v131_r3 : BitVec 1 := Scalar.andi v130_r3 true_94_r3
  let v132_r3 : BitVec 32 := Scalar.extui v131_r3
  let c0_i32_95_r3 : BitVec 32 := 0#32
  let v133_r3 : BitVec 1 := Scalar.cmpi .ne v132_r3 c0_i32_95_r3
  v133_r3

def k1_off40 (i : grid1.Coords) (arg14_r3 : BitVec 32) : Fin 2 → Nat :=
  let c0_i32_126_r3 : BitVec 32 := 0#32
  let c128_i32_r3 : BitVec 32 := 128#32
  let true_87_r3 : BitVec 1 := 1#1
  let c1_i32_86_r3 : BitVec 32 := 1#32
  let v115_r3 : BitVec 32 := Scalar.addi arg14_r3 c1_i32_86_r3
  let v116_r3 : BitVec 32 := Scalar.select true_87_r3 v115_r3 arg14_r3
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v117_r3 : BitVec 1 := Scalar.cmpi .eq v116_r3 v17
  let c0_i32_88_r3 : BitVec 32 := 0#32
  let v118_r3 : BitVec 32 := Scalar.select v117_r3 c0_i32_88_r3 v116_r3
  let c8_i32_12 : BitVec 32 := 8#32
  let v18 : BitVec 1 := Scalar.cmpi .slt v15 c8_i32_12
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v119_r3 : BitVec 32 := Scalar.addi v118_r3 v22
  let v192_r3 : BitVec 32 := Scalar.muli c128_i32_r3 v119_r3
  ![0, v192_r3.toNat]
def k1_off41 (arg10_r3 : BitVec 32) : Fin 1 → Nat :=
  let c2_i32_123_r3 : BitVec 32 := 2#32
  let v191_r3 : BitVec 32 := Scalar.remui arg10_r3 c2_i32_123_r3
  ![v191_r3.toNat]
def k1_off42 (arg11_r3 : BitVec 32) : Fin 3 → Nat :=
  let c2_i32_123_r3 : BitVec 32 := 2#32
  let v192_r3 : BitVec 32 := Scalar.remui arg11_r3 c2_i32_123_r3
  let c0_i32_124_r3 : BitVec 32 := 0#32
  let c0_i32_125_r3 : BitVec 32 := 0#32
  ![v192_r3.toNat, 0, 0]
def k1_cond22 (i : grid1.Coords) (k1_t3 : Fin (k1_t3_loop i).trips) (arg14_r3 : BitVec 32) : BitVec 1 :=
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let true_83_r3 : BitVec 1 := 1#1
  let c1_i32_82_r3 : BitVec 32 := 1#32
  let v109_r3 : BitVec 32 := Scalar.subi arg14_r3 c1_i32_82_r3
  let v110_r3 : BitVec 32 := Scalar.select true_83_r3 v109_r3 arg14_r3
  let c_m1_i32_84_r3 : BitVec 32 := 4294967295#32
  let v111_r3 : BitVec 1 := Scalar.cmpi .eq v110_r3 c_m1_i32_84_r3
  let c1_i32_85_r3 : BitVec 32 := 1#32
  let v112_r3 : BitVec 32 := Scalar.subi v17 c1_i32_85_r3
  let v113_r3 : BitVec 32 := Scalar.select v111_r3 v112_r3 v110_r3
  let v114_r3 : BitVec 32 := Scalar.addi v113_r3 v22
  let v143_r3 : BitVec 1 := Scalar.cmpi .ne v108_r3 v114_r3
  let c0_i32_51_r3 : BitVec 32 := 0#32
  let c1_i32_57_r3 : BitVec 32 := 1#32
  let arg9_r3 : BitVec 32 := Scf.iv c0_i32_51_r3 c1_i32_57_r3 k1_t3
  let c0_i32_80_r3 : BitVec 32 := 0#32
  let v105_r3 : BitVec 1 := Scalar.cmpi .eq arg9_r3 c0_i32_80_r3
  let v144_r3 : BitVec 1 := Scalar.ori v143_r3 v105_r3
  let c0_i32_101_r3 : BitVec 32 := 0#32
  let v145_r3 : BitVec 1 := Scalar.cmpi .sge arg9_r3 c0_i32_101_r3
  let v146_r3 : BitVec 1 := Scalar.andi v144_r3 v145_r3
  let v147_r3 : BitVec 32 := Scalar.extui v146_r3
  let c0_i32_102_r3 : BitVec 32 := 0#32
  let v148_r3 : BitVec 1 := Scalar.cmpi .ne v147_r3 c0_i32_102_r3
  v148_r3

def k1_off43 (i : grid1.Coords) (arg14_r3 : BitVec 32) : Fin 2 → Nat :=
  let c0_i32_126_r3 : BitVec 32 := 0#32
  let c128_i32_r3 : BitVec 32 := 128#32
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let v191_r3 : BitVec 32 := Scalar.muli c128_i32_r3 v108_r3
  ![0, v191_r3.toNat]
def k1_off44 (arg11_r3 : BitVec 32) : Fin 1 → Nat :=
  let c2_i32_123_r3 : BitVec 32 := 2#32
  let v192_r3 : BitVec 32 := Scalar.remui arg11_r3 c2_i32_123_r3
  ![v192_r3.toNat]
def k1_off45 (arg12_r3 : BitVec 32) : Fin 3 → Nat :=
  let c2_i32_106_r3 : BitVec 32 := 2#32
  let v156_r3 : BitVec 32 := Scalar.remui arg12_r3 c2_i32_106_r3
  let c0_i32_123_r4 : BitVec 32 := 0#32
  let c0_i32_124_r4 : BitVec 32 := 0#32
  ![v156_r3.toNat, 0, 0]

def k1_chk10 (i : grid1.Coords) (k1_t3 : Fin (k1_t3_loop i).trips) (arg12_r3 : BitVec 32) : Prop :=
  (∀ (k1_h19 : k1_cond19 i = 1#1), ∀ a, (k1_off45 arg12_r3) a + S1x128x128.size a ≤ S2x128x128.size a)
theorem k1_off45_inb : ∀ (i : grid1.Coords) (k1_t3 : Fin (k1_t3_loop i).trips) (arg12_r3 : BitVec 32) (k1_hw10 : k1_chk10 i k1_t3 arg12_r3), ∀ (k1_h19 : k1_cond19 i = 1#1), ∀ a, (k1_off45 arg12_r3) a + S1x128x128.size a ≤ S2x128x128.size a := fun i k1_t3 arg12_r3 k1_hw10 k1_h19 => k1_hw10 k1_h19

def k1_off46 (arg11_r3 : BitVec 32) : Fin 3 → Nat :=
  let c2_i32_105_r3 : BitVec 32 := 2#32
  let v155_r3 : BitVec 32 := Scalar.remui arg11_r3 c2_i32_105_r3
  let c0_i32_125_r4 : BitVec 32 := 0#32
  let c0_i32_126_r4 : BitVec 32 := 0#32
  ![v155_r3.toNat, 0, 0]

def k1_chk11 (i : grid1.Coords) (k1_t3 : Fin (k1_t3_loop i).trips) (arg11_r3 : BitVec 32) : Prop :=
  (∀ (k1_h19 : k1_cond19 i = 1#1), ∀ a, (k1_off46 arg11_r3) a + S1x1x128.size a ≤ S2x1x128.size a)
theorem k1_off46_inb : ∀ (i : grid1.Coords) (k1_t3 : Fin (k1_t3_loop i).trips) (arg11_r3 : BitVec 32) (k1_hw11 : k1_chk11 i k1_t3 arg11_r3), ∀ (k1_h19 : k1_cond19 i = 1#1), ∀ a, (k1_off46 arg11_r3) a + S1x1x128.size a ≤ S2x1x128.size a := fun i k1_t3 arg11_r3 k1_hw11 k1_h19 => k1_hw11 k1_h19

def k1_off47 (arg12_r3 : BitVec 32) : Fin 3 → Nat :=
  let c2_i32_123_r3 : BitVec 32 := 2#32
  let v191_r3 : BitVec 32 := Scalar.remui arg12_r3 c2_i32_123_r3
  let c0_i32_124_r3 : BitVec 32 := 0#32
  let c0_i32_125_r3 : BitVec 32 := 0#32
  ![v191_r3.toNat, 0, 0]
def k1_cond25 (i : grid1.Coords) (k1_t3 : Fin (k1_t3_loop i).trips) (arg14_r3 : BitVec 32) : BitVec 1 :=
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let true_87_r3 : BitVec 1 := 1#1
  let c1_i32_86_r3 : BitVec 32 := 1#32
  let v115_r3 : BitVec 32 := Scalar.addi arg14_r3 c1_i32_86_r3
  let v116_r3 : BitVec 32 := Scalar.select true_87_r3 v115_r3 arg14_r3
  let v117_r3 : BitVec 1 := Scalar.cmpi .eq v116_r3 v17
  let c0_i32_88_r3 : BitVec 32 := 0#32
  let v118_r3 : BitVec 32 := Scalar.select v117_r3 c0_i32_88_r3 v116_r3
  let v119_r3 : BitVec 32 := Scalar.addi v118_r3 v22
  let v162_r3 : BitVec 1 := Scalar.cmpi .ne v108_r3 v119_r3
  let c0_i32_51_r3 : BitVec 32 := 0#32
  let c1_i32_57_r3 : BitVec 32 := 1#32
  let arg9_r3 : BitVec 32 := Scf.iv c0_i32_51_r3 c1_i32_57_r3 k1_t3
  let c1_i32_79_r3 : BitVec 32 := 1#32
  let v104_r3 : BitVec 32 := Scalar.muli c1_i32_79_r3 v17
  let c1_i32_81_r3 : BitVec 32 := 1#32
  let v106_r3 : BitVec 32 := Scalar.subi v104_r3 c1_i32_81_r3
  let v107_r3 : BitVec 1 := Scalar.cmpi .eq arg9_r3 v106_r3
  let v163_r3 : BitVec 1 := Scalar.ori v162_r3 v107_r3
  let v164_r3 : BitVec 32 := Scalar.extui v163_r3
  let c0_i32_109_r3 : BitVec 32 := 0#32
  let v165_r3 : BitVec 1 := Scalar.cmpi .ne v164_r3 c0_i32_109_r3
  v165_r3

def k1_off48 (i : grid1.Coords) (arg14_r3 : BitVec 32) : Fin 2 → Nat :=
  let c128_i32_r3 : BitVec 32 := 128#32
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let v192_r3 : BitVec 32 := Scalar.muli c128_i32_r3 v108_r3
  let c0_i32_126_r3 : BitVec 32 := 0#32
  ![v192_r3.toNat, 0]
def k1_off49 (arg12_r3 : BitVec 32) : Fin 1 → Nat :=
  let c2_i32_123_r3 : BitVec 32 := 2#32
  let v191_r3 : BitVec 32 := Scalar.remui arg12_r3 c2_i32_123_r3
  ![v191_r3.toNat]
def k1_off50 (arg13_r3 : BitVec 32) : Fin 3 → Nat :=
  let c2_i32_123_r3 : BitVec 32 := 2#32
  let v191_r3 : BitVec 32 := Scalar.remui arg13_r3 c2_i32_123_r3
  let c0_i32_124_r3 : BitVec 32 := 0#32
  let c0_i32_125_r3 : BitVec 32 := 0#32
  ![v191_r3.toNat, 0, 0]
def k1_cond27 (i : grid1.Coords) (k1_t3 : Fin (k1_t3_loop i).trips) (arg14_r3 : BitVec 32) : BitVec 1 :=
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let true_83_r3 : BitVec 1 := 1#1
  let c1_i32_82_r3 : BitVec 32 := 1#32
  let v109_r3 : BitVec 32 := Scalar.subi arg14_r3 c1_i32_82_r3
  let v110_r3 : BitVec 32 := Scalar.select true_83_r3 v109_r3 arg14_r3
  let c_m1_i32_84_r3 : BitVec 32 := 4294967295#32
  let v111_r3 : BitVec 1 := Scalar.cmpi .eq v110_r3 c_m1_i32_84_r3
  let c1_i32_85_r3 : BitVec 32 := 1#32
  let v112_r3 : BitVec 32 := Scalar.subi v17 c1_i32_85_r3
  let v113_r3 : BitVec 32 := Scalar.select v111_r3 v112_r3 v110_r3
  let v114_r3 : BitVec 32 := Scalar.addi v113_r3 v22
  let v175_r3 : BitVec 1 := Scalar.cmpi .ne v108_r3 v114_r3
  let c0_i32_51_r3 : BitVec 32 := 0#32
  let c1_i32_57_r3 : BitVec 32 := 1#32
  let arg9_r3 : BitVec 32 := Scf.iv c0_i32_51_r3 c1_i32_57_r3 k1_t3
  let c0_i32_80_r3 : BitVec 32 := 0#32
  let v105_r3 : BitVec 1 := Scalar.cmpi .eq arg9_r3 c0_i32_80_r3
  let true_115_r3 : BitVec 1 := 1#1
  let v176_r3 : BitVec 1 := Scalar.xori v105_r3 true_115_r3
  let v177_r3 : BitVec 1 := Scalar.andi v175_r3 v176_r3
  let v178_r3 : BitVec 32 := Scalar.extui v177_r3
  let c0_i32_116_r3 : BitVec 32 := 0#32
  let v179_r3 : BitVec 1 := Scalar.cmpi .ne v178_r3 c0_i32_116_r3
  v179_r3

def k1_off51 (i : grid1.Coords) (arg14_r3 : BitVec 32) : Fin 2 → Nat :=
  let c128_i32_r3 : BitVec 32 := 128#32
  let true_83_r3 : BitVec 1 := 1#1
  let c1_i32_82_r3 : BitVec 32 := 1#32
  let v109_r3 : BitVec 32 := Scalar.subi arg14_r3 c1_i32_82_r3
  let v110_r3 : BitVec 32 := Scalar.select true_83_r3 v109_r3 arg14_r3
  let c_m1_i32_84_r3 : BitVec 32 := 4294967295#32
  let v111_r3 : BitVec 1 := Scalar.cmpi .eq v110_r3 c_m1_i32_84_r3
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let c1_i32_85_r3 : BitVec 32 := 1#32
  let v112_r3 : BitVec 32 := Scalar.subi v17 c1_i32_85_r3
  let v113_r3 : BitVec 32 := Scalar.select v111_r3 v112_r3 v110_r3
  let c8_i32_12 : BitVec 32 := 8#32
  let v18 : BitVec 1 := Scalar.cmpi .slt v15 c8_i32_12
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v114_r3 : BitVec 32 := Scalar.addi v113_r3 v22
  let v192_r3 : BitVec 32 := Scalar.muli c128_i32_r3 v114_r3
  let c0_i32_126_r3 : BitVec 32 := 0#32
  ![v192_r3.toNat, 0]
def k1_off52 (arg13_r3 : BitVec 32) : Fin 1 → Nat :=
  let c2_i32_123_r3 : BitVec 32 := 2#32
  let v191_r3 : BitVec 32 := Scalar.remui arg13_r3 c2_i32_123_r3
  ![v191_r3.toNat]

def k1_chk9 (i : grid1.Coords) (k1_t3 : Fin (k1_t3_loop i).trips) (arg10_r3 : BitVec 32) (arg11_r3 : BitVec 32) (arg12_r3 : BitVec 32) (arg13_r3 : BitVec 32) (arg14_r3 : BitVec 32) : Prop :=
  (∀ (k1_h19 : k1_cond19 i = 1#1), ∀ (k1_h21 : k1_cond21 i k1_t3 arg14_r3 = 1#1), ∀ a, (k1_off39 arg10_r3) a + S1x1x128.size a ≤ S2x1x128.size a) ∧
  (∀ (k1_h19 : k1_cond19 i = 1#1), ∀ (k1_h21 : k1_cond21 i k1_t3 arg14_r3 = 1#1), ∀ a, (k1_off40 i arg14_r3) a + S1x128.size a ≤ S1x1024.size a) ∧
  (∀ (k1_h19 : k1_cond19 i = 1#1), ∀ (k1_h21 : k1_cond21 i k1_t3 arg14_r3 = 1#1), ∀ a, (k1_off41 arg10_r3) a + S1.size a ≤ S2.size a) ∧
  (∀ (k1_h19 : k1_cond19 i = 1#1), ∀ (k1_h22 : k1_cond22 i k1_t3 arg14_r3 = 1#1), ∀ a, (k1_off42 arg11_r3) a + S1x1x128.size a ≤ S2x1x128.size a) ∧
  (∀ (k1_h19 : k1_cond19 i = 1#1), ∀ (k1_h22 : k1_cond22 i k1_t3 arg14_r3 = 1#1), ∀ a, (k1_off43 i arg14_r3) a + S1x128.size a ≤ S1x1024.size a) ∧
  (∀ (k1_h19 : k1_cond19 i = 1#1), ∀ (k1_h22 : k1_cond22 i k1_t3 arg14_r3 = 1#1), ∀ a, (k1_off44 arg11_r3) a + S1.size a ≤ S2.size a) ∧
  (∀ (k1_h19 : k1_cond19 i = 1#1), ∀ (k1_h25 : k1_cond25 i k1_t3 arg14_r3 = 1#1), ∀ a, (k1_off47 arg12_r3) a + S1x128x128.size a ≤ S2x128x128.size a) ∧
  (∀ (k1_h19 : k1_cond19 i = 1#1), ∀ (k1_h25 : k1_cond25 i k1_t3 arg14_r3 = 1#1), ∀ a, (k1_off48 i arg14_r3) a + S128x128.size a ≤ S1024x128.size a) ∧
  (∀ (k1_h19 : k1_cond19 i = 1#1), ∀ (k1_h25 : k1_cond25 i k1_t3 arg14_r3 = 1#1), ∀ a, (k1_off49 arg12_r3) a + S1.size a ≤ S2.size a) ∧
  (∀ (k1_h19 : k1_cond19 i = 1#1), ∀ (k1_h27 : k1_cond27 i k1_t3 arg14_r3 = 1#1), ∀ a, (k1_off50 arg13_r3) a + S1x128x128.size a ≤ S2x128x128.size a) ∧
  (∀ (k1_h19 : k1_cond19 i = 1#1), ∀ (k1_h27 : k1_cond27 i k1_t3 arg14_r3 = 1#1), ∀ a, (k1_off51 i arg14_r3) a + S128x128.size a ≤ S1024x128.size a) ∧
  (∀ (k1_h19 : k1_cond19 i = 1#1), ∀ (k1_h27 : k1_cond27 i k1_t3 arg14_r3 = 1#1), ∀ a, (k1_off52 arg13_r3) a + S1.size a ≤ S2.size a)
theorem k1_off39_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h21 : k1_cond21 i k1_t3 arg14_r3 = 1#1), ∀ a, (k1_off39 arg10_r3) a + S1x1x128.size a ≤ S2x1x128.size a := fun i k1_t3 arg10_r3 arg11_r3 arg12_r3 arg13_r3 arg14_r3 k1_hw9 k1_h19 k1_h21 => k1_hw9.1 k1_h19 k1_h21
theorem k1_off40_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h21 : k1_cond21 i k1_t3 arg14_r3 = 1#1), ∀ a, (k1_off40 i arg14_r3) a + S1x128.size a ≤ S1x1024.size a := fun i k1_t3 arg10_r3 arg11_r3 arg12_r3 arg13_r3 arg14_r3 k1_hw9 k1_h19 k1_h21 => k1_hw9.2.1 k1_h19 k1_h21
theorem k1_off41_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h21 : k1_cond21 i k1_t3 arg14_r3 = 1#1), ∀ a, (k1_off41 arg10_r3) a + S1.size a ≤ S2.size a := fun i k1_t3 arg10_r3 arg11_r3 arg12_r3 arg13_r3 arg14_r3 k1_hw9 k1_h19 k1_h21 => k1_hw9.2.2.1 k1_h19 k1_h21
theorem k1_off42_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h22 : k1_cond22 i k1_t3 arg14_r3 = 1#1), ∀ a, (k1_off42 arg11_r3) a + S1x1x128.size a ≤ S2x1x128.size a := fun i k1_t3 arg10_r3 arg11_r3 arg12_r3 arg13_r3 arg14_r3 k1_hw9 k1_h19 k1_h22 => k1_hw9.2.2.2.1 k1_h19 k1_h22
theorem k1_off43_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h22 : k1_cond22 i k1_t3 arg14_r3 = 1#1), ∀ a, (k1_off43 i arg14_r3) a + S1x128.size a ≤ S1x1024.size a := fun i k1_t3 arg10_r3 arg11_r3 arg12_r3 arg13_r3 arg14_r3 k1_hw9 k1_h19 k1_h22 => k1_hw9.2.2.2.2.1 k1_h19 k1_h22
theorem k1_off44_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h22 : k1_cond22 i k1_t3 arg14_r3 = 1#1), ∀ a, (k1_off44 arg11_r3) a + S1.size a ≤ S2.size a := fun i k1_t3 arg10_r3 arg11_r3 arg12_r3 arg13_r3 arg14_r3 k1_hw9 k1_h19 k1_h22 => k1_hw9.2.2.2.2.2.1 k1_h19 k1_h22
theorem k1_off47_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h25 : k1_cond25 i k1_t3 arg14_r3 = 1#1), ∀ a, (k1_off47 arg12_r3) a + S1x128x128.size a ≤ S2x128x128.size a := fun i k1_t3 arg10_r3 arg11_r3 arg12_r3 arg13_r3 arg14_r3 k1_hw9 k1_h19 k1_h25 => k1_hw9.2.2.2.2.2.2.1 k1_h19 k1_h25
theorem k1_off48_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h25 : k1_cond25 i k1_t3 arg14_r3 = 1#1), ∀ a, (k1_off48 i arg14_r3) a + S128x128.size a ≤ S1024x128.size a := fun i k1_t3 arg10_r3 arg11_r3 arg12_r3 arg13_r3 arg14_r3 k1_hw9 k1_h19 k1_h25 => k1_hw9.2.2.2.2.2.2.2.1 k1_h19 k1_h25
theorem k1_off49_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h25 : k1_cond25 i k1_t3 arg14_r3 = 1#1), ∀ a, (k1_off49 arg12_r3) a + S1.size a ≤ S2.size a := fun i k1_t3 arg10_r3 arg11_r3 arg12_r3 arg13_r3 arg14_r3 k1_hw9 k1_h19 k1_h25 => k1_hw9.2.2.2.2.2.2.2.2.1 k1_h19 k1_h25
theorem k1_off50_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h27 : k1_cond27 i k1_t3 arg14_r3 = 1#1), ∀ a, (k1_off50 arg13_r3) a + S1x128x128.size a ≤ S2x128x128.size a := fun i k1_t3 arg10_r3 arg11_r3 arg12_r3 arg13_r3 arg14_r3 k1_hw9 k1_h19 k1_h27 => k1_hw9.2.2.2.2.2.2.2.2.2.1 k1_h19 k1_h27
theorem k1_off51_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h27 : k1_cond27 i k1_t3 arg14_r3 = 1#1), ∀ a, (k1_off51 i arg14_r3) a + S128x128.size a ≤ S1024x128.size a := fun i k1_t3 arg10_r3 arg11_r3 arg12_r3 arg13_r3 arg14_r3 k1_hw9 k1_h19 k1_h27 => k1_hw9.2.2.2.2.2.2.2.2.2.2.1 k1_h19 k1_h27
theorem k1_off52_inb : ∀ (i : grid1.Coords) (k1_t3 : Fin (k1_t3_loop i).trips) (arg10_r3 : BitVec 32) (arg11_r3 : BitVec 32) (arg12_r3 : BitVec 32) (arg13_r3 : BitVec 32) (arg14_r3 : BitVec 32) (k1_hw9 : k1_chk9 i k1_t3 arg10_r3 arg11_r3 arg12_r3 arg13_r3 arg14_r3), ∀ (k1_h19 : k1_cond19 i = 1#1), ∀ (k1_h27 : k1_cond27 i k1_t3 arg14_r3 = 1#1), ∀ a, (k1_off52 arg13_r3) a + S1.size a ≤ S2.size a := fun i k1_t3 arg10_r3 arg11_r3 arg12_r3 arg13_r3 arg14_r3 k1_hw9 k1_h19 k1_h27 => k1_hw9.2.2.2.2.2.2.2.2.2.2.2 k1_h19 k1_h27

@[reducible] def k1_t4_loop (i : grid1.Coords) : Scf.Loop 32 :=
  let c0_i32_51_r3 : BitVec 32 := 0#32
  let c1_i32_15 : BitVec 32 := 1#32
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v23 : BitVec 32 := Scalar.muli c1_i32_15 v17
  let v66_r3 : BitVec 32 := Scalar.subi v23 c0_i32_51_r3
  let c1_i32_56_r3 : BitVec 32 := 1#32
  let v68_r3 : BitVec 32 := Scalar.divsi v66_r3 c1_i32_56_r3
  let v69_r3 : BitVec 32 := Scalar.muli v68_r3 c1_i32_56_r3
  let v70_r3 : BitVec 32 := Scalar.addi c0_i32_51_r3 v69_r3
  let v67_r3 : BitVec 32 := Scalar.addi c0_i32_51_r3 v66_r3
  let c1_i32_58_r3 : BitVec 32 := 1#32
  ⟨v70_r3, v67_r3, c1_i32_58_r3⟩
def k1_off53 (arg10_r3 : BitVec 32) : Fin 3 → Nat :=
  let c2_i32_123_r3 : BitVec 32 := 2#32
  let v191_r3 : BitVec 32 := Scalar.remui arg10_r3 c2_i32_123_r3
  let c0_i32_124_r3 : BitVec 32 := 0#32
  let c0_i32_125_r3 : BitVec 32 := 0#32
  ![v191_r3.toNat, 0, 0]
def k1_cond28 (i : grid1.Coords) (k1_t4 : Fin (k1_t4_loop i).trips) (arg14_r3 : BitVec 32) : BitVec 1 :=
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let true_87_r3 : BitVec 1 := 1#1
  let c1_i32_86_r3 : BitVec 32 := 1#32
  let v115_r3 : BitVec 32 := Scalar.addi arg14_r3 c1_i32_86_r3
  let v116_r3 : BitVec 32 := Scalar.select true_87_r3 v115_r3 arg14_r3
  let v117_r3 : BitVec 1 := Scalar.cmpi .eq v116_r3 v17
  let c0_i32_88_r3 : BitVec 32 := 0#32
  let v118_r3 : BitVec 32 := Scalar.select v117_r3 c0_i32_88_r3 v116_r3
  let v119_r3 : BitVec 32 := Scalar.addi v118_r3 v22
  let v125_r3 : BitVec 1 := Scalar.cmpi .ne v108_r3 v119_r3
  let c0_i32_51_r3 : BitVec 32 := 0#32
  let c1_i32_15 : BitVec 32 := 1#32
  let v23 : BitVec 32 := Scalar.muli c1_i32_15 v17
  let v66_r3 : BitVec 32 := Scalar.subi v23 c0_i32_51_r3
  let c1_i32_56_r3 : BitVec 32 := 1#32
  let v68_r3 : BitVec 32 := Scalar.divsi v66_r3 c1_i32_56_r3
  let v69_r3 : BitVec 32 := Scalar.muli v68_r3 c1_i32_56_r3
  let v70_r3 : BitVec 32 := Scalar.addi c0_i32_51_r3 v69_r3
  let c1_i32_58_r3 : BitVec 32 := 1#32
  let arg9_r3 : BitVec 32 := Scf.iv v70_r3 c1_i32_58_r3 k1_t4
  let c1_i32_79_r3 : BitVec 32 := 1#32
  let v104_r3 : BitVec 32 := Scalar.muli c1_i32_79_r3 v17
  let c2_i32_r3 : BitVec 32 := 2#32
  let v126_r3 : BitVec 32 := Scalar.subi v104_r3 c2_i32_r3
  let c1_i32_92_r3 : BitVec 32 := 1#32
  let v127_r3 : BitVec 32 := Scalar.addi v126_r3 c1_i32_92_r3
  let v128_r3 : BitVec 1 := Scalar.cmpi .sge arg9_r3 v127_r3
  let true_93_r3 : BitVec 1 := 1#1
  let v129_r3 : BitVec 1 := Scalar.xori v128_r3 true_93_r3
  let v130_r3 : BitVec 1 := Scalar.andi v125_r3 v129_r3
  let true_94_r3 : BitVec 1 := 1#1
  let v131_r3 : BitVec 1 := Scalar.andi v130_r3 true_94_r3
  let v132_r3 : BitVec 32 := Scalar.extui v131_r3
  let c0_i32_95_r3 : BitVec 32 := 0#32
  let v133_r3 : BitVec 1 := Scalar.cmpi .ne v132_r3 c0_i32_95_r3
  v133_r3

def k1_off54 (i : grid1.Coords) (arg14_r3 : BitVec 32) : Fin 2 → Nat :=
  let c0_i32_126_r3 : BitVec 32 := 0#32
  let c128_i32_r3 : BitVec 32 := 128#32
  let true_87_r3 : BitVec 1 := 1#1
  let c1_i32_86_r3 : BitVec 32 := 1#32
  let v115_r3 : BitVec 32 := Scalar.addi arg14_r3 c1_i32_86_r3
  let v116_r3 : BitVec 32 := Scalar.select true_87_r3 v115_r3 arg14_r3
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v117_r3 : BitVec 1 := Scalar.cmpi .eq v116_r3 v17
  let c0_i32_88_r3 : BitVec 32 := 0#32
  let v118_r3 : BitVec 32 := Scalar.select v117_r3 c0_i32_88_r3 v116_r3
  let c8_i32_12 : BitVec 32 := 8#32
  let v18 : BitVec 1 := Scalar.cmpi .slt v15 c8_i32_12
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v119_r3 : BitVec 32 := Scalar.addi v118_r3 v22
  let v192_r3 : BitVec 32 := Scalar.muli c128_i32_r3 v119_r3
  ![0, v192_r3.toNat]
def k1_off55 (arg10_r3 : BitVec 32) : Fin 1 → Nat :=
  let c2_i32_123_r3 : BitVec 32 := 2#32
  let v191_r3 : BitVec 32 := Scalar.remui arg10_r3 c2_i32_123_r3
  ![v191_r3.toNat]
def k1_off56 (arg11_r3 : BitVec 32) : Fin 3 → Nat :=
  let c2_i32_123_r3 : BitVec 32 := 2#32
  let v192_r3 : BitVec 32 := Scalar.remui arg11_r3 c2_i32_123_r3
  let c0_i32_124_r3 : BitVec 32 := 0#32
  let c0_i32_125_r3 : BitVec 32 := 0#32
  ![v192_r3.toNat, 0, 0]
def k1_cond29 (i : grid1.Coords) (k1_t4 : Fin (k1_t4_loop i).trips) (arg14_r3 : BitVec 32) : BitVec 1 :=
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let true_83_r3 : BitVec 1 := 1#1
  let c1_i32_82_r3 : BitVec 32 := 1#32
  let v109_r3 : BitVec 32 := Scalar.subi arg14_r3 c1_i32_82_r3
  let v110_r3 : BitVec 32 := Scalar.select true_83_r3 v109_r3 arg14_r3
  let c_m1_i32_84_r3 : BitVec 32 := 4294967295#32
  let v111_r3 : BitVec 1 := Scalar.cmpi .eq v110_r3 c_m1_i32_84_r3
  let c1_i32_85_r3 : BitVec 32 := 1#32
  let v112_r3 : BitVec 32 := Scalar.subi v17 c1_i32_85_r3
  let v113_r3 : BitVec 32 := Scalar.select v111_r3 v112_r3 v110_r3
  let v114_r3 : BitVec 32 := Scalar.addi v113_r3 v22
  let v143_r3 : BitVec 1 := Scalar.cmpi .ne v108_r3 v114_r3
  let c0_i32_51_r3 : BitVec 32 := 0#32
  let c1_i32_15 : BitVec 32 := 1#32
  let v23 : BitVec 32 := Scalar.muli c1_i32_15 v17
  let v66_r3 : BitVec 32 := Scalar.subi v23 c0_i32_51_r3
  let c1_i32_56_r3 : BitVec 32 := 1#32
  let v68_r3 : BitVec 32 := Scalar.divsi v66_r3 c1_i32_56_r3
  let v69_r3 : BitVec 32 := Scalar.muli v68_r3 c1_i32_56_r3
  let v70_r3 : BitVec 32 := Scalar.addi c0_i32_51_r3 v69_r3
  let c1_i32_58_r3 : BitVec 32 := 1#32
  let arg9_r3 : BitVec 32 := Scf.iv v70_r3 c1_i32_58_r3 k1_t4
  let c0_i32_80_r3 : BitVec 32 := 0#32
  let v105_r3 : BitVec 1 := Scalar.cmpi .eq arg9_r3 c0_i32_80_r3
  let v144_r3 : BitVec 1 := Scalar.ori v143_r3 v105_r3
  let c0_i32_101_r3 : BitVec 32 := 0#32
  let v145_r3 : BitVec 1 := Scalar.cmpi .sge arg9_r3 c0_i32_101_r3
  let v146_r3 : BitVec 1 := Scalar.andi v144_r3 v145_r3
  let v147_r3 : BitVec 32 := Scalar.extui v146_r3
  let c0_i32_102_r3 : BitVec 32 := 0#32
  let v148_r3 : BitVec 1 := Scalar.cmpi .ne v147_r3 c0_i32_102_r3
  v148_r3

def k1_off57 (i : grid1.Coords) (arg14_r3 : BitVec 32) : Fin 2 → Nat :=
  let c0_i32_126_r3 : BitVec 32 := 0#32
  let c128_i32_r3 : BitVec 32 := 128#32
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let v191_r3 : BitVec 32 := Scalar.muli c128_i32_r3 v108_r3
  ![0, v191_r3.toNat]
def k1_off58 (arg11_r3 : BitVec 32) : Fin 1 → Nat :=
  let c2_i32_123_r3 : BitVec 32 := 2#32
  let v192_r3 : BitVec 32 := Scalar.remui arg11_r3 c2_i32_123_r3
  ![v192_r3.toNat]
def k1_off59 (arg12_r3 : BitVec 32) : Fin 3 → Nat :=
  let c2_i32_106_r3 : BitVec 32 := 2#32
  let v156_r3 : BitVec 32 := Scalar.remui arg12_r3 c2_i32_106_r3
  let c0_i32_123_r5 : BitVec 32 := 0#32
  let c0_i32_124_r5 : BitVec 32 := 0#32
  ![v156_r3.toNat, 0, 0]

def k1_chk13 (i : grid1.Coords) (k1_t4 : Fin (k1_t4_loop i).trips) (arg12_r3 : BitVec 32) : Prop :=
  (∀ (k1_h19 : k1_cond19 i = 1#1), ∀ a, (k1_off59 arg12_r3) a + S1x128x128.size a ≤ S2x128x128.size a)
theorem k1_off59_inb : ∀ (i : grid1.Coords) (k1_t4 : Fin (k1_t4_loop i).trips) (arg12_r3 : BitVec 32) (k1_hw13 : k1_chk13 i k1_t4 arg12_r3), ∀ (k1_h19 : k1_cond19 i = 1#1), ∀ a, (k1_off59 arg12_r3) a + S1x128x128.size a ≤ S2x128x128.size a := fun i k1_t4 arg12_r3 k1_hw13 k1_h19 => k1_hw13 k1_h19

def k1_off60 (arg11_r3 : BitVec 32) : Fin 3 → Nat :=
  let c2_i32_105_r3 : BitVec 32 := 2#32
  let v155_r3 : BitVec 32 := Scalar.remui arg11_r3 c2_i32_105_r3
  let c0_i32_125_r5 : BitVec 32 := 0#32
  let c0_i32_126_r5 : BitVec 32 := 0#32
  ![v155_r3.toNat, 0, 0]

def k1_chk14 (i : grid1.Coords) (k1_t4 : Fin (k1_t4_loop i).trips) (arg11_r3 : BitVec 32) : Prop :=
  (∀ (k1_h19 : k1_cond19 i = 1#1), ∀ a, (k1_off60 arg11_r3) a + S1x1x128.size a ≤ S2x1x128.size a)
theorem k1_off60_inb : ∀ (i : grid1.Coords) (k1_t4 : Fin (k1_t4_loop i).trips) (arg11_r3 : BitVec 32) (k1_hw14 : k1_chk14 i k1_t4 arg11_r3), ∀ (k1_h19 : k1_cond19 i = 1#1), ∀ a, (k1_off60 arg11_r3) a + S1x1x128.size a ≤ S2x1x128.size a := fun i k1_t4 arg11_r3 k1_hw14 k1_h19 => k1_hw14 k1_h19

def k1_off61 (arg12_r3 : BitVec 32) : Fin 3 → Nat :=
  let c2_i32_123_r3 : BitVec 32 := 2#32
  let v191_r3 : BitVec 32 := Scalar.remui arg12_r3 c2_i32_123_r3
  let c0_i32_124_r3 : BitVec 32 := 0#32
  let c0_i32_125_r3 : BitVec 32 := 0#32
  ![v191_r3.toNat, 0, 0]
def k1_cond32 (i : grid1.Coords) (k1_t4 : Fin (k1_t4_loop i).trips) (arg14_r3 : BitVec 32) : BitVec 1 :=
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let true_87_r3 : BitVec 1 := 1#1
  let c1_i32_86_r3 : BitVec 32 := 1#32
  let v115_r3 : BitVec 32 := Scalar.addi arg14_r3 c1_i32_86_r3
  let v116_r3 : BitVec 32 := Scalar.select true_87_r3 v115_r3 arg14_r3
  let v117_r3 : BitVec 1 := Scalar.cmpi .eq v116_r3 v17
  let c0_i32_88_r3 : BitVec 32 := 0#32
  let v118_r3 : BitVec 32 := Scalar.select v117_r3 c0_i32_88_r3 v116_r3
  let v119_r3 : BitVec 32 := Scalar.addi v118_r3 v22
  let v162_r3 : BitVec 1 := Scalar.cmpi .ne v108_r3 v119_r3
  let c0_i32_51_r3 : BitVec 32 := 0#32
  let c1_i32_15 : BitVec 32 := 1#32
  let v23 : BitVec 32 := Scalar.muli c1_i32_15 v17
  let v66_r3 : BitVec 32 := Scalar.subi v23 c0_i32_51_r3
  let c1_i32_56_r3 : BitVec 32 := 1#32
  let v68_r3 : BitVec 32 := Scalar.divsi v66_r3 c1_i32_56_r3
  let v69_r3 : BitVec 32 := Scalar.muli v68_r3 c1_i32_56_r3
  let v70_r3 : BitVec 32 := Scalar.addi c0_i32_51_r3 v69_r3
  let c1_i32_58_r3 : BitVec 32 := 1#32
  let arg9_r3 : BitVec 32 := Scf.iv v70_r3 c1_i32_58_r3 k1_t4
  let c1_i32_79_r3 : BitVec 32 := 1#32
  let v104_r3 : BitVec 32 := Scalar.muli c1_i32_79_r3 v17
  let c1_i32_81_r3 : BitVec 32 := 1#32
  let v106_r3 : BitVec 32 := Scalar.subi v104_r3 c1_i32_81_r3
  let v107_r3 : BitVec 1 := Scalar.cmpi .eq arg9_r3 v106_r3
  let v163_r3 : BitVec 1 := Scalar.ori v162_r3 v107_r3
  let v164_r3 : BitVec 32 := Scalar.extui v163_r3
  let c0_i32_109_r3 : BitVec 32 := 0#32
  let v165_r3 : BitVec 1 := Scalar.cmpi .ne v164_r3 c0_i32_109_r3
  v165_r3

def k1_off62 (i : grid1.Coords) (arg14_r3 : BitVec 32) : Fin 2 → Nat :=
  let c128_i32_r3 : BitVec 32 := 128#32
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let v192_r3 : BitVec 32 := Scalar.muli c128_i32_r3 v108_r3
  let c0_i32_126_r3 : BitVec 32 := 0#32
  ![v192_r3.toNat, 0]
def k1_off63 (arg12_r3 : BitVec 32) : Fin 1 → Nat :=
  let c2_i32_123_r3 : BitVec 32 := 2#32
  let v191_r3 : BitVec 32 := Scalar.remui arg12_r3 c2_i32_123_r3
  ![v191_r3.toNat]
def k1_off64 (arg13_r3 : BitVec 32) : Fin 3 → Nat :=
  let c2_i32_123_r3 : BitVec 32 := 2#32
  let v191_r3 : BitVec 32 := Scalar.remui arg13_r3 c2_i32_123_r3
  let c0_i32_124_r3 : BitVec 32 := 0#32
  let c0_i32_125_r3 : BitVec 32 := 0#32
  ![v191_r3.toNat, 0, 0]
def k1_cond34 (i : grid1.Coords) (k1_t4 : Fin (k1_t4_loop i).trips) (arg14_r3 : BitVec 32) : BitVec 1 :=
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_12 : BitVec 32 := 8#32
  let v18 : BitVec 1 := Scalar.cmpi .slt v15 c8_i32_12
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v108_r3 : BitVec 32 := Scalar.addi arg14_r3 v22
  let true_83_r3 : BitVec 1 := 1#1
  let c1_i32_82_r3 : BitVec 32 := 1#32
  let v109_r3 : BitVec 32 := Scalar.subi arg14_r3 c1_i32_82_r3
  let v110_r3 : BitVec 32 := Scalar.select true_83_r3 v109_r3 arg14_r3
  let c_m1_i32_84_r3 : BitVec 32 := 4294967295#32
  let v111_r3 : BitVec 1 := Scalar.cmpi .eq v110_r3 c_m1_i32_84_r3
  let c1_i32_85_r3 : BitVec 32 := 1#32
  let v112_r3 : BitVec 32 := Scalar.subi v17 c1_i32_85_r3
  let v113_r3 : BitVec 32 := Scalar.select v111_r3 v112_r3 v110_r3
  let v114_r3 : BitVec 32 := Scalar.addi v113_r3 v22
  let v175_r3 : BitVec 1 := Scalar.cmpi .ne v108_r3 v114_r3
  let c0_i32_51_r3 : BitVec 32 := 0#32
  let c1_i32_15 : BitVec 32 := 1#32
  let v23 : BitVec 32 := Scalar.muli c1_i32_15 v17
  let v66_r3 : BitVec 32 := Scalar.subi v23 c0_i32_51_r3
  let c1_i32_56_r3 : BitVec 32 := 1#32
  let v68_r3 : BitVec 32 := Scalar.divsi v66_r3 c1_i32_56_r3
  let v69_r3 : BitVec 32 := Scalar.muli v68_r3 c1_i32_56_r3
  let v70_r3 : BitVec 32 := Scalar.addi c0_i32_51_r3 v69_r3
  let c1_i32_58_r3 : BitVec 32 := 1#32
  let arg9_r3 : BitVec 32 := Scf.iv v70_r3 c1_i32_58_r3 k1_t4
  let c0_i32_80_r3 : BitVec 32 := 0#32
  let v105_r3 : BitVec 1 := Scalar.cmpi .eq arg9_r3 c0_i32_80_r3
  let true_115_r3 : BitVec 1 := 1#1
  let v176_r3 : BitVec 1 := Scalar.xori v105_r3 true_115_r3
  let v177_r3 : BitVec 1 := Scalar.andi v175_r3 v176_r3
  let v178_r3 : BitVec 32 := Scalar.extui v177_r3
  let c0_i32_116_r3 : BitVec 32 := 0#32
  let v179_r3 : BitVec 1 := Scalar.cmpi .ne v178_r3 c0_i32_116_r3
  v179_r3

def k1_off65 (i : grid1.Coords) (arg14_r3 : BitVec 32) : Fin 2 → Nat :=
  let c128_i32_r3 : BitVec 32 := 128#32
  let true_83_r3 : BitVec 1 := 1#1
  let c1_i32_82_r3 : BitVec 32 := 1#32
  let v109_r3 : BitVec 32 := Scalar.subi arg14_r3 c1_i32_82_r3
  let v110_r3 : BitVec 32 := Scalar.select true_83_r3 v109_r3 arg14_r3
  let c_m1_i32_84_r3 : BitVec 32 := 4294967295#32
  let v111_r3 : BitVec 1 := Scalar.cmpi .eq v110_r3 c_m1_i32_84_r3
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let c1_i32_85_r3 : BitVec 32 := 1#32
  let v112_r3 : BitVec 32 := Scalar.subi v17 c1_i32_85_r3
  let v113_r3 : BitVec 32 := Scalar.select v111_r3 v112_r3 v110_r3
  let c8_i32_12 : BitVec 32 := 8#32
  let v18 : BitVec 1 := Scalar.cmpi .slt v15 c8_i32_12
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v114_r3 : BitVec 32 := Scalar.addi v113_r3 v22
  let v192_r3 : BitVec 32 := Scalar.muli c128_i32_r3 v114_r3
  let c0_i32_126_r3 : BitVec 32 := 0#32
  ![v192_r3.toNat, 0]
def k1_off66 (arg13_r3 : BitVec 32) : Fin 1 → Nat :=
  let c2_i32_123_r3 : BitVec 32 := 2#32
  let v191_r3 : BitVec 32 := Scalar.remui arg13_r3 c2_i32_123_r3
  ![v191_r3.toNat]

def k1_chk12 (i : grid1.Coords) (k1_t4 : Fin (k1_t4_loop i).trips) (arg10_r3 : BitVec 32) (arg11_r3 : BitVec 32) (arg12_r3 : BitVec 32) (arg13_r3 : BitVec 32) (arg14_r3 : BitVec 32) : Prop :=
  (∀ (k1_h19 : k1_cond19 i = 1#1), ∀ (k1_h28 : k1_cond28 i k1_t4 arg14_r3 = 1#1), ∀ a, (k1_off53 arg10_r3) a + S1x1x128.size a ≤ S2x1x128.size a) ∧
  (∀ (k1_h19 : k1_cond19 i = 1#1), ∀ (k1_h28 : k1_cond28 i k1_t4 arg14_r3 = 1#1), ∀ a, (k1_off54 i arg14_r3) a + S1x128.size a ≤ S1x1024.size a) ∧
  (∀ (k1_h19 : k1_cond19 i = 1#1), ∀ (k1_h28 : k1_cond28 i k1_t4 arg14_r3 = 1#1), ∀ a, (k1_off55 arg10_r3) a + S1.size a ≤ S2.size a) ∧
  (∀ (k1_h19 : k1_cond19 i = 1#1), ∀ (k1_h29 : k1_cond29 i k1_t4 arg14_r3 = 1#1), ∀ a, (k1_off56 arg11_r3) a + S1x1x128.size a ≤ S2x1x128.size a) ∧
  (∀ (k1_h19 : k1_cond19 i = 1#1), ∀ (k1_h29 : k1_cond29 i k1_t4 arg14_r3 = 1#1), ∀ a, (k1_off57 i arg14_r3) a + S1x128.size a ≤ S1x1024.size a) ∧
  (∀ (k1_h19 : k1_cond19 i = 1#1), ∀ (k1_h29 : k1_cond29 i k1_t4 arg14_r3 = 1#1), ∀ a, (k1_off58 arg11_r3) a + S1.size a ≤ S2.size a) ∧
  (∀ (k1_h19 : k1_cond19 i = 1#1), ∀ (k1_h32 : k1_cond32 i k1_t4 arg14_r3 = 1#1), ∀ a, (k1_off61 arg12_r3) a + S1x128x128.size a ≤ S2x128x128.size a) ∧
  (∀ (k1_h19 : k1_cond19 i = 1#1), ∀ (k1_h32 : k1_cond32 i k1_t4 arg14_r3 = 1#1), ∀ a, (k1_off62 i arg14_r3) a + S128x128.size a ≤ S1024x128.size a) ∧
  (∀ (k1_h19 : k1_cond19 i = 1#1), ∀ (k1_h32 : k1_cond32 i k1_t4 arg14_r3 = 1#1), ∀ a, (k1_off63 arg12_r3) a + S1.size a ≤ S2.size a) ∧
  (∀ (k1_h19 : k1_cond19 i = 1#1), ∀ (k1_h34 : k1_cond34 i k1_t4 arg14_r3 = 1#1), ∀ a, (k1_off64 arg13_r3) a + S1x128x128.size a ≤ S2x128x128.size a) ∧
  (∀ (k1_h19 : k1_cond19 i = 1#1), ∀ (k1_h34 : k1_cond34 i k1_t4 arg14_r3 = 1#1), ∀ a, (k1_off65 i arg14_r3) a + S128x128.size a ≤ S1024x128.size a) ∧
  (∀ (k1_h19 : k1_cond19 i = 1#1), ∀ (k1_h34 : k1_cond34 i k1_t4 arg14_r3 = 1#1), ∀ a, (k1_off66 arg13_r3) a + S1.size a ≤ S2.size a)
theorem k1_off53_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h28 : k1_cond28 i k1_t4 arg14_r3 = 1#1), ∀ a, (k1_off53 arg10_r3) a + S1x1x128.size a ≤ S2x1x128.size a := fun i k1_t4 arg10_r3 arg11_r3 arg12_r3 arg13_r3 arg14_r3 k1_hw12 k1_h19 k1_h28 => k1_hw12.1 k1_h19 k1_h28
theorem k1_off54_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h28 : k1_cond28 i k1_t4 arg14_r3 = 1#1), ∀ a, (k1_off54 i arg14_r3) a + S1x128.size a ≤ S1x1024.size a := fun i k1_t4 arg10_r3 arg11_r3 arg12_r3 arg13_r3 arg14_r3 k1_hw12 k1_h19 k1_h28 => k1_hw12.2.1 k1_h19 k1_h28
theorem k1_off55_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h28 : k1_cond28 i k1_t4 arg14_r3 = 1#1), ∀ a, (k1_off55 arg10_r3) a + S1.size a ≤ S2.size a := fun i k1_t4 arg10_r3 arg11_r3 arg12_r3 arg13_r3 arg14_r3 k1_hw12 k1_h19 k1_h28 => k1_hw12.2.2.1 k1_h19 k1_h28
theorem k1_off56_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h29 : k1_cond29 i k1_t4 arg14_r3 = 1#1), ∀ a, (k1_off56 arg11_r3) a + S1x1x128.size a ≤ S2x1x128.size a := fun i k1_t4 arg10_r3 arg11_r3 arg12_r3 arg13_r3 arg14_r3 k1_hw12 k1_h19 k1_h29 => k1_hw12.2.2.2.1 k1_h19 k1_h29
theorem k1_off57_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h29 : k1_cond29 i k1_t4 arg14_r3 = 1#1), ∀ a, (k1_off57 i arg14_r3) a + S1x128.size a ≤ S1x1024.size a := fun i k1_t4 arg10_r3 arg11_r3 arg12_r3 arg13_r3 arg14_r3 k1_hw12 k1_h19 k1_h29 => k1_hw12.2.2.2.2.1 k1_h19 k1_h29
theorem k1_off58_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h29 : k1_cond29 i k1_t4 arg14_r3 = 1#1), ∀ a, (k1_off58 arg11_r3) a + S1.size a ≤ S2.size a := fun i k1_t4 arg10_r3 arg11_r3 arg12_r3 arg13_r3 arg14_r3 k1_hw12 k1_h19 k1_h29 => k1_hw12.2.2.2.2.2.1 k1_h19 k1_h29
theorem k1_off61_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h32 : k1_cond32 i k1_t4 arg14_r3 = 1#1), ∀ a, (k1_off61 arg12_r3) a + S1x128x128.size a ≤ S2x128x128.size a := fun i k1_t4 arg10_r3 arg11_r3 arg12_r3 arg13_r3 arg14_r3 k1_hw12 k1_h19 k1_h32 => k1_hw12.2.2.2.2.2.2.1 k1_h19 k1_h32
theorem k1_off62_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h32 : k1_cond32 i k1_t4 arg14_r3 = 1#1), ∀ a, (k1_off62 i arg14_r3) a + S128x128.size a ≤ S1024x128.size a := fun i k1_t4 arg10_r3 arg11_r3 arg12_r3 arg13_r3 arg14_r3 k1_hw12 k1_h19 k1_h32 => k1_hw12.2.2.2.2.2.2.2.1 k1_h19 k1_h32
theorem k1_off63_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h32 : k1_cond32 i k1_t4 arg14_r3 = 1#1), ∀ a, (k1_off63 arg12_r3) a + S1.size a ≤ S2.size a := fun i k1_t4 arg10_r3 arg11_r3 arg12_r3 arg13_r3 arg14_r3 k1_hw12 k1_h19 k1_h32 => k1_hw12.2.2.2.2.2.2.2.2.1 k1_h19 k1_h32
theorem k1_off64_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h34 : k1_cond34 i k1_t4 arg14_r3 = 1#1), ∀ a, (k1_off64 arg13_r3) a + S1x128x128.size a ≤ S2x128x128.size a := fun i k1_t4 arg10_r3 arg11_r3 arg12_r3 arg13_r3 arg14_r3 k1_hw12 k1_h19 k1_h34 => k1_hw12.2.2.2.2.2.2.2.2.2.1 k1_h19 k1_h34
theorem k1_off65_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h34 : k1_cond34 i k1_t4 arg14_r3 = 1#1), ∀ a, (k1_off65 i arg14_r3) a + S128x128.size a ≤ S1024x128.size a := fun i k1_t4 arg10_r3 arg11_r3 arg12_r3 arg13_r3 arg14_r3 k1_hw12 k1_h19 k1_h34 => k1_hw12.2.2.2.2.2.2.2.2.2.2.1 k1_h19 k1_h34
theorem k1_off66_inb : ∀ (i : grid1.Coords) (k1_t4 : Fin (k1_t4_loop i).trips) (arg10_r3 : BitVec 32) (arg11_r3 : BitVec 32) (arg12_r3 : BitVec 32) (arg13_r3 : BitVec 32) (arg14_r3 : BitVec 32) (k1_hw12 : k1_chk12 i k1_t4 arg10_r3 arg11_r3 arg12_r3 arg13_r3 arg14_r3), ∀ (k1_h19 : k1_cond19 i = 1#1), ∀ (k1_h34 : k1_cond34 i k1_t4 arg14_r3 = 1#1), ∀ a, (k1_off66 arg13_r3) a + S1.size a ≤ S2.size a := fun i k1_t4 arg10_r3 arg11_r3 arg12_r3 arg13_r3 arg14_r3 k1_hw12 k1_h19 k1_h34 => k1_hw12.2.2.2.2.2.2.2.2.2.2.2 k1_h19 k1_h34

def k1_cond36 (i : grid1.Coords) : BitVec 1 :=
  let c1_i32_15 : BitVec 32 := 1#32
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let v23 : BitVec 32 := Scalar.muli c1_i32_15 v17
  let c1_i32_63_r3 : BitVec 32 := 1#32
  let v78_r3 : BitVec 32 := Scalar.subi v23 c1_i32_63_r3
  let c1_i32_64_r3 : BitVec 32 := 1#32
  let v79_r3 : BitVec 32 := Scalar.muli c1_i32_64_r3 v17
  let c1_i32_66_r3 : BitVec 32 := 1#32
  let v81_r3 : BitVec 32 := Scalar.subi v79_r3 c1_i32_66_r3
  let v82_r3 : BitVec 1 := Scalar.cmpi .eq v78_r3 v81_r3
  let v102_r3 : BitVec 32 := Scalar.extui v82_r3
  let c0_i32_78_r3 : BitVec 32 := 0#32
  let v103_r3 : BitVec 1 := Scalar.cmpi .ne v102_r3 c0_i32_78_r3
  v103_r3

def k1_off67 (v72_3_r3 : BitVec 32) : Fin 3 → Nat :=
  let c2_i32_r3 : BitVec 32 := 2#32
  let v104_r3 : BitVec 32 := Scalar.remui v72_3_r3 c2_i32_r3
  let c0_i32_79_r3 : BitVec 32 := 0#32
  let c0_i32_80_r3 : BitVec 32 := 0#32
  ![v104_r3.toNat, 0, 0]

def k1_off68 (i : grid1.Coords) (v72_4_r3 : BitVec 32) : Fin 2 → Nat :=
  let c128_i32_r3 : BitVec 32 := 128#32
  let true_60_r3 : BitVec 1 := 1#1
  let c1_i32_59_r3 : BitVec 32 := 1#32
  let v73_r3 : BitVec 32 := Scalar.subi v72_4_r3 c1_i32_59_r3
  let v74_r3 : BitVec 32 := Scalar.select true_60_r3 v73_r3 v72_4_r3
  let c_m1_i32_61_r3 : BitVec 32 := 4294967295#32
  let v75_r3 : BitVec 1 := Scalar.cmpi .eq v74_r3 c_m1_i32_61_r3
  let c0_i32_7 : BitVec 32 := 0#32
  let arg1 : BitVec 32 := BitVec.ofNat 32 (i 1).val
  let c1_i32_6 : BitVec 32 := 1#32
  let v12 : BitVec 32 := Scalar.muli arg1 c1_i32_6
  let v13 : BitVec 32 := Scalar.addi c0_i32_7 v12
  let arg0 : BitVec 32 := BitVec.ofNat 32 (i 0).val
  let c16_i32_8 : BitVec 32 := 16#32
  let v14 : BitVec 32 := Scalar.muli arg0 c16_i32_8
  let v15 : BitVec 32 := Scalar.addi v13 v14
  let c8_i32_9 : BitVec 32 := 8#32
  let v16 : BitVec 1 := Scalar.cmpi .slt v15 c8_i32_9
  let c1_i32_10 : BitVec 32 := 1#32
  let c0_i32_11 : BitVec 32 := 0#32
  let v17 : BitVec 32 := Scalar.select v16 c1_i32_10 c0_i32_11
  let c1_i32_62_r3 : BitVec 32 := 1#32
  let v76_r3 : BitVec 32 := Scalar.subi v17 c1_i32_62_r3
  let v77_r3 : BitVec 32 := Scalar.select v75_r3 v76_r3 v74_r3
  let c8_i32_12 : BitVec 32 := 8#32
  let v18 : BitVec 1 := Scalar.cmpi .slt v15 c8_i32_12
  let v19 : BitVec 32 := Scalar.muli v15 v17
  let c0_i32_13 : BitVec 32 := 0#32
  let v20 : BitVec 32 := Scalar.muli v15 c0_i32_13
  let c8_i32_14 : BitVec 32 := 8#32
  let v21 : BitVec 32 := Scalar.addi v20 c8_i32_14
  let v22 : BitVec 32 := Scalar.select v18 v19 v21
  let v83_r3 : BitVec 32 := Scalar.addi v77_r3 v22
  let v105_r3 : BitVec 32 := Scalar.muli c128_i32_r3 v83_r3
  let c0_i32_81_r3 : BitVec 32 := 0#32
  ![v105_r3.toNat, 0]

def k1_chk16 (i : grid1.Coords) (v72_4_r3 : BitVec 32) : Prop :=
  (∀ (k1_h19 : k1_cond19 i = 1#1), ∀ (k1_h36 : k1_cond36 i = 1#1), ∀ a, (k1_off68 i v72_4_r3) a + S128x128.size a ≤ S1024x128.size a)
theorem k1_off68_inb : ∀ (i : grid1.Coords) (v72_4_r3 : BitVec 32) (k1_hw16 : k1_chk16 i v72_4_r3), ∀ (k1_h19 : k1_cond19 i = 1#1), ∀ (k1_h36 : k1_cond36 i = 1#1), ∀ a, (k1_off68 i v72_4_r3) a + S128x128.size a ≤ S1024x128.size a := fun i v72_4_r3 k1_hw16 k1_h19 k1_h36 => k1_hw16 k1_h19 k1_h36

def k1_off69 (v72_3_r3 : BitVec 32) : Fin 1 → Nat :=
  let c2_i32_r3 : BitVec 32 := 2#32
  let v104_r3 : BitVec 32 := Scalar.remui v72_3_r3 c2_i32_r3
  ![v104_r3.toNat]
def k1_off70 (v72_3_r3 : BitVec 32) : Fin 3 → Nat :=
  let c2_i32_r3 : BitVec 32 := 2#32
  let v104_r3 : BitVec 32 := Scalar.remui v72_3_r3 c2_i32_r3
  let c0_i32_83_r3 : BitVec 32 := 0#32
  let c0_i32_84_r3 : BitVec 32 := 0#32
  ![v104_r3.toNat, 0, 0]

def k1_chk15 (i : grid1.Coords) (v72_3_r3 : BitVec 32) : Prop :=
  (∀ (k1_h19 : k1_cond19 i = 1#1), ∀ (k1_h36 : k1_cond36 i = 1#1), ∀ a, (k1_off67 v72_3_r3) a + S1x128x128.size a ≤ S2x128x128.size a) ∧
  (∀ (k1_h19 : k1_cond19 i = 1#1), ∀ (k1_h36 : k1_cond36 i = 1#1), ∀ a, (k1_off69 v72_3_r3) a + S1.size a ≤ S2.size a) ∧
  (∀ (k1_h19 : k1_cond19 i = 1#1), ∀ (k1_h36 : k1_cond36 i = 1#1), ∀ a, (k1_off70 v72_3_r3) a + S1x128x128.size a ≤ S2x128x128.size a)
theorem k1_off67_inb : ∀ (i : grid1.Coords) (v72_3_r3 : BitVec 32) (k1_hw15 : k1_chk15 i v72_3_r3), ∀ (k1_h19 : k1_cond19 i = 1#1), ∀ (k1_h36 : k1_cond36 i = 1#1), ∀ a, (k1_off67 v72_3_r3) a + S1x128x128.size a ≤ S2x128x128.size a := fun i v72_3_r3 k1_hw15 k1_h19 k1_h36 => k1_hw15.1 k1_h19 k1_h36
theorem k1_off69_inb : ∀ (i : grid1.Coords) (v72_3_r3 : BitVec 32) (k1_hw15 : k1_chk15 i v72_3_r3), ∀ (k1_h19 : k1_cond19 i = 1#1), ∀ (k1_h36 : k1_cond36 i = 1#1), ∀ a, (k1_off69 v72_3_r3) a + S1.size a ≤ S2.size a := fun i v72_3_r3 k1_hw15 k1_h19 k1_h36 => k1_hw15.2.1 k1_h19 k1_h36
theorem k1_off70_inb : ∀ (i : grid1.Coords) (v72_3_r3 : BitVec 32) (k1_hw15 : k1_chk15 i v72_3_r3), ∀ (k1_h19 : k1_cond19 i = 1#1), ∀ (k1_h36 : k1_cond36 i = 1#1), ∀ a, (k1_off70 v72_3_r3) a + S1x128x128.size a ≤ S2x128x128.size a := fun i v72_3_r3 k1_hw15 k1_h19 k1_h36 => k1_hw15.2.2 k1_h19 k1_h36

def k1_cond37 (i : grid1.Coords) : BitVec 1 :=
  let c1_i32_25 : BitVec 32 := 1#32
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v35 : BitVec 32 := Scalar.muli c1_i32_25 v29
  let c0_i32_27_r6 : BitVec 32 := 0#32
  let v38_r6 : BitVec 1 := Scalar.cmpi .sgt v35 c0_i32_27_r6
  let v39_r6 : BitVec 32 := Scalar.extui v38_r6
  let c0_i32_28_r6 : BitVec 32 := 0#32
  let v40_r6 : BitVec 1 := Scalar.cmpi .ne v39_r6 c0_i32_28_r6
  v40_r6

def k1_cond38 (i : grid1.Coords) : BitVec 1 :=
  let true_44_r6 : BitVec 1 := 1#1
  let c1_i32_29_r6 : BitVec 32 := 1#32
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v41_r6 : BitVec 32 := Scalar.muli c1_i32_29_r6 v29
  let c0_i32_43_r6 : BitVec 32 := 0#32
  let v59_r6 : BitVec 1 := Scalar.cmpi .sgt v41_r6 c0_i32_43_r6
  let v60_r6 : BitVec 1 := Scalar.andi true_44_r6 v59_r6
  let true_45_r6 : BitVec 1 := 1#1
  let v61_r6 : BitVec 1 := Scalar.andi v60_r6 true_45_r6
  let v62_r6 : BitVec 32 := Scalar.extui v61_r6
  let c0_i32_47_r6 : BitVec 32 := 0#32
  let v63_r6 : BitVec 1 := Scalar.cmpi .ne v62_r6 c0_i32_47_r6
  v63_r6

def k1_off71 : Fin 3 → Nat :=
  let c0_i32_46_r6 : BitVec 32 := 0#32
  let c2_i32_r6 : BitVec 32 := 2#32
  let v104_r6 : BitVec 32 := Scalar.remui c0_i32_46_r6 c2_i32_r6
  let c0_i32_79_r6 : BitVec 32 := 0#32
  let c0_i32_80_r6 : BitVec 32 := 0#32
  ![v104_r6.toNat, 0, 0]
def k1_off72 (i : grid1.Coords) : Fin 2 → Nat :=
  let c0_i32_81_r6 : BitVec 32 := 0#32
  let c128_i32_r6 : BitVec 32 := 128#32
  let c0_i32_32_r6 : BitVec 32 := 0#32
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v44_r6 : BitVec 32 := Scalar.addi c0_i32_32_r6 v34
  let v105_r6 : BitVec 32 := Scalar.muli c128_i32_r6 v44_r6
  ![0, v105_r6.toNat]
def k1_off73 : Fin 1 → Nat :=
  let c0_i32_46_r6 : BitVec 32 := 0#32
  let c2_i32_r6 : BitVec 32 := 2#32
  let v104_r6 : BitVec 32 := Scalar.remui c0_i32_46_r6 c2_i32_r6
  ![v104_r6.toNat]
@[reducible] def k1_t5_loop (i : grid1.Coords) : Scf.Loop 32 :=
  let c0_i32_51_r6 : BitVec 32 := 0#32
  let c1_i32_25 : BitVec 32 := 1#32
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v35 : BitVec 32 := Scalar.muli c1_i32_25 v29
  let v66_r6 : BitVec 32 := Scalar.subi v35 c0_i32_51_r6
  let c1_i32_56_r6 : BitVec 32 := 1#32
  let v68_r6 : BitVec 32 := Scalar.divsi v66_r6 c1_i32_56_r6
  let v69_r6 : BitVec 32 := Scalar.muli v68_r6 c1_i32_56_r6
  let v70_r6 : BitVec 32 := Scalar.addi c0_i32_51_r6 v69_r6
  let c1_i32_57_r6 : BitVec 32 := 1#32
  ⟨c0_i32_51_r6, v70_r6, c1_i32_57_r6⟩
def k1_off74 (arg10_r6 : BitVec 32) : Fin 3 → Nat :=
  let c2_i32_123_r6 : BitVec 32 := 2#32
  let v191_r6 : BitVec 32 := Scalar.remui arg10_r6 c2_i32_123_r6
  let c0_i32_124_r6 : BitVec 32 := 0#32
  let c0_i32_125_r6 : BitVec 32 := 0#32
  ![v191_r6.toNat, 0, 0]
def k1_cond39 (i : grid1.Coords) (k1_t5 : Fin (k1_t5_loop i).trips) (arg14_r6 : BitVec 32) : BitVec 1 :=
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let true_87_r6 : BitVec 1 := 1#1
  let c1_i32_86_r6 : BitVec 32 := 1#32
  let v115_r6 : BitVec 32 := Scalar.addi arg14_r6 c1_i32_86_r6
  let v116_r6 : BitVec 32 := Scalar.select true_87_r6 v115_r6 arg14_r6
  let v117_r6 : BitVec 1 := Scalar.cmpi .eq v116_r6 v29
  let c0_i32_88_r6 : BitVec 32 := 0#32
  let v118_r6 : BitVec 32 := Scalar.select v117_r6 c0_i32_88_r6 v116_r6
  let v119_r6 : BitVec 32 := Scalar.addi v118_r6 v34
  let v125_r6 : BitVec 1 := Scalar.cmpi .ne v108_r6 v119_r6
  let c0_i32_51_r6 : BitVec 32 := 0#32
  let c1_i32_57_r6 : BitVec 32 := 1#32
  let arg9_r6 : BitVec 32 := Scf.iv c0_i32_51_r6 c1_i32_57_r6 k1_t5
  let c1_i32_79_r6 : BitVec 32 := 1#32
  let v104_r6 : BitVec 32 := Scalar.muli c1_i32_79_r6 v29
  let c2_i32_r6 : BitVec 32 := 2#32
  let v126_r6 : BitVec 32 := Scalar.subi v104_r6 c2_i32_r6
  let c1_i32_92_r6 : BitVec 32 := 1#32
  let v127_r6 : BitVec 32 := Scalar.addi v126_r6 c1_i32_92_r6
  let v128_r6 : BitVec 1 := Scalar.cmpi .sge arg9_r6 v127_r6
  let true_93_r6 : BitVec 1 := 1#1
  let v129_r6 : BitVec 1 := Scalar.xori v128_r6 true_93_r6
  let v130_r6 : BitVec 1 := Scalar.andi v125_r6 v129_r6
  let true_94_r6 : BitVec 1 := 1#1
  let v131_r6 : BitVec 1 := Scalar.andi v130_r6 true_94_r6
  let v132_r6 : BitVec 32 := Scalar.extui v131_r6
  let c0_i32_95_r6 : BitVec 32 := 0#32
  let v133_r6 : BitVec 1 := Scalar.cmpi .ne v132_r6 c0_i32_95_r6
  v133_r6

def k1_off75 (i : grid1.Coords) (arg14_r6 : BitVec 32) : Fin 2 → Nat :=
  let c0_i32_126_r6 : BitVec 32 := 0#32
  let c128_i32_r6 : BitVec 32 := 128#32
  let true_87_r6 : BitVec 1 := 1#1
  let c1_i32_86_r6 : BitVec 32 := 1#32
  let v115_r6 : BitVec 32 := Scalar.addi arg14_r6 c1_i32_86_r6
  let v116_r6 : BitVec 32 := Scalar.select true_87_r6 v115_r6 arg14_r6
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v117_r6 : BitVec 1 := Scalar.cmpi .eq v116_r6 v29
  let c0_i32_88_r6 : BitVec 32 := 0#32
  let v118_r6 : BitVec 32 := Scalar.select v117_r6 c0_i32_88_r6 v116_r6
  let c8_i32_22 : BitVec 32 := 8#32
  let v30 : BitVec 1 := Scalar.cmpi .slt v27 c8_i32_22
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v119_r6 : BitVec 32 := Scalar.addi v118_r6 v34
  let v192_r6 : BitVec 32 := Scalar.muli c128_i32_r6 v119_r6
  ![0, v192_r6.toNat]
def k1_off76 (arg10_r6 : BitVec 32) : Fin 1 → Nat :=
  let c2_i32_123_r6 : BitVec 32 := 2#32
  let v191_r6 : BitVec 32 := Scalar.remui arg10_r6 c2_i32_123_r6
  ![v191_r6.toNat]
def k1_off77 (arg11_r6 : BitVec 32) : Fin 3 → Nat :=
  let c2_i32_123_r6 : BitVec 32 := 2#32
  let v192_r6 : BitVec 32 := Scalar.remui arg11_r6 c2_i32_123_r6
  let c0_i32_124_r6 : BitVec 32 := 0#32
  let c0_i32_125_r6 : BitVec 32 := 0#32
  ![v192_r6.toNat, 0, 0]
def k1_cond40 (i : grid1.Coords) (k1_t5 : Fin (k1_t5_loop i).trips) (arg14_r6 : BitVec 32) : BitVec 1 :=
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let true_83_r6 : BitVec 1 := 1#1
  let c1_i32_82_r6 : BitVec 32 := 1#32
  let v109_r6 : BitVec 32 := Scalar.subi arg14_r6 c1_i32_82_r6
  let v110_r6 : BitVec 32 := Scalar.select true_83_r6 v109_r6 arg14_r6
  let c_m1_i32_84_r6 : BitVec 32 := 4294967295#32
  let v111_r6 : BitVec 1 := Scalar.cmpi .eq v110_r6 c_m1_i32_84_r6
  let c1_i32_85_r6 : BitVec 32 := 1#32
  let v112_r6 : BitVec 32 := Scalar.subi v29 c1_i32_85_r6
  let v113_r6 : BitVec 32 := Scalar.select v111_r6 v112_r6 v110_r6
  let v114_r6 : BitVec 32 := Scalar.addi v113_r6 v34
  let v143_r6 : BitVec 1 := Scalar.cmpi .ne v108_r6 v114_r6
  let c0_i32_51_r6 : BitVec 32 := 0#32
  let c1_i32_57_r6 : BitVec 32 := 1#32
  let arg9_r6 : BitVec 32 := Scf.iv c0_i32_51_r6 c1_i32_57_r6 k1_t5
  let c0_i32_80_r6 : BitVec 32 := 0#32
  let v105_r6 : BitVec 1 := Scalar.cmpi .eq arg9_r6 c0_i32_80_r6
  let v144_r6 : BitVec 1 := Scalar.ori v143_r6 v105_r6
  let c0_i32_101_r6 : BitVec 32 := 0#32
  let v145_r6 : BitVec 1 := Scalar.cmpi .sge arg9_r6 c0_i32_101_r6
  let v146_r6 : BitVec 1 := Scalar.andi v144_r6 v145_r6
  let v147_r6 : BitVec 32 := Scalar.extui v146_r6
  let c0_i32_102_r6 : BitVec 32 := 0#32
  let v148_r6 : BitVec 1 := Scalar.cmpi .ne v147_r6 c0_i32_102_r6
  v148_r6

def k1_off78 (i : grid1.Coords) (arg14_r6 : BitVec 32) : Fin 2 → Nat :=
  let c0_i32_126_r6 : BitVec 32 := 0#32
  let c128_i32_r6 : BitVec 32 := 128#32
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let v191_r6 : BitVec 32 := Scalar.muli c128_i32_r6 v108_r6
  ![0, v191_r6.toNat]
def k1_off79 (arg11_r6 : BitVec 32) : Fin 1 → Nat :=
  let c2_i32_123_r6 : BitVec 32 := 2#32
  let v192_r6 : BitVec 32 := Scalar.remui arg11_r6 c2_i32_123_r6
  ![v192_r6.toNat]
def k1_off80 (arg12_r6 : BitVec 32) : Fin 3 → Nat :=
  let c2_i32_106_r6 : BitVec 32 := 2#32
  let v156_r6 : BitVec 32 := Scalar.remui arg12_r6 c2_i32_106_r6
  let c0_i32_123_r7 : BitVec 32 := 0#32
  let c0_i32_124_r7 : BitVec 32 := 0#32
  ![v156_r6.toNat, 0, 0]

def k1_chk18 (i : grid1.Coords) (k1_t5 : Fin (k1_t5_loop i).trips) (arg12_r6 : BitVec 32) : Prop :=
  (∀ (k1_h37 : k1_cond37 i = 1#1), ∀ a, (k1_off80 arg12_r6) a + S1x128x128.size a ≤ S2x128x128.size a)
theorem k1_off80_inb : ∀ (i : grid1.Coords) (k1_t5 : Fin (k1_t5_loop i).trips) (arg12_r6 : BitVec 32) (k1_hw18 : k1_chk18 i k1_t5 arg12_r6), ∀ (k1_h37 : k1_cond37 i = 1#1), ∀ a, (k1_off80 arg12_r6) a + S1x128x128.size a ≤ S2x128x128.size a := fun i k1_t5 arg12_r6 k1_hw18 k1_h37 => k1_hw18 k1_h37

def k1_off81 (arg11_r6 : BitVec 32) : Fin 3 → Nat :=
  let c2_i32_105_r6 : BitVec 32 := 2#32
  let v155_r6 : BitVec 32 := Scalar.remui arg11_r6 c2_i32_105_r6
  let c0_i32_125_r7 : BitVec 32 := 0#32
  let c0_i32_126_r7 : BitVec 32 := 0#32
  ![v155_r6.toNat, 0, 0]

def k1_chk19 (i : grid1.Coords) (k1_t5 : Fin (k1_t5_loop i).trips) (arg11_r6 : BitVec 32) : Prop :=
  (∀ (k1_h37 : k1_cond37 i = 1#1), ∀ a, (k1_off81 arg11_r6) a + S1x1x128.size a ≤ S2x1x128.size a)
theorem k1_off81_inb : ∀ (i : grid1.Coords) (k1_t5 : Fin (k1_t5_loop i).trips) (arg11_r6 : BitVec 32) (k1_hw19 : k1_chk19 i k1_t5 arg11_r6), ∀ (k1_h37 : k1_cond37 i = 1#1), ∀ a, (k1_off81 arg11_r6) a + S1x1x128.size a ≤ S2x1x128.size a := fun i k1_t5 arg11_r6 k1_hw19 k1_h37 => k1_hw19 k1_h37

def k1_off82 (arg12_r6 : BitVec 32) : Fin 3 → Nat :=
  let c2_i32_123_r6 : BitVec 32 := 2#32
  let v191_r6 : BitVec 32 := Scalar.remui arg12_r6 c2_i32_123_r6
  let c0_i32_124_r6 : BitVec 32 := 0#32
  let c0_i32_125_r6 : BitVec 32 := 0#32
  ![v191_r6.toNat, 0, 0]
def k1_cond43 (i : grid1.Coords) (k1_t5 : Fin (k1_t5_loop i).trips) (arg14_r6 : BitVec 32) : BitVec 1 :=
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let true_87_r6 : BitVec 1 := 1#1
  let c1_i32_86_r6 : BitVec 32 := 1#32
  let v115_r6 : BitVec 32 := Scalar.addi arg14_r6 c1_i32_86_r6
  let v116_r6 : BitVec 32 := Scalar.select true_87_r6 v115_r6 arg14_r6
  let v117_r6 : BitVec 1 := Scalar.cmpi .eq v116_r6 v29
  let c0_i32_88_r6 : BitVec 32 := 0#32
  let v118_r6 : BitVec 32 := Scalar.select v117_r6 c0_i32_88_r6 v116_r6
  let v119_r6 : BitVec 32 := Scalar.addi v118_r6 v34
  let v162_r6 : BitVec 1 := Scalar.cmpi .ne v108_r6 v119_r6
  let c0_i32_51_r6 : BitVec 32 := 0#32
  let c1_i32_57_r6 : BitVec 32 := 1#32
  let arg9_r6 : BitVec 32 := Scf.iv c0_i32_51_r6 c1_i32_57_r6 k1_t5
  let c1_i32_79_r6 : BitVec 32 := 1#32
  let v104_r6 : BitVec 32 := Scalar.muli c1_i32_79_r6 v29
  let c1_i32_81_r6 : BitVec 32 := 1#32
  let v106_r6 : BitVec 32 := Scalar.subi v104_r6 c1_i32_81_r6
  let v107_r6 : BitVec 1 := Scalar.cmpi .eq arg9_r6 v106_r6
  let v163_r6 : BitVec 1 := Scalar.ori v162_r6 v107_r6
  let v164_r6 : BitVec 32 := Scalar.extui v163_r6
  let c0_i32_109_r6 : BitVec 32 := 0#32
  let v165_r6 : BitVec 1 := Scalar.cmpi .ne v164_r6 c0_i32_109_r6
  v165_r6

def k1_off83 (i : grid1.Coords) (arg14_r6 : BitVec 32) : Fin 2 → Nat :=
  let c128_i32_r6 : BitVec 32 := 128#32
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let v192_r6 : BitVec 32 := Scalar.muli c128_i32_r6 v108_r6
  let c0_i32_126_r6 : BitVec 32 := 0#32
  ![v192_r6.toNat, 0]
def k1_off84 (arg12_r6 : BitVec 32) : Fin 1 → Nat :=
  let c2_i32_123_r6 : BitVec 32 := 2#32
  let v191_r6 : BitVec 32 := Scalar.remui arg12_r6 c2_i32_123_r6
  ![v191_r6.toNat]
def k1_off85 (arg13_r6 : BitVec 32) : Fin 3 → Nat :=
  let c2_i32_123_r6 : BitVec 32 := 2#32
  let v191_r6 : BitVec 32 := Scalar.remui arg13_r6 c2_i32_123_r6
  let c0_i32_124_r6 : BitVec 32 := 0#32
  let c0_i32_125_r6 : BitVec 32 := 0#32
  ![v191_r6.toNat, 0, 0]
def k1_cond45 (i : grid1.Coords) (k1_t5 : Fin (k1_t5_loop i).trips) (arg14_r6 : BitVec 32) : BitVec 1 :=
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let true_83_r6 : BitVec 1 := 1#1
  let c1_i32_82_r6 : BitVec 32 := 1#32
  let v109_r6 : BitVec 32 := Scalar.subi arg14_r6 c1_i32_82_r6
  let v110_r6 : BitVec 32 := Scalar.select true_83_r6 v109_r6 arg14_r6
  let c_m1_i32_84_r6 : BitVec 32 := 4294967295#32
  let v111_r6 : BitVec 1 := Scalar.cmpi .eq v110_r6 c_m1_i32_84_r6
  let c1_i32_85_r6 : BitVec 32 := 1#32
  let v112_r6 : BitVec 32 := Scalar.subi v29 c1_i32_85_r6
  let v113_r6 : BitVec 32 := Scalar.select v111_r6 v112_r6 v110_r6
  let v114_r6 : BitVec 32 := Scalar.addi v113_r6 v34
  let v175_r6 : BitVec 1 := Scalar.cmpi .ne v108_r6 v114_r6
  let c0_i32_51_r6 : BitVec 32 := 0#32
  let c1_i32_57_r6 : BitVec 32 := 1#32
  let arg9_r6 : BitVec 32 := Scf.iv c0_i32_51_r6 c1_i32_57_r6 k1_t5
  let c0_i32_80_r6 : BitVec 32 := 0#32
  let v105_r6 : BitVec 1 := Scalar.cmpi .eq arg9_r6 c0_i32_80_r6
  let true_115_r6 : BitVec 1 := 1#1
  let v176_r6 : BitVec 1 := Scalar.xori v105_r6 true_115_r6
  let v177_r6 : BitVec 1 := Scalar.andi v175_r6 v176_r6
  let v178_r6 : BitVec 32 := Scalar.extui v177_r6
  let c0_i32_116_r6 : BitVec 32 := 0#32
  let v179_r6 : BitVec 1 := Scalar.cmpi .ne v178_r6 c0_i32_116_r6
  v179_r6

def k1_off86 (i : grid1.Coords) (arg14_r6 : BitVec 32) : Fin 2 → Nat :=
  let c128_i32_r6 : BitVec 32 := 128#32
  let true_83_r6 : BitVec 1 := 1#1
  let c1_i32_82_r6 : BitVec 32 := 1#32
  let v109_r6 : BitVec 32 := Scalar.subi arg14_r6 c1_i32_82_r6
  let v110_r6 : BitVec 32 := Scalar.select true_83_r6 v109_r6 arg14_r6
  let c_m1_i32_84_r6 : BitVec 32 := 4294967295#32
  let v111_r6 : BitVec 1 := Scalar.cmpi .eq v110_r6 c_m1_i32_84_r6
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let c1_i32_85_r6 : BitVec 32 := 1#32
  let v112_r6 : BitVec 32 := Scalar.subi v29 c1_i32_85_r6
  let v113_r6 : BitVec 32 := Scalar.select v111_r6 v112_r6 v110_r6
  let c8_i32_22 : BitVec 32 := 8#32
  let v30 : BitVec 1 := Scalar.cmpi .slt v27 c8_i32_22
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v114_r6 : BitVec 32 := Scalar.addi v113_r6 v34
  let v192_r6 : BitVec 32 := Scalar.muli c128_i32_r6 v114_r6
  let c0_i32_126_r6 : BitVec 32 := 0#32
  ![v192_r6.toNat, 0]
def k1_off87 (arg13_r6 : BitVec 32) : Fin 1 → Nat :=
  let c2_i32_123_r6 : BitVec 32 := 2#32
  let v191_r6 : BitVec 32 := Scalar.remui arg13_r6 c2_i32_123_r6
  ![v191_r6.toNat]

def k1_chk17 (i : grid1.Coords) (k1_t5 : Fin (k1_t5_loop i).trips) (arg10_r6 : BitVec 32) (arg11_r6 : BitVec 32) (arg12_r6 : BitVec 32) (arg13_r6 : BitVec 32) (arg14_r6 : BitVec 32) : Prop :=
  (∀ (k1_h37 : k1_cond37 i = 1#1), ∀ (k1_h39 : k1_cond39 i k1_t5 arg14_r6 = 1#1), ∀ a, (k1_off74 arg10_r6) a + S1x1x128.size a ≤ S2x1x128.size a) ∧
  (∀ (k1_h37 : k1_cond37 i = 1#1), ∀ (k1_h39 : k1_cond39 i k1_t5 arg14_r6 = 1#1), ∀ a, (k1_off75 i arg14_r6) a + S1x128.size a ≤ S1x1024.size a) ∧
  (∀ (k1_h37 : k1_cond37 i = 1#1), ∀ (k1_h39 : k1_cond39 i k1_t5 arg14_r6 = 1#1), ∀ a, (k1_off76 arg10_r6) a + S1.size a ≤ S2.size a) ∧
  (∀ (k1_h37 : k1_cond37 i = 1#1), ∀ (k1_h40 : k1_cond40 i k1_t5 arg14_r6 = 1#1), ∀ a, (k1_off77 arg11_r6) a + S1x1x128.size a ≤ S2x1x128.size a) ∧
  (∀ (k1_h37 : k1_cond37 i = 1#1), ∀ (k1_h40 : k1_cond40 i k1_t5 arg14_r6 = 1#1), ∀ a, (k1_off78 i arg14_r6) a + S1x128.size a ≤ S1x1024.size a) ∧
  (∀ (k1_h37 : k1_cond37 i = 1#1), ∀ (k1_h40 : k1_cond40 i k1_t5 arg14_r6 = 1#1), ∀ a, (k1_off79 arg11_r6) a + S1.size a ≤ S2.size a) ∧
  (∀ (k1_h37 : k1_cond37 i = 1#1), ∀ (k1_h43 : k1_cond43 i k1_t5 arg14_r6 = 1#1), ∀ a, (k1_off82 arg12_r6) a + S1x128x128.size a ≤ S2x128x128.size a) ∧
  (∀ (k1_h37 : k1_cond37 i = 1#1), ∀ (k1_h43 : k1_cond43 i k1_t5 arg14_r6 = 1#1), ∀ a, (k1_off83 i arg14_r6) a + S128x128.size a ≤ S1024x128.size a) ∧
  (∀ (k1_h37 : k1_cond37 i = 1#1), ∀ (k1_h43 : k1_cond43 i k1_t5 arg14_r6 = 1#1), ∀ a, (k1_off84 arg12_r6) a + S1.size a ≤ S2.size a) ∧
  (∀ (k1_h37 : k1_cond37 i = 1#1), ∀ (k1_h45 : k1_cond45 i k1_t5 arg14_r6 = 1#1), ∀ a, (k1_off85 arg13_r6) a + S1x128x128.size a ≤ S2x128x128.size a) ∧
  (∀ (k1_h37 : k1_cond37 i = 1#1), ∀ (k1_h45 : k1_cond45 i k1_t5 arg14_r6 = 1#1), ∀ a, (k1_off86 i arg14_r6) a + S128x128.size a ≤ S1024x128.size a) ∧
  (∀ (k1_h37 : k1_cond37 i = 1#1), ∀ (k1_h45 : k1_cond45 i k1_t5 arg14_r6 = 1#1), ∀ a, (k1_off87 arg13_r6) a + S1.size a ≤ S2.size a)
theorem k1_off74_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h39 : k1_cond39 i k1_t5 arg14_r6 = 1#1), ∀ a, (k1_off74 arg10_r6) a + S1x1x128.size a ≤ S2x1x128.size a := fun i k1_t5 arg10_r6 arg11_r6 arg12_r6 arg13_r6 arg14_r6 k1_hw17 k1_h37 k1_h39 => k1_hw17.1 k1_h37 k1_h39
theorem k1_off75_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h39 : k1_cond39 i k1_t5 arg14_r6 = 1#1), ∀ a, (k1_off75 i arg14_r6) a + S1x128.size a ≤ S1x1024.size a := fun i k1_t5 arg10_r6 arg11_r6 arg12_r6 arg13_r6 arg14_r6 k1_hw17 k1_h37 k1_h39 => k1_hw17.2.1 k1_h37 k1_h39
theorem k1_off76_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h39 : k1_cond39 i k1_t5 arg14_r6 = 1#1), ∀ a, (k1_off76 arg10_r6) a + S1.size a ≤ S2.size a := fun i k1_t5 arg10_r6 arg11_r6 arg12_r6 arg13_r6 arg14_r6 k1_hw17 k1_h37 k1_h39 => k1_hw17.2.2.1 k1_h37 k1_h39
theorem k1_off77_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h40 : k1_cond40 i k1_t5 arg14_r6 = 1#1), ∀ a, (k1_off77 arg11_r6) a + S1x1x128.size a ≤ S2x1x128.size a := fun i k1_t5 arg10_r6 arg11_r6 arg12_r6 arg13_r6 arg14_r6 k1_hw17 k1_h37 k1_h40 => k1_hw17.2.2.2.1 k1_h37 k1_h40
theorem k1_off78_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h40 : k1_cond40 i k1_t5 arg14_r6 = 1#1), ∀ a, (k1_off78 i arg14_r6) a + S1x128.size a ≤ S1x1024.size a := fun i k1_t5 arg10_r6 arg11_r6 arg12_r6 arg13_r6 arg14_r6 k1_hw17 k1_h37 k1_h40 => k1_hw17.2.2.2.2.1 k1_h37 k1_h40
theorem k1_off79_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h40 : k1_cond40 i k1_t5 arg14_r6 = 1#1), ∀ a, (k1_off79 arg11_r6) a + S1.size a ≤ S2.size a := fun i k1_t5 arg10_r6 arg11_r6 arg12_r6 arg13_r6 arg14_r6 k1_hw17 k1_h37 k1_h40 => k1_hw17.2.2.2.2.2.1 k1_h37 k1_h40
theorem k1_off82_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h43 : k1_cond43 i k1_t5 arg14_r6 = 1#1), ∀ a, (k1_off82 arg12_r6) a + S1x128x128.size a ≤ S2x128x128.size a := fun i k1_t5 arg10_r6 arg11_r6 arg12_r6 arg13_r6 arg14_r6 k1_hw17 k1_h37 k1_h43 => k1_hw17.2.2.2.2.2.2.1 k1_h37 k1_h43
theorem k1_off83_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h43 : k1_cond43 i k1_t5 arg14_r6 = 1#1), ∀ a, (k1_off83 i arg14_r6) a + S128x128.size a ≤ S1024x128.size a := fun i k1_t5 arg10_r6 arg11_r6 arg12_r6 arg13_r6 arg14_r6 k1_hw17 k1_h37 k1_h43 => k1_hw17.2.2.2.2.2.2.2.1 k1_h37 k1_h43
theorem k1_off84_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h43 : k1_cond43 i k1_t5 arg14_r6 = 1#1), ∀ a, (k1_off84 arg12_r6) a + S1.size a ≤ S2.size a := fun i k1_t5 arg10_r6 arg11_r6 arg12_r6 arg13_r6 arg14_r6 k1_hw17 k1_h37 k1_h43 => k1_hw17.2.2.2.2.2.2.2.2.1 k1_h37 k1_h43
theorem k1_off85_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h45 : k1_cond45 i k1_t5 arg14_r6 = 1#1), ∀ a, (k1_off85 arg13_r6) a + S1x128x128.size a ≤ S2x128x128.size a := fun i k1_t5 arg10_r6 arg11_r6 arg12_r6 arg13_r6 arg14_r6 k1_hw17 k1_h37 k1_h45 => k1_hw17.2.2.2.2.2.2.2.2.2.1 k1_h37 k1_h45
theorem k1_off86_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h45 : k1_cond45 i k1_t5 arg14_r6 = 1#1), ∀ a, (k1_off86 i arg14_r6) a + S128x128.size a ≤ S1024x128.size a := fun i k1_t5 arg10_r6 arg11_r6 arg12_r6 arg13_r6 arg14_r6 k1_hw17 k1_h37 k1_h45 => k1_hw17.2.2.2.2.2.2.2.2.2.2.1 k1_h37 k1_h45
theorem k1_off87_inb : ∀ (i : grid1.Coords) (k1_t5 : Fin (k1_t5_loop i).trips) (arg10_r6 : BitVec 32) (arg11_r6 : BitVec 32) (arg12_r6 : BitVec 32) (arg13_r6 : BitVec 32) (arg14_r6 : BitVec 32) (k1_hw17 : k1_chk17 i k1_t5 arg10_r6 arg11_r6 arg12_r6 arg13_r6 arg14_r6), ∀ (k1_h37 : k1_cond37 i = 1#1), ∀ (k1_h45 : k1_cond45 i k1_t5 arg14_r6 = 1#1), ∀ a, (k1_off87 arg13_r6) a + S1.size a ≤ S2.size a := fun i k1_t5 arg10_r6 arg11_r6 arg12_r6 arg13_r6 arg14_r6 k1_hw17 k1_h37 k1_h45 => k1_hw17.2.2.2.2.2.2.2.2.2.2.2 k1_h37 k1_h45

@[reducible] def k1_t6_loop (i : grid1.Coords) : Scf.Loop 32 :=
  let c0_i32_51_r6 : BitVec 32 := 0#32
  let c1_i32_25 : BitVec 32 := 1#32
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v35 : BitVec 32 := Scalar.muli c1_i32_25 v29
  let v66_r6 : BitVec 32 := Scalar.subi v35 c0_i32_51_r6
  let c1_i32_56_r6 : BitVec 32 := 1#32
  let v68_r6 : BitVec 32 := Scalar.divsi v66_r6 c1_i32_56_r6
  let v69_r6 : BitVec 32 := Scalar.muli v68_r6 c1_i32_56_r6
  let v70_r6 : BitVec 32 := Scalar.addi c0_i32_51_r6 v69_r6
  let v67_r6 : BitVec 32 := Scalar.addi c0_i32_51_r6 v66_r6
  let c1_i32_58_r6 : BitVec 32 := 1#32
  ⟨v70_r6, v67_r6, c1_i32_58_r6⟩
def k1_off88 (arg10_r6 : BitVec 32) : Fin 3 → Nat :=
  let c2_i32_123_r6 : BitVec 32 := 2#32
  let v191_r6 : BitVec 32 := Scalar.remui arg10_r6 c2_i32_123_r6
  let c0_i32_124_r6 : BitVec 32 := 0#32
  let c0_i32_125_r6 : BitVec 32 := 0#32
  ![v191_r6.toNat, 0, 0]
def k1_cond46 (i : grid1.Coords) (k1_t6 : Fin (k1_t6_loop i).trips) (arg14_r6 : BitVec 32) : BitVec 1 :=
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let true_87_r6 : BitVec 1 := 1#1
  let c1_i32_86_r6 : BitVec 32 := 1#32
  let v115_r6 : BitVec 32 := Scalar.addi arg14_r6 c1_i32_86_r6
  let v116_r6 : BitVec 32 := Scalar.select true_87_r6 v115_r6 arg14_r6
  let v117_r6 : BitVec 1 := Scalar.cmpi .eq v116_r6 v29
  let c0_i32_88_r6 : BitVec 32 := 0#32
  let v118_r6 : BitVec 32 := Scalar.select v117_r6 c0_i32_88_r6 v116_r6
  let v119_r6 : BitVec 32 := Scalar.addi v118_r6 v34
  let v125_r6 : BitVec 1 := Scalar.cmpi .ne v108_r6 v119_r6
  let c0_i32_51_r6 : BitVec 32 := 0#32
  let c1_i32_25 : BitVec 32 := 1#32
  let v35 : BitVec 32 := Scalar.muli c1_i32_25 v29
  let v66_r6 : BitVec 32 := Scalar.subi v35 c0_i32_51_r6
  let c1_i32_56_r6 : BitVec 32 := 1#32
  let v68_r6 : BitVec 32 := Scalar.divsi v66_r6 c1_i32_56_r6
  let v69_r6 : BitVec 32 := Scalar.muli v68_r6 c1_i32_56_r6
  let v70_r6 : BitVec 32 := Scalar.addi c0_i32_51_r6 v69_r6
  let c1_i32_58_r6 : BitVec 32 := 1#32
  let arg9_r6 : BitVec 32 := Scf.iv v70_r6 c1_i32_58_r6 k1_t6
  let c1_i32_79_r6 : BitVec 32 := 1#32
  let v104_r6 : BitVec 32 := Scalar.muli c1_i32_79_r6 v29
  let c2_i32_r6 : BitVec 32 := 2#32
  let v126_r6 : BitVec 32 := Scalar.subi v104_r6 c2_i32_r6
  let c1_i32_92_r6 : BitVec 32 := 1#32
  let v127_r6 : BitVec 32 := Scalar.addi v126_r6 c1_i32_92_r6
  let v128_r6 : BitVec 1 := Scalar.cmpi .sge arg9_r6 v127_r6
  let true_93_r6 : BitVec 1 := 1#1
  let v129_r6 : BitVec 1 := Scalar.xori v128_r6 true_93_r6
  let v130_r6 : BitVec 1 := Scalar.andi v125_r6 v129_r6
  let true_94_r6 : BitVec 1 := 1#1
  let v131_r6 : BitVec 1 := Scalar.andi v130_r6 true_94_r6
  let v132_r6 : BitVec 32 := Scalar.extui v131_r6
  let c0_i32_95_r6 : BitVec 32 := 0#32
  let v133_r6 : BitVec 1 := Scalar.cmpi .ne v132_r6 c0_i32_95_r6
  v133_r6

def k1_off89 (i : grid1.Coords) (arg14_r6 : BitVec 32) : Fin 2 → Nat :=
  let c0_i32_126_r6 : BitVec 32 := 0#32
  let c128_i32_r6 : BitVec 32 := 128#32
  let true_87_r6 : BitVec 1 := 1#1
  let c1_i32_86_r6 : BitVec 32 := 1#32
  let v115_r6 : BitVec 32 := Scalar.addi arg14_r6 c1_i32_86_r6
  let v116_r6 : BitVec 32 := Scalar.select true_87_r6 v115_r6 arg14_r6
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v117_r6 : BitVec 1 := Scalar.cmpi .eq v116_r6 v29
  let c0_i32_88_r6 : BitVec 32 := 0#32
  let v118_r6 : BitVec 32 := Scalar.select v117_r6 c0_i32_88_r6 v116_r6
  let c8_i32_22 : BitVec 32 := 8#32
  let v30 : BitVec 1 := Scalar.cmpi .slt v27 c8_i32_22
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v119_r6 : BitVec 32 := Scalar.addi v118_r6 v34
  let v192_r6 : BitVec 32 := Scalar.muli c128_i32_r6 v119_r6
  ![0, v192_r6.toNat]
def k1_off90 (arg10_r6 : BitVec 32) : Fin 1 → Nat :=
  let c2_i32_123_r6 : BitVec 32 := 2#32
  let v191_r6 : BitVec 32 := Scalar.remui arg10_r6 c2_i32_123_r6
  ![v191_r6.toNat]
def k1_off91 (arg11_r6 : BitVec 32) : Fin 3 → Nat :=
  let c2_i32_123_r6 : BitVec 32 := 2#32
  let v192_r6 : BitVec 32 := Scalar.remui arg11_r6 c2_i32_123_r6
  let c0_i32_124_r6 : BitVec 32 := 0#32
  let c0_i32_125_r6 : BitVec 32 := 0#32
  ![v192_r6.toNat, 0, 0]
def k1_cond47 (i : grid1.Coords) (k1_t6 : Fin (k1_t6_loop i).trips) (arg14_r6 : BitVec 32) : BitVec 1 :=
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let true_83_r6 : BitVec 1 := 1#1
  let c1_i32_82_r6 : BitVec 32 := 1#32
  let v109_r6 : BitVec 32 := Scalar.subi arg14_r6 c1_i32_82_r6
  let v110_r6 : BitVec 32 := Scalar.select true_83_r6 v109_r6 arg14_r6
  let c_m1_i32_84_r6 : BitVec 32 := 4294967295#32
  let v111_r6 : BitVec 1 := Scalar.cmpi .eq v110_r6 c_m1_i32_84_r6
  let c1_i32_85_r6 : BitVec 32 := 1#32
  let v112_r6 : BitVec 32 := Scalar.subi v29 c1_i32_85_r6
  let v113_r6 : BitVec 32 := Scalar.select v111_r6 v112_r6 v110_r6
  let v114_r6 : BitVec 32 := Scalar.addi v113_r6 v34
  let v143_r6 : BitVec 1 := Scalar.cmpi .ne v108_r6 v114_r6
  let c0_i32_51_r6 : BitVec 32 := 0#32
  let c1_i32_25 : BitVec 32 := 1#32
  let v35 : BitVec 32 := Scalar.muli c1_i32_25 v29
  let v66_r6 : BitVec 32 := Scalar.subi v35 c0_i32_51_r6
  let c1_i32_56_r6 : BitVec 32 := 1#32
  let v68_r6 : BitVec 32 := Scalar.divsi v66_r6 c1_i32_56_r6
  let v69_r6 : BitVec 32 := Scalar.muli v68_r6 c1_i32_56_r6
  let v70_r6 : BitVec 32 := Scalar.addi c0_i32_51_r6 v69_r6
  let c1_i32_58_r6 : BitVec 32 := 1#32
  let arg9_r6 : BitVec 32 := Scf.iv v70_r6 c1_i32_58_r6 k1_t6
  let c0_i32_80_r6 : BitVec 32 := 0#32
  let v105_r6 : BitVec 1 := Scalar.cmpi .eq arg9_r6 c0_i32_80_r6
  let v144_r6 : BitVec 1 := Scalar.ori v143_r6 v105_r6
  let c0_i32_101_r6 : BitVec 32 := 0#32
  let v145_r6 : BitVec 1 := Scalar.cmpi .sge arg9_r6 c0_i32_101_r6
  let v146_r6 : BitVec 1 := Scalar.andi v144_r6 v145_r6
  let v147_r6 : BitVec 32 := Scalar.extui v146_r6
  let c0_i32_102_r6 : BitVec 32 := 0#32
  let v148_r6 : BitVec 1 := Scalar.cmpi .ne v147_r6 c0_i32_102_r6
  v148_r6

def k1_off92 (i : grid1.Coords) (arg14_r6 : BitVec 32) : Fin 2 → Nat :=
  let c0_i32_126_r6 : BitVec 32 := 0#32
  let c128_i32_r6 : BitVec 32 := 128#32
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let v191_r6 : BitVec 32 := Scalar.muli c128_i32_r6 v108_r6
  ![0, v191_r6.toNat]
def k1_off93 (arg11_r6 : BitVec 32) : Fin 1 → Nat :=
  let c2_i32_123_r6 : BitVec 32 := 2#32
  let v192_r6 : BitVec 32 := Scalar.remui arg11_r6 c2_i32_123_r6
  ![v192_r6.toNat]
def k1_off94 (arg12_r6 : BitVec 32) : Fin 3 → Nat :=
  let c2_i32_106_r6 : BitVec 32 := 2#32
  let v156_r6 : BitVec 32 := Scalar.remui arg12_r6 c2_i32_106_r6
  let c0_i32_123_r8 : BitVec 32 := 0#32
  let c0_i32_124_r8 : BitVec 32 := 0#32
  ![v156_r6.toNat, 0, 0]

def k1_chk21 (i : grid1.Coords) (k1_t6 : Fin (k1_t6_loop i).trips) (arg12_r6 : BitVec 32) : Prop :=
  (∀ (k1_h37 : k1_cond37 i = 1#1), ∀ a, (k1_off94 arg12_r6) a + S1x128x128.size a ≤ S2x128x128.size a)
theorem k1_off94_inb : ∀ (i : grid1.Coords) (k1_t6 : Fin (k1_t6_loop i).trips) (arg12_r6 : BitVec 32) (k1_hw21 : k1_chk21 i k1_t6 arg12_r6), ∀ (k1_h37 : k1_cond37 i = 1#1), ∀ a, (k1_off94 arg12_r6) a + S1x128x128.size a ≤ S2x128x128.size a := fun i k1_t6 arg12_r6 k1_hw21 k1_h37 => k1_hw21 k1_h37

def k1_off95 (arg11_r6 : BitVec 32) : Fin 3 → Nat :=
  let c2_i32_105_r6 : BitVec 32 := 2#32
  let v155_r6 : BitVec 32 := Scalar.remui arg11_r6 c2_i32_105_r6
  let c0_i32_125_r8 : BitVec 32 := 0#32
  let c0_i32_126_r8 : BitVec 32 := 0#32
  ![v155_r6.toNat, 0, 0]

def k1_chk22 (i : grid1.Coords) (k1_t6 : Fin (k1_t6_loop i).trips) (arg11_r6 : BitVec 32) : Prop :=
  (∀ (k1_h37 : k1_cond37 i = 1#1), ∀ a, (k1_off95 arg11_r6) a + S1x1x128.size a ≤ S2x1x128.size a)
theorem k1_off95_inb : ∀ (i : grid1.Coords) (k1_t6 : Fin (k1_t6_loop i).trips) (arg11_r6 : BitVec 32) (k1_hw22 : k1_chk22 i k1_t6 arg11_r6), ∀ (k1_h37 : k1_cond37 i = 1#1), ∀ a, (k1_off95 arg11_r6) a + S1x1x128.size a ≤ S2x1x128.size a := fun i k1_t6 arg11_r6 k1_hw22 k1_h37 => k1_hw22 k1_h37

def k1_off96 (arg12_r6 : BitVec 32) : Fin 3 → Nat :=
  let c2_i32_123_r6 : BitVec 32 := 2#32
  let v191_r6 : BitVec 32 := Scalar.remui arg12_r6 c2_i32_123_r6
  let c0_i32_124_r6 : BitVec 32 := 0#32
  let c0_i32_125_r6 : BitVec 32 := 0#32
  ![v191_r6.toNat, 0, 0]
def k1_cond50 (i : grid1.Coords) (k1_t6 : Fin (k1_t6_loop i).trips) (arg14_r6 : BitVec 32) : BitVec 1 :=
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let true_87_r6 : BitVec 1 := 1#1
  let c1_i32_86_r6 : BitVec 32 := 1#32
  let v115_r6 : BitVec 32 := Scalar.addi arg14_r6 c1_i32_86_r6
  let v116_r6 : BitVec 32 := Scalar.select true_87_r6 v115_r6 arg14_r6
  let v117_r6 : BitVec 1 := Scalar.cmpi .eq v116_r6 v29
  let c0_i32_88_r6 : BitVec 32 := 0#32
  let v118_r6 : BitVec 32 := Scalar.select v117_r6 c0_i32_88_r6 v116_r6
  let v119_r6 : BitVec 32 := Scalar.addi v118_r6 v34
  let v162_r6 : BitVec 1 := Scalar.cmpi .ne v108_r6 v119_r6
  let c0_i32_51_r6 : BitVec 32 := 0#32
  let c1_i32_25 : BitVec 32 := 1#32
  let v35 : BitVec 32 := Scalar.muli c1_i32_25 v29
  let v66_r6 : BitVec 32 := Scalar.subi v35 c0_i32_51_r6
  let c1_i32_56_r6 : BitVec 32 := 1#32
  let v68_r6 : BitVec 32 := Scalar.divsi v66_r6 c1_i32_56_r6
  let v69_r6 : BitVec 32 := Scalar.muli v68_r6 c1_i32_56_r6
  let v70_r6 : BitVec 32 := Scalar.addi c0_i32_51_r6 v69_r6
  let c1_i32_58_r6 : BitVec 32 := 1#32
  let arg9_r6 : BitVec 32 := Scf.iv v70_r6 c1_i32_58_r6 k1_t6
  let c1_i32_79_r6 : BitVec 32 := 1#32
  let v104_r6 : BitVec 32 := Scalar.muli c1_i32_79_r6 v29
  let c1_i32_81_r6 : BitVec 32 := 1#32
  let v106_r6 : BitVec 32 := Scalar.subi v104_r6 c1_i32_81_r6
  let v107_r6 : BitVec 1 := Scalar.cmpi .eq arg9_r6 v106_r6
  let v163_r6 : BitVec 1 := Scalar.ori v162_r6 v107_r6
  let v164_r6 : BitVec 32 := Scalar.extui v163_r6
  let c0_i32_109_r6 : BitVec 32 := 0#32
  let v165_r6 : BitVec 1 := Scalar.cmpi .ne v164_r6 c0_i32_109_r6
  v165_r6

def k1_off97 (i : grid1.Coords) (arg14_r6 : BitVec 32) : Fin 2 → Nat :=
  let c128_i32_r6 : BitVec 32 := 128#32
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let v192_r6 : BitVec 32 := Scalar.muli c128_i32_r6 v108_r6
  let c0_i32_126_r6 : BitVec 32 := 0#32
  ![v192_r6.toNat, 0]
def k1_off98 (arg12_r6 : BitVec 32) : Fin 1 → Nat :=
  let c2_i32_123_r6 : BitVec 32 := 2#32
  let v191_r6 : BitVec 32 := Scalar.remui arg12_r6 c2_i32_123_r6
  ![v191_r6.toNat]
def k1_off99 (arg13_r6 : BitVec 32) : Fin 3 → Nat :=
  let c2_i32_123_r6 : BitVec 32 := 2#32
  let v191_r6 : BitVec 32 := Scalar.remui arg13_r6 c2_i32_123_r6
  let c0_i32_124_r6 : BitVec 32 := 0#32
  let c0_i32_125_r6 : BitVec 32 := 0#32
  ![v191_r6.toNat, 0, 0]
def k1_cond52 (i : grid1.Coords) (k1_t6 : Fin (k1_t6_loop i).trips) (arg14_r6 : BitVec 32) : BitVec 1 :=
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_22 : BitVec 32 := 8#32
  let v30 : BitVec 1 := Scalar.cmpi .slt v27 c8_i32_22
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v108_r6 : BitVec 32 := Scalar.addi arg14_r6 v34
  let true_83_r6 : BitVec 1 := 1#1
  let c1_i32_82_r6 : BitVec 32 := 1#32
  let v109_r6 : BitVec 32 := Scalar.subi arg14_r6 c1_i32_82_r6
  let v110_r6 : BitVec 32 := Scalar.select true_83_r6 v109_r6 arg14_r6
  let c_m1_i32_84_r6 : BitVec 32 := 4294967295#32
  let v111_r6 : BitVec 1 := Scalar.cmpi .eq v110_r6 c_m1_i32_84_r6
  let c1_i32_85_r6 : BitVec 32 := 1#32
  let v112_r6 : BitVec 32 := Scalar.subi v29 c1_i32_85_r6
  let v113_r6 : BitVec 32 := Scalar.select v111_r6 v112_r6 v110_r6
  let v114_r6 : BitVec 32 := Scalar.addi v113_r6 v34
  let v175_r6 : BitVec 1 := Scalar.cmpi .ne v108_r6 v114_r6
  let c0_i32_51_r6 : BitVec 32 := 0#32
  let c1_i32_25 : BitVec 32 := 1#32
  let v35 : BitVec 32 := Scalar.muli c1_i32_25 v29
  let v66_r6 : BitVec 32 := Scalar.subi v35 c0_i32_51_r6
  let c1_i32_56_r6 : BitVec 32 := 1#32
  let v68_r6 : BitVec 32 := Scalar.divsi v66_r6 c1_i32_56_r6
  let v69_r6 : BitVec 32 := Scalar.muli v68_r6 c1_i32_56_r6
  let v70_r6 : BitVec 32 := Scalar.addi c0_i32_51_r6 v69_r6
  let c1_i32_58_r6 : BitVec 32 := 1#32
  let arg9_r6 : BitVec 32 := Scf.iv v70_r6 c1_i32_58_r6 k1_t6
  let c0_i32_80_r6 : BitVec 32 := 0#32
  let v105_r6 : BitVec 1 := Scalar.cmpi .eq arg9_r6 c0_i32_80_r6
  let true_115_r6 : BitVec 1 := 1#1
  let v176_r6 : BitVec 1 := Scalar.xori v105_r6 true_115_r6
  let v177_r6 : BitVec 1 := Scalar.andi v175_r6 v176_r6
  let v178_r6 : BitVec 32 := Scalar.extui v177_r6
  let c0_i32_116_r6 : BitVec 32 := 0#32
  let v179_r6 : BitVec 1 := Scalar.cmpi .ne v178_r6 c0_i32_116_r6
  v179_r6

def k1_off100 (i : grid1.Coords) (arg14_r6 : BitVec 32) : Fin 2 → Nat :=
  let c128_i32_r6 : BitVec 32 := 128#32
  let true_83_r6 : BitVec 1 := 1#1
  let c1_i32_82_r6 : BitVec 32 := 1#32
  let v109_r6 : BitVec 32 := Scalar.subi arg14_r6 c1_i32_82_r6
  let v110_r6 : BitVec 32 := Scalar.select true_83_r6 v109_r6 arg14_r6
  let c_m1_i32_84_r6 : BitVec 32 := 4294967295#32
  let v111_r6 : BitVec 1 := Scalar.cmpi .eq v110_r6 c_m1_i32_84_r6
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let c1_i32_85_r6 : BitVec 32 := 1#32
  let v112_r6 : BitVec 32 := Scalar.subi v29 c1_i32_85_r6
  let v113_r6 : BitVec 32 := Scalar.select v111_r6 v112_r6 v110_r6
  let c8_i32_22 : BitVec 32 := 8#32
  let v30 : BitVec 1 := Scalar.cmpi .slt v27 c8_i32_22
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v114_r6 : BitVec 32 := Scalar.addi v113_r6 v34
  let v192_r6 : BitVec 32 := Scalar.muli c128_i32_r6 v114_r6
  let c0_i32_126_r6 : BitVec 32 := 0#32
  ![v192_r6.toNat, 0]
def k1_off101 (arg13_r6 : BitVec 32) : Fin 1 → Nat :=
  let c2_i32_123_r6 : BitVec 32 := 2#32
  let v191_r6 : BitVec 32 := Scalar.remui arg13_r6 c2_i32_123_r6
  ![v191_r6.toNat]

def k1_chk20 (i : grid1.Coords) (k1_t6 : Fin (k1_t6_loop i).trips) (arg10_r6 : BitVec 32) (arg11_r6 : BitVec 32) (arg12_r6 : BitVec 32) (arg13_r6 : BitVec 32) (arg14_r6 : BitVec 32) : Prop :=
  (∀ (k1_h37 : k1_cond37 i = 1#1), ∀ (k1_h46 : k1_cond46 i k1_t6 arg14_r6 = 1#1), ∀ a, (k1_off88 arg10_r6) a + S1x1x128.size a ≤ S2x1x128.size a) ∧
  (∀ (k1_h37 : k1_cond37 i = 1#1), ∀ (k1_h46 : k1_cond46 i k1_t6 arg14_r6 = 1#1), ∀ a, (k1_off89 i arg14_r6) a + S1x128.size a ≤ S1x1024.size a) ∧
  (∀ (k1_h37 : k1_cond37 i = 1#1), ∀ (k1_h46 : k1_cond46 i k1_t6 arg14_r6 = 1#1), ∀ a, (k1_off90 arg10_r6) a + S1.size a ≤ S2.size a) ∧
  (∀ (k1_h37 : k1_cond37 i = 1#1), ∀ (k1_h47 : k1_cond47 i k1_t6 arg14_r6 = 1#1), ∀ a, (k1_off91 arg11_r6) a + S1x1x128.size a ≤ S2x1x128.size a) ∧
  (∀ (k1_h37 : k1_cond37 i = 1#1), ∀ (k1_h47 : k1_cond47 i k1_t6 arg14_r6 = 1#1), ∀ a, (k1_off92 i arg14_r6) a + S1x128.size a ≤ S1x1024.size a) ∧
  (∀ (k1_h37 : k1_cond37 i = 1#1), ∀ (k1_h47 : k1_cond47 i k1_t6 arg14_r6 = 1#1), ∀ a, (k1_off93 arg11_r6) a + S1.size a ≤ S2.size a) ∧
  (∀ (k1_h37 : k1_cond37 i = 1#1), ∀ (k1_h50 : k1_cond50 i k1_t6 arg14_r6 = 1#1), ∀ a, (k1_off96 arg12_r6) a + S1x128x128.size a ≤ S2x128x128.size a) ∧
  (∀ (k1_h37 : k1_cond37 i = 1#1), ∀ (k1_h50 : k1_cond50 i k1_t6 arg14_r6 = 1#1), ∀ a, (k1_off97 i arg14_r6) a + S128x128.size a ≤ S1024x128.size a) ∧
  (∀ (k1_h37 : k1_cond37 i = 1#1), ∀ (k1_h50 : k1_cond50 i k1_t6 arg14_r6 = 1#1), ∀ a, (k1_off98 arg12_r6) a + S1.size a ≤ S2.size a) ∧
  (∀ (k1_h37 : k1_cond37 i = 1#1), ∀ (k1_h52 : k1_cond52 i k1_t6 arg14_r6 = 1#1), ∀ a, (k1_off99 arg13_r6) a + S1x128x128.size a ≤ S2x128x128.size a) ∧
  (∀ (k1_h37 : k1_cond37 i = 1#1), ∀ (k1_h52 : k1_cond52 i k1_t6 arg14_r6 = 1#1), ∀ a, (k1_off100 i arg14_r6) a + S128x128.size a ≤ S1024x128.size a) ∧
  (∀ (k1_h37 : k1_cond37 i = 1#1), ∀ (k1_h52 : k1_cond52 i k1_t6 arg14_r6 = 1#1), ∀ a, (k1_off101 arg13_r6) a + S1.size a ≤ S2.size a)
theorem k1_off88_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h46 : k1_cond46 i k1_t6 arg14_r6 = 1#1), ∀ a, (k1_off88 arg10_r6) a + S1x1x128.size a ≤ S2x1x128.size a := fun i k1_t6 arg10_r6 arg11_r6 arg12_r6 arg13_r6 arg14_r6 k1_hw20 k1_h37 k1_h46 => k1_hw20.1 k1_h37 k1_h46
theorem k1_off89_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h46 : k1_cond46 i k1_t6 arg14_r6 = 1#1), ∀ a, (k1_off89 i arg14_r6) a + S1x128.size a ≤ S1x1024.size a := fun i k1_t6 arg10_r6 arg11_r6 arg12_r6 arg13_r6 arg14_r6 k1_hw20 k1_h37 k1_h46 => k1_hw20.2.1 k1_h37 k1_h46
theorem k1_off90_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h46 : k1_cond46 i k1_t6 arg14_r6 = 1#1), ∀ a, (k1_off90 arg10_r6) a + S1.size a ≤ S2.size a := fun i k1_t6 arg10_r6 arg11_r6 arg12_r6 arg13_r6 arg14_r6 k1_hw20 k1_h37 k1_h46 => k1_hw20.2.2.1 k1_h37 k1_h46
theorem k1_off91_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h47 : k1_cond47 i k1_t6 arg14_r6 = 1#1), ∀ a, (k1_off91 arg11_r6) a + S1x1x128.size a ≤ S2x1x128.size a := fun i k1_t6 arg10_r6 arg11_r6 arg12_r6 arg13_r6 arg14_r6 k1_hw20 k1_h37 k1_h47 => k1_hw20.2.2.2.1 k1_h37 k1_h47
theorem k1_off92_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h47 : k1_cond47 i k1_t6 arg14_r6 = 1#1), ∀ a, (k1_off92 i arg14_r6) a + S1x128.size a ≤ S1x1024.size a := fun i k1_t6 arg10_r6 arg11_r6 arg12_r6 arg13_r6 arg14_r6 k1_hw20 k1_h37 k1_h47 => k1_hw20.2.2.2.2.1 k1_h37 k1_h47
theorem k1_off93_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h47 : k1_cond47 i k1_t6 arg14_r6 = 1#1), ∀ a, (k1_off93 arg11_r6) a + S1.size a ≤ S2.size a := fun i k1_t6 arg10_r6 arg11_r6 arg12_r6 arg13_r6 arg14_r6 k1_hw20 k1_h37 k1_h47 => k1_hw20.2.2.2.2.2.1 k1_h37 k1_h47
theorem k1_off96_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h50 : k1_cond50 i k1_t6 arg14_r6 = 1#1), ∀ a, (k1_off96 arg12_r6) a + S1x128x128.size a ≤ S2x128x128.size a := fun i k1_t6 arg10_r6 arg11_r6 arg12_r6 arg13_r6 arg14_r6 k1_hw20 k1_h37 k1_h50 => k1_hw20.2.2.2.2.2.2.1 k1_h37 k1_h50
theorem k1_off97_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h50 : k1_cond50 i k1_t6 arg14_r6 = 1#1), ∀ a, (k1_off97 i arg14_r6) a + S128x128.size a ≤ S1024x128.size a := fun i k1_t6 arg10_r6 arg11_r6 arg12_r6 arg13_r6 arg14_r6 k1_hw20 k1_h37 k1_h50 => k1_hw20.2.2.2.2.2.2.2.1 k1_h37 k1_h50
theorem k1_off98_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h50 : k1_cond50 i k1_t6 arg14_r6 = 1#1), ∀ a, (k1_off98 arg12_r6) a + S1.size a ≤ S2.size a := fun i k1_t6 arg10_r6 arg11_r6 arg12_r6 arg13_r6 arg14_r6 k1_hw20 k1_h37 k1_h50 => k1_hw20.2.2.2.2.2.2.2.2.1 k1_h37 k1_h50
theorem k1_off99_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h52 : k1_cond52 i k1_t6 arg14_r6 = 1#1), ∀ a, (k1_off99 arg13_r6) a + S1x128x128.size a ≤ S2x128x128.size a := fun i k1_t6 arg10_r6 arg11_r6 arg12_r6 arg13_r6 arg14_r6 k1_hw20 k1_h37 k1_h52 => k1_hw20.2.2.2.2.2.2.2.2.2.1 k1_h37 k1_h52
theorem k1_off100_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h52 : k1_cond52 i k1_t6 arg14_r6 = 1#1), ∀ a, (k1_off100 i arg14_r6) a + S128x128.size a ≤ S1024x128.size a := fun i k1_t6 arg10_r6 arg11_r6 arg12_r6 arg13_r6 arg14_r6 k1_hw20 k1_h37 k1_h52 => k1_hw20.2.2.2.2.2.2.2.2.2.2.1 k1_h37 k1_h52
theorem k1_off101_inb : ∀ (i : grid1.Coords) (k1_t6 : Fin (k1_t6_loop i).trips) (arg10_r6 : BitVec 32) (arg11_r6 : BitVec 32) (arg12_r6 : BitVec 32) (arg13_r6 : BitVec 32) (arg14_r6 : BitVec 32) (k1_hw20 : k1_chk20 i k1_t6 arg10_r6 arg11_r6 arg12_r6 arg13_r6 arg14_r6), ∀ (k1_h37 : k1_cond37 i = 1#1), ∀ (k1_h52 : k1_cond52 i k1_t6 arg14_r6 = 1#1), ∀ a, (k1_off101 arg13_r6) a + S1.size a ≤ S2.size a := fun i k1_t6 arg10_r6 arg11_r6 arg12_r6 arg13_r6 arg14_r6 k1_hw20 k1_h37 k1_h52 => k1_hw20.2.2.2.2.2.2.2.2.2.2.2 k1_h37 k1_h52

def k1_cond54 (i : grid1.Coords) : BitVec 1 :=
  let c1_i32_25 : BitVec 32 := 1#32
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let v35 : BitVec 32 := Scalar.muli c1_i32_25 v29
  let c1_i32_63_r6 : BitVec 32 := 1#32
  let v78_r6 : BitVec 32 := Scalar.subi v35 c1_i32_63_r6
  let c1_i32_64_r6 : BitVec 32 := 1#32
  let v79_r6 : BitVec 32 := Scalar.muli c1_i32_64_r6 v29
  let c1_i32_66_r6 : BitVec 32 := 1#32
  let v81_r6 : BitVec 32 := Scalar.subi v79_r6 c1_i32_66_r6
  let v82_r6 : BitVec 1 := Scalar.cmpi .eq v78_r6 v81_r6
  let v102_r6 : BitVec 32 := Scalar.extui v82_r6
  let c0_i32_78_r6 : BitVec 32 := 0#32
  let v103_r6 : BitVec 1 := Scalar.cmpi .ne v102_r6 c0_i32_78_r6
  v103_r6

def k1_off102 (v72_3_r6 : BitVec 32) : Fin 3 → Nat :=
  let c2_i32_r6 : BitVec 32 := 2#32
  let v104_r6 : BitVec 32 := Scalar.remui v72_3_r6 c2_i32_r6
  let c0_i32_79_r6 : BitVec 32 := 0#32
  let c0_i32_80_r6 : BitVec 32 := 0#32
  ![v104_r6.toNat, 0, 0]

def k1_off103 (i : grid1.Coords) (v72_4_r6 : BitVec 32) : Fin 2 → Nat :=
  let c128_i32_r6 : BitVec 32 := 128#32
  let true_60_r6 : BitVec 1 := 1#1
  let c1_i32_59_r6 : BitVec 32 := 1#32
  let v73_r6 : BitVec 32 := Scalar.subi v72_4_r6 c1_i32_59_r6
  let v74_r6 : BitVec 32 := Scalar.select true_60_r6 v73_r6 v72_4_r6
  let c_m1_i32_61_r6 : BitVec 32 := 4294967295#32
  let v75_r6 : BitVec 1 := Scalar.cmpi .eq v74_r6 c_m1_i32_61_r6
  let c0_i32_17 : BitVec 32 := 0#32
  let arg1 : BitVec 32 := BitVec.ofNat 32 (i 1).val
  let c1_i32_16 : BitVec 32 := 1#32
  let v24 : BitVec 32 := Scalar.muli arg1 c1_i32_16
  let v25 : BitVec 32 := Scalar.addi c0_i32_17 v24
  let arg0 : BitVec 32 := BitVec.ofNat 32 (i 0).val
  let c16_i32_18 : BitVec 32 := 16#32
  let v26 : BitVec 32 := Scalar.muli arg0 c16_i32_18
  let v27 : BitVec 32 := Scalar.addi v25 v26
  let c8_i32_19 : BitVec 32 := 8#32
  let v28 : BitVec 1 := Scalar.cmpi .slt v27 c8_i32_19
  let c1_i32_20 : BitVec 32 := 1#32
  let c0_i32_21 : BitVec 32 := 0#32
  let v29 : BitVec 32 := Scalar.select v28 c1_i32_20 c0_i32_21
  let c1_i32_62_r6 : BitVec 32 := 1#32
  let v76_r6 : BitVec 32 := Scalar.subi v29 c1_i32_62_r6
  let v77_r6 : BitVec 32 := Scalar.select v75_r6 v76_r6 v74_r6
  let c8_i32_22 : BitVec 32 := 8#32
  let v30 : BitVec 1 := Scalar.cmpi .slt v27 c8_i32_22
  let v31 : BitVec 32 := Scalar.muli v27 v29
  let c0_i32_23 : BitVec 32 := 0#32
  let v32 : BitVec 32 := Scalar.muli v27 c0_i32_23
  let c8_i32_24 : BitVec 32 := 8#32
  let v33 : BitVec 32 := Scalar.addi v32 c8_i32_24
  let v34 : BitVec 32 := Scalar.select v30 v31 v33
  let v83_r6 : BitVec 32 := Scalar.addi v77_r6 v34
  let v105_r6 : BitVec 32 := Scalar.muli c128_i32_r6 v83_r6
  let c0_i32_81_r6 : BitVec 32 := 0#32
  ![v105_r6.toNat, 0]

def k1_chk24 (i : grid1.Coords) (v72_4_r6 : BitVec 32) : Prop :=
  (∀ (k1_h37 : k1_cond37 i = 1#1), ∀ (k1_h54 : k1_cond54 i = 1#1), ∀ a, (k1_off103 i v72_4_r6) a + S128x128.size a ≤ S1024x128.size a)
theorem k1_off103_inb : ∀ (i : grid1.Coords) (v72_4_r6 : BitVec 32) (k1_hw24 : k1_chk24 i v72_4_r6), ∀ (k1_h37 : k1_cond37 i = 1#1), ∀ (k1_h54 : k1_cond54 i = 1#1), ∀ a, (k1_off103 i v72_4_r6) a + S128x128.size a ≤ S1024x128.size a := fun i v72_4_r6 k1_hw24 k1_h37 k1_h54 => k1_hw24 k1_h37 k1_h54

def k1_off104 (v72_3_r6 : BitVec 32) : Fin 1 → Nat :=
  let c2_i32_r6 : BitVec 32 := 2#32
  let v104_r6 : BitVec 32 := Scalar.remui v72_3_r6 c2_i32_r6
  ![v104_r6.toNat]
def k1_off105 (v72_3_r6 : BitVec 32) : Fin 3 → Nat :=
  let c2_i32_r6 : BitVec 32 := 2#32
  let v104_r6 : BitVec 32 := Scalar.remui v72_3_r6 c2_i32_r6
  let c0_i32_83_r6 : BitVec 32 := 0#32
  let c0_i32_84_r6 : BitVec 32 := 0#32
  ![v104_r6.toNat, 0, 0]

def k1_chk23 (i : grid1.Coords) (v72_3_r6 : BitVec 32) : Prop :=
  (∀ (k1_h37 : k1_cond37 i = 1#1), ∀ (k1_h54 : k1_cond54 i = 1#1), ∀ a, (k1_off102 v72_3_r6) a + S1x128x128.size a ≤ S2x128x128.size a) ∧
  (∀ (k1_h37 : k1_cond37 i = 1#1), ∀ (k1_h54 : k1_cond54 i = 1#1), ∀ a, (k1_off104 v72_3_r6) a + S1.size a ≤ S2.size a) ∧
  (∀ (k1_h37 : k1_cond37 i = 1#1), ∀ (k1_h54 : k1_cond54 i = 1#1), ∀ a, (k1_off105 v72_3_r6) a + S1x128x128.size a ≤ S2x128x128.size a)
theorem k1_off102_inb : ∀ (i : grid1.Coords) (v72_3_r6 : BitVec 32) (k1_hw23 : k1_chk23 i v72_3_r6), ∀ (k1_h37 : k1_cond37 i = 1#1), ∀ (k1_h54 : k1_cond54 i = 1#1), ∀ a, (k1_off102 v72_3_r6) a + S1x128x128.size a ≤ S2x128x128.size a := fun i v72_3_r6 k1_hw23 k1_h37 k1_h54 => k1_hw23.1 k1_h37 k1_h54
theorem k1_off104_inb : ∀ (i : grid1.Coords) (v72_3_r6 : BitVec 32) (k1_hw23 : k1_chk23 i v72_3_r6), ∀ (k1_h37 : k1_cond37 i = 1#1), ∀ (k1_h54 : k1_cond54 i = 1#1), ∀ a, (k1_off104 v72_3_r6) a + S1.size a ≤ S2.size a := fun i v72_3_r6 k1_hw23 k1_h37 k1_h54 => k1_hw23.2.1 k1_h37 k1_h54
theorem k1_off105_inb : ∀ (i : grid1.Coords) (v72_3_r6 : BitVec 32) (k1_hw23 : k1_chk23 i v72_3_r6), ∀ (k1_h37 : k1_cond37 i = 1#1), ∀ (k1_h54 : k1_cond54 i = 1#1), ∀ a, (k1_off105 v72_3_r6) a + S1x128x128.size a ≤ S2x128x128.size a := fun i v72_3_r6 k1_hw23 k1_h37 k1_h54 => k1_hw23.2.2 k1_h37 k1_h54

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1024x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1024x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S3x2x1024x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1024x128 : Shape := ⟨2, ![1024, 128]⟩
abbrev S1024 : Shape := ⟨1, ![1024]⟩
abbrev S100000x128 : Shape := ⟨2, ![100000, 128]⟩
abbrev S_ : Shape := ⟨0, ![]⟩
abbrev S1024x1 : Shape := ⟨2, ![1024, 1]⟩
abbrev S128x100000 : Shape := ⟨2, ![128, 100000]⟩
abbrev S1024x100000 : Shape := ⟨2, ![1024, 100000]⟩
abbrev S1024x1x1 : Shape := ⟨3, ![1024, 1, 1]⟩
abbrev S1 : Shape := ⟨1, ![1]⟩
abbrev S1x1x1 : Shape := ⟨3, ![1, 1, 1]⟩

abbrev nBuf : Space → Nat
  | .hbm => 324
  | .vmem => 0
  | .smem => 0
  | _ => 0

abbrev hbmTy0_0 (i : Nat) : BufTy := match i % 128 with
  | 0 => ⟨S1024x128, .f32⟩
  | 1 => ⟨S1024x128, .f32⟩
  | 2 => ⟨S1024x128, .f32⟩
  | 3 => ⟨S1024, .i32⟩
  | 4 => ⟨S100000x128, .f32⟩
  | 5 => ⟨S100000x128, .f32⟩
  | 6 => ⟨S100000x128, .f32⟩
  | 7 => ⟨S1024x128, .f32⟩
  | 8 => ⟨S_, .f32⟩
  | 9 => ⟨S1024, .f32⟩
  | 10 => ⟨S1024x1, .f32⟩
  | 11 => ⟨S1024x1, .f32⟩
  | 12 => ⟨S_, .f32⟩
  | 13 => ⟨S1024x1, .f32⟩
  | 14 => ⟨S1024x1, .f32⟩
  | 15 => ⟨S1024x128, .f32⟩
  | 16 => ⟨S1024x128, .f32⟩
  | 17 => ⟨S128x100000, .f32⟩
  | 18 => ⟨S1024x100000, .f32⟩
  | 19 => ⟨S_, .f32⟩
  | 20 => ⟨S1024x100000, .f32⟩
  | 21 => ⟨S1024x100000, .f32⟩
  | 22 => ⟨S_, .f32⟩
  | 23 => ⟨S1024x100000, .f32⟩
  | 24 => ⟨S1024x100000, .f32⟩
  | 25 => ⟨S_, .f32⟩
  | 26 => ⟨S1024x100000, .f32⟩
  | 27 => ⟨S1024x100000, .f32⟩
  | 28 => ⟨S1024x100000, .f32⟩
  | 29 => ⟨S1024x100000, .f32⟩
  | 30 => ⟨S_, .f32⟩
  | 31 => ⟨S1024, .f32⟩
  | 32 => ⟨S1024x1, .f32⟩
  | 33 => ⟨S1024x100000, .f32⟩
  | 34 => ⟨S1024x100000, .f32⟩
  | 35 => ⟨S1024x1, .i32⟩
  | 36 => ⟨S_, .i32⟩
  | 37 => ⟨S1024x1, .i32⟩
  | 38 => ⟨S1024x1, .i1⟩
  | 39 => ⟨S_, .i32⟩
  | 40 => ⟨S1024x1, .i32⟩
  | 41 => ⟨S1024x1, .i32⟩
  | 42 => ⟨S1024x1, .i32⟩
  | 43 => ⟨S1024x1x1, .i32⟩
  | 44 => ⟨S1, .i32⟩
  | 45 => ⟨S_, .i32⟩
  | 46 => ⟨S1024x1x1, .i32⟩
  | 47 => ⟨S1024x1x1, .i1⟩
  | 48 => ⟨S1x1x1, .i32⟩
  | 49 => ⟨S1024x1x1, .i32⟩
  | 50 => ⟨S1024x1x1, .i1⟩
  | 51 => ⟨S1024x1x1, .i1⟩
  | 52 => ⟨S_, .i1⟩
  | 53 => ⟨S1024x1, .i1⟩
  | 54 => ⟨S1024x1, .f32⟩
  | 55 => ⟨S_, .f32⟩
  | 56 => ⟨S1024x1, .f32⟩
  | 57 => ⟨S1024x1, .f32⟩
  | 58 => ⟨S1024, .f32⟩
  | 59 => ⟨S1024x1, .i32⟩
  | 60 => ⟨S_, .i32⟩
  | 61 => ⟨S1024x1, .i32⟩
  | 62 => ⟨S1024x1, .i1⟩
  | 63 => ⟨S_, .i32⟩
  | 64 => ⟨S1024x1, .i32⟩
  | 65 => ⟨S1024x1, .i32⟩
  | 66 => ⟨S1024x1, .i32⟩
  | 67 => ⟨S1024x1x1, .i32⟩
  | 68 => ⟨S1, .i32⟩
  | 69 => ⟨S_, .i32⟩
  | 70 => ⟨S1024x1x1, .i32⟩
  | 71 => ⟨S1024x1x1, .i1⟩
  | 72 => ⟨S1x1x1, .i32⟩
  | 73 => ⟨S1024x1x1, .i32⟩
  | 74 => ⟨S1024x1x1, .i1⟩
  | 75 => ⟨S1024x1x1, .i1⟩
  | 76 => ⟨S_, .i1⟩
  | 77 => ⟨S1024x1, .i1⟩
  | 78 => ⟨S1024x1, .f32⟩
  | 79 => ⟨S_, .f32⟩
  | 80 => ⟨S1024x1, .f32⟩
  | 81 => ⟨S1024x1, .f32⟩
  | 82 => ⟨S1024, .f32⟩
  | 83 => ⟨S_, .f32⟩
  | 84 => ⟨S1024x100000, .f32⟩
  | 85 => ⟨S1024x100000, .f32⟩
  | 86 => ⟨S1024x100000, .f32⟩
  | 87 => ⟨S_, .f32⟩
  | 88 => ⟨S1024, .f32⟩
  | 89 => ⟨S1024, .f32⟩
  | 90 => ⟨S_, .f32⟩
  | 91 => ⟨S1024, .f32⟩
  | 92 => ⟨S1024, .f32⟩
  | 93 => ⟨S1024, .f32⟩
  | 94 => ⟨S_, .f32⟩
  | 95 => ⟨S1024x100000, .f32⟩
  | 96 => ⟨S1024x100000, .f32⟩
  | 97 => ⟨S_, .f32⟩
  | 98 => ⟨S1024, .f32⟩
  | 99 => ⟨S1024, .f32⟩
  | 100 => ⟨S1024, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S1024x128, .f32⟩
  | 113 => ⟨S_, .f32⟩
  | 114 => ⟨S1024, .f32⟩
  | 115 => ⟨S1024x1, .f32⟩
  | 116 => ⟨S1024x1, .f32⟩
  | 117 => ⟨S_, .f32⟩
  | 118 => ⟨S1024x1, .f32⟩
  | 119 => ⟨S1024x1, .f32⟩
  | 120 => ⟨S1024x128, .f32⟩
  | 121 => ⟨S1024x128, .f32⟩
  | 122 => ⟨S128x100000, .f32⟩
  | 123 => ⟨S1024x100000, .f32⟩
  | 124 => ⟨S_, .f32⟩
  | 125 => ⟨S1024x100000, .f32⟩
  | 126 => ⟨S1024x100000, .f32⟩
  | 127 => ⟨S_, .f32⟩
  | _ => ⟨S1024x128, .f32⟩

abbrev hbmTy0_1 (i : Nat) : BufTy := match i % 128 with
  | 0 => ⟨S1024x100000, .f32⟩
  | 1 => ⟨S1024x100000, .f32⟩
  | 2 => ⟨S_, .f32⟩
  | 3 => ⟨S1024x100000, .f32⟩
  | 4 => ⟨S1024x100000, .f32⟩
  | 5 => ⟨S1024x100000, .f32⟩
  | 6 => ⟨S1024x100000, .f32⟩
  | 7 => ⟨S_, .f32⟩
  | 8 => ⟨S1024, .f32⟩
  | 9 => ⟨S1024x1, .f32⟩
  | 10 => ⟨S1024x100000, .f32⟩
  | 11 => ⟨S1024x100000, .f32⟩
  | 12 => ⟨S1024x1, .i32⟩
  | 13 => ⟨S_, .i32⟩
  | 14 => ⟨S1024x1, .i32⟩
  | 15 => ⟨S1024x1, .i1⟩
  | 16 => ⟨S_, .i32⟩
  | 17 => ⟨S1024x1, .i32⟩
  | 18 => ⟨S1024x1, .i32⟩
  | 19 => ⟨S1024x1, .i32⟩
  | 20 => ⟨S1024x1x1, .i32⟩
  | 21 => ⟨S1, .i32⟩
  | 22 => ⟨S_, .i32⟩
  | 23 => ⟨S1024x1x1, .i32⟩
  | 24 => ⟨S1024x1x1, .i1⟩
  | 25 => ⟨S1x1x1, .i32⟩
  | 26 => ⟨S1024x1x1, .i32⟩
  | 27 => ⟨S1024x1x1, .i1⟩
  | 28 => ⟨S1024x1x1, .i1⟩
  | 29 => ⟨S_, .i1⟩
  | 30 => ⟨S1024x1, .i1⟩
  | 31 => ⟨S1024x1, .f32⟩
  | 32 => ⟨S_, .f32⟩
  | 33 => ⟨S1024x1, .f32⟩
  | 34 => ⟨S1024x1, .f32⟩
  | 35 => ⟨S1024, .f32⟩
  | 36 => ⟨S1024x1, .i32⟩
  | 37 => ⟨S_, .i32⟩
  | 38 => ⟨S1024x1, .i32⟩
  | 39 => ⟨S1024x1, .i1⟩
  | 40 => ⟨S_, .i32⟩
  | 41 => ⟨S1024x1, .i32⟩
  | 42 => ⟨S1024x1, .i32⟩
  | 43 => ⟨S1024x1, .i32⟩
  | 44 => ⟨S1024x1x1, .i32⟩
  | 45 => ⟨S1, .i32⟩
  | 46 => ⟨S_, .i32⟩
  | 47 => ⟨S1024x1x1, .i32⟩
  | 48 => ⟨S1024x1x1, .i1⟩
  | 49 => ⟨S1x1x1, .i32⟩
  | 50 => ⟨S1024x1x1, .i32⟩
  | 51 => ⟨S1024x1x1, .i1⟩
  | 52 => ⟨S1024x1x1, .i1⟩
  | 53 => ⟨S_, .i1⟩
  | 54 => ⟨S1024x1, .i1⟩
  | 55 => ⟨S1024x1, .f32⟩
  | 56 => ⟨S_, .f32⟩
  | 57 => ⟨S1024x1, .f32⟩
  | 58 => ⟨S1024x1, .f32⟩
  | 59 => ⟨S1024, .f32⟩
  | 60 => ⟨S_, .f32⟩
  | 61 => ⟨S1024x100000, .f32⟩
  | 62 => ⟨S1024x100000, .f32⟩
  | 63 => ⟨S1024x100000, .f32⟩
  | 64 => ⟨S_, .f32⟩
  | 65 => ⟨S1024, .f32⟩
  | 66 => ⟨S1024, .f32⟩
  | 67 => ⟨S_, .f32⟩
  | 68 => ⟨S1024, .f32⟩
  | 69 => ⟨S1024, .f32⟩
  | 70 => ⟨S1024, .f32⟩
  | 71 => ⟨S_, .f32⟩
  | 72 => ⟨S1024x100000, .f32⟩
  | 73 => ⟨S1024x100000, .f32⟩
  | 74 => ⟨S_, .f32⟩
  | 75 => ⟨S1024, .f32⟩
  | 76 => ⟨S1024, .f32⟩
  | 77 => ⟨S1024, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S1024x128, .f32⟩
  | 91 => ⟨S_, .f32⟩
  | 92 => ⟨S1024, .f32⟩
  | 93 => ⟨S1024x1, .f32⟩
  | 94 => ⟨S1024x1, .f32⟩
  | 95 => ⟨S_, .f32⟩
  | 96 => ⟨S1024x1, .f32⟩
  | 97 => ⟨S1024x1, .f32⟩
  | 98 => ⟨S1024x128, .f32⟩
  | 99 => ⟨S1024x128, .f32⟩
  | 100 => ⟨S128x100000, .f32⟩
  | 101 => ⟨S1024x100000, .f32⟩
  | 102 => ⟨S_, .f32⟩
  | 103 => ⟨S1024x100000, .f32⟩
  | 104 => ⟨S1024x100000, .f32⟩
  | 105 => ⟨S_, .f32⟩
  | 106 => ⟨S1024x100000, .f32⟩
  | 107 => ⟨S1024x100000, .f32⟩
  | 108 => ⟨S_, .f32⟩
  | 109 => ⟨S1024x100000, .f32⟩
  | 110 => ⟨S1024x100000, .f32⟩
  | 111 => ⟨S1024x100000, .f32⟩
  | 112 => ⟨S1024x100000, .f32⟩
  | 113 => ⟨S_, .f32⟩
  | 114 => ⟨S1024, .f32⟩
  | 115 => ⟨S1024x1, .f32⟩
  | 116 => ⟨S1024x100000, .f32⟩
  | 117 => ⟨S1024x100000, .f32⟩
  | 118 => ⟨S1024x1, .i32⟩
  | 119 => ⟨S_, .i32⟩
  | 120 => ⟨S1024x1, .i32⟩
  | 121 => ⟨S1024x1, .i1⟩
  | 122 => ⟨S_, .i32⟩
  | 123 => ⟨S1024x1, .i32⟩
  | 124 => ⟨S1024x1, .i32⟩
  | 125 => ⟨S1024x1, .i32⟩
  | 126 => ⟨S1024x1x1, .i32⟩
  | 127 => ⟨S1, .i32⟩
  | _ => ⟨S1024x128, .f32⟩

abbrev hbmTy0_2 (i : Nat) : BufTy := match i % 128 with
  | 0 => ⟨S_, .i32⟩
  | 1 => ⟨S1024x1x1, .i32⟩
  | 2 => ⟨S1024x1x1, .i1⟩
  | 3 => ⟨S1x1x1, .i32⟩
  | 4 => ⟨S1024x1x1, .i32⟩
  | 5 => ⟨S1024x1x1, .i1⟩
  | 6 => ⟨S1024x1x1, .i1⟩
  | 7 => ⟨S_, .i1⟩
  | 8 => ⟨S1024x1, .i1⟩
  | 9 => ⟨S1024x1, .f32⟩
  | 10 => ⟨S_, .f32⟩
  | 11 => ⟨S1024x1, .f32⟩
  | 12 => ⟨S1024x1, .f32⟩
  | 13 => ⟨S1024, .f32⟩
  | 14 => ⟨S1024x1, .i32⟩
  | 15 => ⟨S_, .i32⟩
  | 16 => ⟨S1024x1, .i32⟩
  | 17 => ⟨S1024x1, .i1⟩
  | 18 => ⟨S_, .i32⟩
  | 19 => ⟨S1024x1, .i32⟩
  | 20 => ⟨S1024x1, .i32⟩
  | 21 => ⟨S1024x1, .i32⟩
  | 22 => ⟨S1024x1x1, .i32⟩
  | 23 => ⟨S1, .i32⟩
  | 24 => ⟨S_, .i32⟩
  | 25 => ⟨S1024x1x1, .i32⟩
  | 26 => ⟨S1024x1x1, .i1⟩
  | 27 => ⟨S1x1x1, .i32⟩
  | 28 => ⟨S1024x1x1, .i32⟩
  | 29 => ⟨S1024x1x1, .i1⟩
  | 30 => ⟨S1024x1x1, .i1⟩
  | 31 => ⟨S_, .i1⟩
  | 32 => ⟨S1024x1, .i1⟩
  | 33 => ⟨S1024x1, .f32⟩
  | 34 => ⟨S_, .f32⟩
  | 35 => ⟨S1024x1, .f32⟩
  | 36 => ⟨S1024x1, .f32⟩
  | 37 => ⟨S1024, .f32⟩
  | 38 => ⟨S_, .f32⟩
  | 39 => ⟨S1024x100000, .f32⟩
  | 40 => ⟨S1024x100000, .f32⟩
  | 41 => ⟨S1024x100000, .f32⟩
  | 42 => ⟨S_, .f32⟩
  | 43 => ⟨S1024, .f32⟩
  | 44 => ⟨S1024, .f32⟩
  | 45 => ⟨S_, .f32⟩
  | 46 => ⟨S1024, .f32⟩
  | 47 => ⟨S1024, .f32⟩
  | 48 => ⟨S1024, .f32⟩
  | 49 => ⟨S_, .f32⟩
  | 50 => ⟨S1024x100000, .f32⟩
  | 51 => ⟨S1024x100000, .f32⟩
  | 52 => ⟨S_, .f32⟩
  | 53 => ⟨S1024, .f32⟩
  | 54 => ⟨S1024, .f32⟩
  | 55 => ⟨S1024, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | _ => ⟨S1024x128, .f32⟩

abbrev hbmTy (i : Nat) : BufTy := match i / 128 with
  | 0 => hbmTy0_0 i
  | 1 => hbmTy0_1 i
  | 2 => hbmTy0_2 i
  | _ => ⟨S1024x128, .f32⟩

abbrev bufTy : (tb : Table) → Fin (tcTables nBuf tb) → BufTy
  | .hbm, ⟨i, _⟩ => hbmTy i
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_cst : Ref sig .tc := ⟨.hbm, 55, rfl⟩
abbrev main_call1_v14 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_cst : Ref sig .tc := ⟨.hbm, 79, rfl⟩
abbrev main_call2_v14 : Ref sig .tc := ⟨.hbm, 80, rfl⟩
abbrev main_v23 : Ref sig .tc := ⟨.hbm, 81, rfl⟩
abbrev main_v24 : Ref sig .tc := ⟨.hbm, 82, rfl⟩
abbrev main_cst_4 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_cst_5 : Ref sig .tc := ⟨.hbm, 87, rfl⟩
abbrev main_v28 : Ref sig .tc := ⟨.hbm, 88, rfl⟩
abbrev main_v29 : Ref sig .tc := ⟨.hbm, 89, rfl⟩
abbrev main_cst_6 : Ref sig .tc := ⟨.hbm, 90, rfl⟩
abbrev main_v30 : Ref sig .tc := ⟨.hbm, 91, rfl⟩
abbrev main_v31 : Ref sig .tc := ⟨.hbm, 92, rfl⟩
abbrev main_v32 : Ref sig .tc := ⟨.hbm, 93, rfl⟩
abbrev main_cst_7 : Ref sig .tc := ⟨.hbm, 94, rfl⟩
abbrev main_v33 : Ref sig .tc := ⟨.hbm, 95, rfl⟩
abbrev main_v34 : Ref sig .tc := ⟨.hbm, 96, rfl⟩
abbrev main_cst_8 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_cst_9 : Ref sig .tc := ⟨.hbm, 101, rfl⟩
abbrev main_v38 : Ref sig .tc := ⟨.hbm, 102, rfl⟩
abbrev main_cst_10 : Ref sig .tc := ⟨.hbm, 103, rfl⟩
abbrev main_v39 : Ref sig .tc := ⟨.hbm, 104, rfl⟩
abbrev main_cst_11 : Ref sig .tc := ⟨.hbm, 105, rfl⟩
abbrev main_v40 : Ref sig .tc := ⟨.hbm, 106, rfl⟩
abbrev main_cst_12 : Ref sig .tc := ⟨.hbm, 107, rfl⟩
abbrev main_v41 : Ref sig .tc := ⟨.hbm, 108, rfl⟩
abbrev main_v42 : Ref sig .tc := ⟨.hbm, 109, rfl⟩
abbrev main_cst_13 : Ref sig .tc := ⟨.hbm, 110, rfl⟩
abbrev main_v43 : Ref sig .tc := ⟨.hbm, 111, rfl⟩
abbrev main_call3_v0 : Ref sig .tc := ⟨.hbm, 112, rfl⟩
abbrev main_call3_cst : Ref sig .tc := ⟨.hbm, 113, rfl⟩
abbrev main_call3_v1 : Ref sig .tc := ⟨.hbm, 114, rfl⟩
abbrev main_call3_v2 : Ref sig .tc := ⟨.hbm, 115, rfl⟩
abbrev main_v44 : Ref sig .tc := ⟨.hbm, 116, rfl⟩
abbrev main_cst_14 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_cst_15 : Ref sig .tc := ⟨.hbm, 124, rfl⟩
abbrev main_v51 : Ref sig .tc := ⟨.hbm, 125, rfl⟩
abbrev main_v52 : Ref sig .tc := ⟨.hbm, 126, rfl⟩
abbrev main_cst_16 : Ref sig .tc := ⟨.hbm, 127, rfl⟩
abbrev main_v53 : Ref sig .tc := ⟨.hbm, 128, rfl⟩
abbrev main_v54 : Ref sig .tc := ⟨.hbm, 129, rfl⟩
abbrev main_cst_17 : Ref sig .tc := ⟨.hbm, 130, rfl⟩
abbrev main_v55 : Ref sig .tc := ⟨.hbm, 131, rfl⟩
abbrev main_v56 : Ref sig .tc := ⟨.hbm, 132, rfl⟩
abbrev main_v57 : Ref sig .tc := ⟨.hbm, 133, rfl⟩
abbrev main_v58 : Ref sig .tc := ⟨.hbm, 134, rfl⟩
abbrev main_cst_18 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_call4_c : Ref sig .tc := ⟨.hbm, 141, rfl⟩
abbrev main_call4_v0 : Ref sig .tc := ⟨.hbm, 142, rfl⟩
abbrev main_call4_v1 : Ref sig .tc := ⟨.hbm, 143, rfl⟩
abbrev main_call4_c_0 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_c_1 : Ref sig .tc := ⟨.hbm, 149, rfl⟩
abbrev main_call4_c_2 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_v9 : Ref sig .tc := ⟨.hbm, 154, rfl⟩
abbrev main_call4_v10 : Ref sig .tc := ⟨.hbm, 155, rfl⟩
abbrev main_call4_v11 : Ref sig .tc := ⟨.hbm, 156, rfl⟩
abbrev main_call4_c_3 : Ref sig .tc := ⟨.hbm, 157, rfl⟩
abbrev main_call4_v12 : Ref sig .tc := ⟨.hbm, 158, rfl⟩
abbrev main_call4_v13 : Ref sig .tc := ⟨.hbm, 159, rfl⟩
abbrev main_call4_cst : Ref sig .tc := ⟨.hbm, 160, rfl⟩
abbrev main_call4_v14 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_call5_c : Ref sig .tc := ⟨.hbm, 165, rfl⟩
abbrev main_call5_v0 : Ref sig .tc := ⟨.hbm, 166, rfl⟩
abbrev main_call5_v1 : Ref sig .tc := ⟨.hbm, 167, rfl⟩
abbrev main_call5_c_0 : Ref sig .tc := ⟨.hbm, 168, rfl⟩
abbrev main_call5_v2 : Ref sig .tc := ⟨.hbm, 169, rfl⟩
abbrev main_call5_v3 : Ref sig .tc := ⟨.hbm, 170, rfl⟩
abbrev main_call5_v4 : Ref sig .tc := ⟨.hbm, 171, rfl⟩
abbrev main_call5_v5 : Ref sig .tc := ⟨.hbm, 172, rfl⟩
abbrev main_call5_c_1 : Ref sig .tc := ⟨.hbm, 173, rfl⟩
abbrev main_call5_c_2 : Ref sig .tc := ⟨.hbm, 174, rfl⟩
abbrev main_call5_v6 : Ref sig .tc := ⟨.hbm, 175, rfl⟩
abbrev main_call5_v7 : Ref sig .tc := ⟨.hbm, 176, rfl⟩
abbrev main_call5_v8 : Ref sig .tc := ⟨.hbm, 177, rfl⟩
abbrev main_call5_v9 : Ref sig .tc := ⟨.hbm, 178, rfl⟩
abbrev main_call5_v10 : Ref sig .tc := ⟨.hbm, 179, rfl⟩
abbrev main_call5_v11 : Ref sig .tc := ⟨.hbm, 180, rfl⟩
abbrev main_call5_c_3 : Ref sig .tc := ⟨.hbm, 181, rfl⟩
abbrev main_call5_v12 : Ref sig .tc := ⟨.hbm, 182, rfl⟩
abbrev main_call5_v13 : Ref sig .tc := ⟨.hbm, 183, rfl⟩
abbrev main_call5_cst : Ref sig .tc := ⟨.hbm, 184, rfl⟩
abbrev main_call5_v14 : Ref sig .tc := ⟨.hbm, 185, rfl⟩
abbrev main_v67 : Ref sig .tc := ⟨.hbm, 186, rfl⟩
abbrev main_v68 : Ref sig .tc := ⟨.hbm, 187, rfl⟩
abbrev main_cst_19 : Ref sig .tc := ⟨.hbm, 188, rfl⟩
abbrev main_v69 : Ref sig .tc := ⟨.hbm, 189, rfl⟩
abbrev main_v70 : Ref sig .tc := ⟨.hbm, 190, rfl⟩
abbrev main_v71 : Ref sig .tc := ⟨.hbm, 191, rfl⟩
abbrev main_cst_20 : Ref sig .tc := ⟨.hbm, 192, rfl⟩
abbrev main_v72 : Ref sig .tc := ⟨.hbm, 193, rfl⟩
abbrev main_v73 : Ref sig .tc := ⟨.hbm, 194, rfl⟩
abbrev main_cst_21 : Ref sig .tc := ⟨.hbm, 195, rfl⟩
abbrev main_v74 : Ref sig .tc := ⟨.hbm, 196, rfl⟩
abbrev main_v75 : Ref sig .tc := ⟨.hbm, 197, rfl⟩
abbrev main_v76 : Ref sig .tc := ⟨.hbm, 198, rfl⟩
abbrev main_cst_22 : Ref sig .tc := ⟨.hbm, 199, rfl⟩
abbrev main_v77 : Ref sig .tc := ⟨.hbm, 200, rfl⟩
abbrev main_v78 : Ref sig .tc := ⟨.hbm, 201, rfl⟩
abbrev main_cst_23 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_cst_24 : Ref sig .tc := ⟨.hbm, 206, rfl⟩
abbrev main_v82 : Ref sig .tc := ⟨.hbm, 207, rfl⟩
abbrev main_cst_25 : Ref sig .tc := ⟨.hbm, 208, rfl⟩
abbrev main_v83 : Ref sig .tc := ⟨.hbm, 209, rfl⟩
abbrev main_cst_26 : Ref sig .tc := ⟨.hbm, 210, rfl⟩
abbrev main_v84 : Ref sig .tc := ⟨.hbm, 211, rfl⟩
abbrev main_cst_27 : Ref sig .tc := ⟨.hbm, 212, rfl⟩
abbrev main_v85 : Ref sig .tc := ⟨.hbm, 213, rfl⟩
abbrev main_v86 : Ref sig .tc := ⟨.hbm, 214, rfl⟩
abbrev main_cst_28 : Ref sig .tc := ⟨.hbm, 215, rfl⟩
abbrev main_v87 : Ref sig .tc := ⟨.hbm, 216, rfl⟩
abbrev main_v88 : Ref sig .tc := ⟨.hbm, 217, rfl⟩
abbrev main_call6_v0 : Ref sig .tc := ⟨.hbm, 218, rfl⟩
abbrev main_call6_cst : Ref sig .tc := ⟨.hbm, 219, rfl⟩
abbrev main_call6_v1 : Ref sig .tc := ⟨.hbm, 220, rfl⟩
abbrev main_call6_v2 : Ref sig .tc := ⟨.hbm, 221, rfl⟩
abbrev main_v89 : Ref sig .tc := ⟨.hbm, 222, rfl⟩
abbrev main_cst_29 : Ref sig .tc := ⟨.hbm, 223, rfl⟩
abbrev main_v90 : Ref sig .tc := ⟨.hbm, 224, rfl⟩
abbrev main_v91 : Ref sig .tc := ⟨.hbm, 225, rfl⟩
abbrev main_v92 : Ref sig .tc := ⟨.hbm, 226, rfl⟩
abbrev main_v93 : Ref sig .tc := ⟨.hbm, 227, rfl⟩
abbrev main_v94 : Ref sig .tc := ⟨.hbm, 228, rfl⟩
abbrev main_v95 : Ref sig .tc := ⟨.hbm, 229, rfl⟩
abbrev main_cst_30 : Ref sig .tc := ⟨.hbm, 230, rfl⟩
abbrev main_v96 : Ref sig .tc := ⟨.hbm, 231, rfl⟩
abbrev main_v97 : Ref sig .tc := ⟨.hbm, 232, rfl⟩
abbrev main_cst_31 : Ref sig .tc := ⟨.hbm, 233, rfl⟩
abbrev main_v98 : Ref sig .tc := ⟨.hbm, 234, rfl⟩
abbrev main_v99 : Ref sig .tc := ⟨.hbm, 235, rfl⟩
abbrev main_cst_32 : Ref sig .tc := ⟨.hbm, 236, rfl⟩
abbrev main_v100 : Ref sig .tc := ⟨.hbm, 237, rfl⟩
abbrev main_v101 : Ref sig .tc := ⟨.hbm, 238, rfl⟩
abbrev main_v102 : Ref sig .tc := ⟨.hbm, 239, rfl⟩
abbrev main_v103 : Ref sig .tc := ⟨.hbm, 240, rfl⟩
abbrev main_cst_33 : Ref sig .tc := ⟨.hbm, 241, rfl⟩
abbrev main_v104 : Ref sig .tc := ⟨.hbm, 242, rfl⟩
abbrev main_v105 : Ref sig .tc := ⟨.hbm, 243, rfl⟩
abbrev main_v106 : Ref sig .tc := ⟨.hbm, 244, rfl⟩
abbrev main_v107 : Ref sig .tc := ⟨.hbm, 245, rfl⟩
abbrev main_v108 : Ref sig .tc := ⟨.hbm, 246, rfl⟩
abbrev main_call7_c : Ref sig .tc := ⟨.hbm, 247, rfl⟩
abbrev main_call7_v0 : Ref sig .tc := ⟨.hbm, 248, rfl⟩
abbrev main_call7_v1 : Ref sig .tc := ⟨.hbm, 249, rfl⟩
abbrev main_call7_c_0 : Ref sig .tc := ⟨.hbm, 250, rfl⟩
abbrev main_call7_v2 : Ref sig .tc := ⟨.hbm, 251, rfl⟩
abbrev main_call7_v3 : Ref sig .tc := ⟨.hbm, 252, rfl⟩
abbrev main_call7_v4 : Ref sig .tc := ⟨.hbm, 253, rfl⟩
abbrev main_call7_v5 : Ref sig .tc := ⟨.hbm, 254, rfl⟩
abbrev main_call7_c_1 : Ref sig .tc := ⟨.hbm, 255, rfl⟩
abbrev main_call7_c_2 : Ref sig .tc := ⟨.hbm, 256, rfl⟩
abbrev main_call7_v6 : Ref sig .tc := ⟨.hbm, 257, rfl⟩
abbrev main_call7_v7 : Ref sig .tc := ⟨.hbm, 258, rfl⟩
abbrev main_call7_v8 : Ref sig .tc := ⟨.hbm, 259, rfl⟩
abbrev main_call7_v9 : Ref sig .tc := ⟨.hbm, 260, rfl⟩
abbrev main_call7_v10 : Ref sig .tc := ⟨.hbm, 261, rfl⟩
abbrev main_call7_v11 : Ref sig .tc := ⟨.hbm, 262, rfl⟩
abbrev main_call7_c_3 : Ref sig .tc := ⟨.hbm, 263, rfl⟩
abbrev main_call7_v12 : Ref sig .tc := ⟨.hbm, 264, rfl⟩
abbrev main_call7_v13 : Ref sig .tc := ⟨.hbm, 265, rfl⟩
abbrev main_call7_cst : Ref sig .tc := ⟨.hbm, 266, rfl⟩
abbrev main_call7_v14 : Ref sig .tc := ⟨.hbm, 267, rfl⟩
abbrev main_v109 : Ref sig .tc := ⟨.hbm, 268, rfl⟩
abbrev main_v110 : Ref sig .tc := ⟨.hbm, 269, rfl⟩
abbrev main_v111 : Ref sig .tc := ⟨.hbm, 270, rfl⟩
abbrev main_call8_c : Ref sig .tc := ⟨.hbm, 271, rfl⟩
abbrev main_call8_v0 : Ref sig .tc := ⟨.hbm, 272, rfl⟩
abbrev main_call8_v1 : Ref sig .tc := ⟨.hbm, 273, rfl⟩
abbrev main_call8_c_0 : Ref sig .tc := ⟨.hbm, 274, rfl⟩
abbrev main_call8_v2 : Ref sig .tc := ⟨.hbm, 275, rfl⟩
abbrev main_call8_v3 : Ref sig .tc := ⟨.hbm, 276, rfl⟩
abbrev main_call8_v4 : Ref sig .tc := ⟨.hbm, 277, rfl⟩
abbrev main_call8_v5 : Ref sig .tc := ⟨.hbm, 278, rfl⟩
abbrev main_call8_c_1 : Ref sig .tc := ⟨.hbm, 279, rfl⟩
abbrev main_call8_c_2 : Ref sig .tc := ⟨.hbm, 280, rfl⟩
abbrev main_call8_v6 : Ref sig .tc := ⟨.hbm, 281, rfl⟩
abbrev main_call8_v7 : Ref sig .tc := ⟨.hbm, 282, rfl⟩
abbrev main_call8_v8 : Ref sig .tc := ⟨.hbm, 283, rfl⟩
abbrev main_call8_v9 : Ref sig .tc := ⟨.hbm, 284, rfl⟩
abbrev main_call8_v10 : Ref sig .tc := ⟨.hbm, 285, rfl⟩
abbrev main_call8_v11 : Ref sig .tc := ⟨.hbm, 286, rfl⟩
abbrev main_call8_c_3 : Ref sig .tc := ⟨.hbm, 287, rfl⟩
abbrev main_call8_v12 : Ref sig .tc := ⟨.hbm, 288, rfl⟩
abbrev main_call8_v13 : Ref sig .tc := ⟨.hbm, 289, rfl⟩
abbrev main_call8_cst : Ref sig .tc := ⟨.hbm, 290, rfl⟩
abbrev main_call8_v14 : Ref sig .tc := ⟨.hbm, 291, rfl⟩
abbrev main_v112 : Ref sig .tc := ⟨.hbm, 292, rfl⟩
abbrev main_v113 : Ref sig .tc := ⟨.hbm, 293, rfl⟩
abbrev main_cst_34 : Ref sig .tc := ⟨.hbm, 294, rfl⟩
abbrev main_v114 : Ref sig .tc := ⟨.hbm, 295, rfl⟩
abbrev main_v115 : Ref sig .tc := ⟨.hbm, 296, rfl⟩
abbrev main_v116 : Ref sig .tc := ⟨.hbm, 297, rfl⟩
abbrev main_cst_35 : Ref sig .tc := ⟨.hbm, 298, rfl⟩
abbrev main_v117 : Ref sig .tc := ⟨.hbm, 299, rfl⟩
abbrev main_v118 : Ref sig .tc := ⟨.hbm, 300, rfl⟩
abbrev main_cst_36 : Ref sig .tc := ⟨.hbm, 301, rfl⟩
abbrev main_v119 : Ref sig .tc := ⟨.hbm, 302, rfl⟩
abbrev main_v120 : Ref sig .tc := ⟨.hbm, 303, rfl⟩
abbrev main_v121 : Ref sig .tc := ⟨.hbm, 304, rfl⟩
abbrev main_cst_37 : Ref sig .tc := ⟨.hbm, 305, rfl⟩
abbrev main_v122 : Ref sig .tc := ⟨.hbm, 306, rfl⟩
abbrev main_v123 : Ref sig .tc := ⟨.hbm, 307, rfl⟩
abbrev main_cst_38 : Ref sig .tc := ⟨.hbm, 308, rfl⟩
abbrev main_v124 : Ref sig .tc := ⟨.hbm, 309, rfl⟩
abbrev main_v125 : Ref sig .tc := ⟨.hbm, 310, rfl⟩
abbrev main_v126 : Ref sig .tc := ⟨.hbm, 311, rfl⟩
abbrev main_cst_39 : Ref sig .tc := ⟨.hbm, 312, rfl⟩
abbrev main_v127 : Ref sig .tc := ⟨.hbm, 313, rfl⟩
abbrev main_cst_40 : Ref sig .tc := ⟨.hbm, 314, rfl⟩
abbrev main_v128 : Ref sig .tc := ⟨.hbm, 315, rfl⟩
abbrev main_cst_41 : Ref sig .tc := ⟨.hbm, 316, rfl⟩
abbrev main_v129 : Ref sig .tc := ⟨.hbm, 317, rfl⟩
abbrev main_cst_42 : Ref sig .tc := ⟨.hbm, 318, rfl⟩
abbrev main_v130 : Ref sig .tc := ⟨.hbm, 319, rfl⟩
abbrev main_v131 : Ref sig .tc := ⟨.hbm, 320, rfl⟩
abbrev main_cst_43 : Ref sig .tc := ⟨.hbm, 321, rfl⟩
abbrev main_v132 : Ref sig .tc := ⟨.hbm, 322, rfl⟩
abbrev main_v133 : Ref sig .tc := ⟨.hbm, 323, rfl⟩

abbrev nD : Nat := 1
abbrev τ : Topo := Topo.v7x

variable {F : FTy → Type} [FloatOps F]
-- ==== Proof.Setup.lean ====
/-
  The launch of the SparseCore gather, as the launch theorem sees it: the resource algebra, the
  buffers' locations, and the shares and blocks of them that each tile is handed.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are apart from one another, and none of them is a scoped one of a kernel. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipelines' rounds, the transfers' counters -/

abbrev UH : Type := URounds (GSem nD τ sig) ℕ
abbrev UP : Type := URounds (GSem nD τ sig) Unit
abbrev UU : Type := UH × (UP × Counters)
local notation "𝕄" => MT nD τ sig (HIx 1) (Elt F) ℕ UU ℕ
abbrev EH : Emb UH (MT nD τ sig (HIx 1) (Elt F) ℕ UU ℕ) := embL
/-- The pipelines' rounds, beside the transfers' counters in the right half. -/
def EP : Emb UP (MT nD τ sig (HIx 1) (Elt F) ℕ UU ℕ) := (Emb.inl : Emb UP (UP × Counters)).trans (embR (A := UH))
instance EP_landsIn : (EP : Emb UP 𝕄).LandsIn (upEmb : UEmb _ 𝕄) := by unfold EP embR; infer_instance

/-! ## Locations -/

abbrev fLoc (d : Dev nD) : Loc nD τ sig := (SparseCore.T d).loc main_arg4
abbrev uLoc (d : Dev nD) : Loc nD τ sig := (SparseCore.T d).loc main_arg5
abbrev wLoc (d : Dev nD) : Loc nD τ sig := (SparseCore.T d).loc main_arg6
abbrev iLoc (d : Dev nD) : Loc nD τ sig := (SparseCore.T d).loc main_v4
abbrev oLoc (d : Dev nD) : Loc nD τ sig := (SparseCore.T d).loc main_v5_0
abbrev pLoc (d : Dev nD) : Loc nD τ sig := (SparseCore.T d).loc main_v5_1
abbrev qLoc (d : Dev nD) : Loc nD τ sig := (SparseCore.T d).loc main_v5_2

/-! ## What the call computes -/

/-- The row that an index word names: itself, held inside the table. -/
def rowOf (v : BitVec 32) : Fin 100000 := ⟨min v.toNat 99999, by omega⟩

/-- The index `(r, c)` of a table. -/
def tix (r : Fin 100000) (c : Fin 128) : S100000x128.Idx := fun a => match a with | 0 => r | 1 => c
/-- The index `(0, k)` of the row of indices. -/
def lix (k : Fin 1024) : S1x1024.Idx := fun a => match a with | 0 => (0 : Fin 1) | 1 => k

/-- The gathered rows: row `k` of the result is the row of the table that word `k` names. -/
def rows (t : S100000x128.Idx → Elt F .f32) (ix : S1x1024.Idx → Elt F .i32) : S1024x128.Idx → Elt F .f32 :=
  fun j => t (tix (rowOf (ix (lix (j 0)))) (j 1))

/-! ## Blocks and shares -/

theorem odiv : 8 ∣ S1024x128.size 0 := ⟨128, rfl⟩
/-- Block `w` of eight of a result's rows. -/
abbrev oblk (w : Fin 8) : Rect S1024x128 := Rect.part (s := S1024x128) (a₀ := 0) odiv w

/-- The rows that tile `s` of SparseCore `c` writes: block `s`, on the first eight tiles of SparseCore 0; none elsewhere. -/
def oSet (c : Fin 2) (s : Fin 16) : Finset S1024x128.Idx :=
  if h : c.val = 0 ∧ s.val < 8 then (oblk ⟨s.val, h.2⟩).set else ∅
/-- The rows that SparseCore `c`'s tiles write. -/
def cSet (c : Fin 2) : Finset S1024x128.Idx := Finset.univ.biUnion (oSet c)

/-- SparseCore `c`'s share of an array that both read, and tile `s`'s share of that. -/
abbrev cq (c : Fin 2) : PosShare TreeShare := ShareLeaves.leaf 1 fullShare c
abbrev tq (c : Fin 2) (s : Fin 16) : PosShare TreeShare := ShareLeaves.leaf 4 (cq c) s

end Cert.Proof.Gather

end
-- ==== Proof.Facts.lean ====
/-
  What the gather's tiles compute of their own number: which pipelines a working tile enters, how many
  steps each loop takes, and where each block lies.
-/
module

public import proofs.«01_k».proof.Proof.Setup

@[expose] public section

noncomputable section

namespace Cert.Proof.Gather

open Cert.KernelIdeal Cert.KernelIdeal.Gen
open Idealize.ShloMosaic

/-- The coordinates of a tile: its SparseCore and its number there. -/
def coordsV (c : Fin (grid1.bound 0)) (s : Fin (grid1.bound 1)) : grid1.Coords :=
  fun | 0 => c | 1 => s | ⟨_ + 2, h⟩ => absurd h (Nat.not_lt.2 (Nat.le_add_left _ _))

/-- The coordinates of working tile `w`: the first eight tiles of SparseCore 0. -/
def Lw (w : Fin 8) : grid1.Coords := coordsV ⟨0, by decide⟩ ⟨w.val, Nat.lt_trans w.isLt (by decide)⟩

theorem c1 : ∀ w, k1_cond1 (Lw w) = 1#1 := by decide +kernel
theorem c2 : ∀ w, k1_cond2 (Lw w) = 1#1 := by decide +kernel
theorem c18 : ∀ w, k1_cond18 (Lw w) = 1#1 := by decide +kernel
theorem c19 : ∀ w, k1_cond19 (Lw w) = 1#1 := by decide +kernel
theorem c37 : ∀ w, k1_cond37 (Lw w) = 1#1 := by decide +kernel
theorem t1 : ∀ w, (k1_t1_loop (Lw w)).trips = 1 := by decide +kernel
theorem t2 : ∀ w, (k1_t2_loop (Lw w)).trips = 0 := by decide +kernel
theorem t3 : ∀ w, (k1_t3_loop (Lw w)).trips = 1 := by decide +kernel
theorem t4 : ∀ w, (k1_t4_loop (Lw w)).trips = 0 := by decide +kernel
theorem t5 : ∀ w, (k1_t5_loop (Lw w)).trips = 1 := by decide +kernel
theorem t6 : ∀ w, (k1_t6_loop (Lw w)).trips = 0 := by decide +kernel

/-- The one step of each loop. -/
abbrev z1 (w : Fin 8) : Fin (k1_t1_loop (Lw w)).trips := ⟨0, by rw [t1]; decide⟩
abbrev z3 (w : Fin 8) : Fin (k1_t3_loop (Lw w)).trips := ⟨0, by rw [t3]; decide⟩
abbrev z5 (w : Fin 8) : Fin (k1_t5_loop (Lw w)).trips := ⟨0, by rw [t5]; decide⟩

theorem c3 : ∀ w, k1_cond3 (Lw w) (z1 w) 0#32 ≠ 1#1 := by decide +kernel
theorem c4 : ∀ w, k1_cond4 (Lw w) (z1 w) 0#32 = 1#1 := by decide +kernel
theorem c7 : ∀ w, k1_cond7 (Lw w) (z1 w) 0#32 = 1#1 := by decide +kernel
theorem c9 : ∀ w, k1_cond9 (Lw w) (z1 w) 0#32 ≠ 1#1 := by decide +kernel
theorem h1 : ∀ w, k1_chk1 (Lw w) (z1 w) 1#32 0#32 0#32 0#32 0#32 := by decide +kernel
theorem h2 : ∀ w, k1_chk2 (Lw w) (z1 w) 0#32 := by decide +kernel
theorem h3 : ∀ w, k1_chk3 (Lw w) (z1 w) 0#32 := by decide +kernel
theorem h7 : ∀ w, k1_chk7 (Lw w) 0#32 := by decide +kernel
theorem h8 : ∀ w, k1_chk8 (Lw w) 0#32 := by decide +kernel
theorem o2 : ∀ w, k1_off2 (Lw w) = ![0, 128 * w.val] := by decide +kernel
theorem o13 : ∀ w, k1_off13 (Lw w) 0#32 = ![128 * w.val, 0] := by decide +kernel

theorem c20 : ∀ w, k1_cond20 (Lw w) = 1#1 := by decide +kernel
theorem c36 : ∀ w, k1_cond36 (Lw w) = 1#1 := by decide +kernel
theorem c21 : ∀ w, k1_cond21 (Lw w) (z3 w) 0#32 ≠ 1#1 := by decide +kernel
theorem c22 : ∀ w, k1_cond22 (Lw w) (z3 w) 0#32 = 1#1 := by decide +kernel
theorem c25 : ∀ w, k1_cond25 (Lw w) (z3 w) 0#32 = 1#1 := by decide +kernel
theorem c27 : ∀ w, k1_cond27 (Lw w) (z3 w) 0#32 ≠ 1#1 := by decide +kernel
theorem h9 : ∀ w, k1_chk9 (Lw w) (z3 w) 1#32 0#32 0#32 0#32 0#32 := by decide +kernel
theorem h10 : ∀ w, k1_chk10 (Lw w) (z3 w) 0#32 := by decide +kernel
theorem h11 : ∀ w, k1_chk11 (Lw w) (z3 w) 0#32 := by decide +kernel
theorem h15 : ∀ w, k1_chk15 (Lw w) 0#32 := by decide +kernel
theorem h16 : ∀ w, k1_chk16 (Lw w) 0#32 := by decide +kernel
theorem o37 : ∀ w, k1_off37 (Lw w) = ![0, 128 * w.val] := by decide +kernel
theorem o48 : ∀ w, k1_off48 (Lw w) 0#32 = ![128 * w.val, 0] := by decide +kernel

theorem c38 : ∀ w, k1_cond38 (Lw w) = 1#1 := by decide +kernel
theorem c54 : ∀ w, k1_cond54 (Lw w) = 1#1 := by decide +kernel
theorem c39 : ∀ w, k1_cond39 (Lw w) (z5 w) 0#32 ≠ 1#1 := by decide +kernel
theorem c40 : ∀ w, k1_cond40 (Lw w) (z5 w) 0#32 = 1#1 := by decide +kernel
theorem c43 : ∀ w, k1_cond43 (Lw w) (z5 w) 0#32 = 1#1 := by decide +kernel
theorem c45 : ∀ w, k1_cond45 (Lw w) (z5 w) 0#32 ≠ 1#1 := by decide +kernel
theorem h17 : ∀ w, k1_chk17 (Lw w) (z5 w) 1#32 0#32 0#32 0#32 0#32 := by decide +kernel
theorem h18 : ∀ w, k1_chk18 (Lw w) (z5 w) 0#32 := by decide +kernel
theorem h19 : ∀ w, k1_chk19 (Lw w) (z5 w) 0#32 := by decide +kernel
theorem h23 : ∀ w, k1_chk23 (Lw w) 0#32 := by decide +kernel
theorem h24 : ∀ w, k1_chk24 (Lw w) 0#32 := by decide +kernel
theorem o72 : ∀ w, k1_off72 (Lw w) = ![0, 128 * w.val] := by decide +kernel
theorem o83 : ∀ w, k1_off83 (Lw w) 0#32 = ![128 * w.val, 0] := by decide +kernel

/-- A counted loop of one step is its body at that step. -/
theorem for_one {E : Type → Type} {σ : Type} {n : Nat} (l : Scf.Loop n) (ok : l.OK) (h : l.trips = 1) (init : σ)
    (body : Fin l.trips → σ → Idealize.SL.Sem.Prog E σ) : Scf.Loop.for l ok init body = body ⟨0, by rw [h]; decide⟩ init := by
  show Scf.for l.lb l.ub l.st ok init body = _
  rw [Scf.for_eq]
  have key : ∀ (m : Nat) (hm : m = 1) (b : Fin m → σ → Idealize.SL.Sem.Prog E σ),
      Scf.forFrom b (List.finRange m) init = b ⟨0, by rw [hm]; decide⟩ init := by
    intro m hm b; subst hm
    show (b 0 init >>= fun a => Idealize.SL.Sem.Prog.ret a) = _
    exact bind_pure _
  exact key _ h _

/-- A counted loop of no steps leaves what it carries. -/
theorem for_zero {E : Type → Type} {σ : Type} {n : Nat} (l : Scf.Loop n) (ok : l.OK) (h : l.trips = 0) (init : σ)
    (body : Fin l.trips → σ → Idealize.SL.Sem.Prog E σ) : Scf.Loop.for l ok init body = pure init := by
  show Scf.for l.lb l.ub l.st ok init body = _
  rw [Scf.for_eq]
  have key : ∀ (m : Nat) (hm : m = 0) (b : Fin m → σ → Idealize.SL.Sem.Prog E σ),
      Scf.forFrom b (List.finRange m) init = pure init := by
    intro m hm b; subst hm; rfl
  exact key _ h _

end Cert.Proof.Gather

end
-- ==== Proof.Prog.lean ====
module

public import proofs.«01_k».proof.Proof.Facts

@[expose] public section

noncomputable section

namespace Cert.Proof.Gather

open Cert.KernelIdeal Cert.KernelIdeal.Gen

open Idealize.ShloMosaic Idealize.SL.Sem

variable {F : FTy → Type} [FloatOps F]

abbrev cV (L : grid1.Coords) : Fin τ.nSC := (L 0).castLE hcore1
abbrev jV (L : grid1.Coords) : Fin τ.nSub := (L 1).castLE hsub1

/-- The gather's program on the tile at `L`. -/
abbrev tileProg (L : grid1.Coords) : Prog (TpuEff nD τ sig (Elt F) Λ₀ (.scVector (cV L) (jV L))) PUnit :=
  cc1_gather_kernel (F := F) L (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17

/-- The number of a tile as a word. -/
abbrev wd (w : Fin 8) : BitVec 32 := BitVec.ofNat 32 w.val

/-- The first pipeline's program on working tile `w`. -/
def pipe1 (w : Fin 8) : Prog (TpuEff nD τ sig (Elt F) Λ₀ (.scVector (cV (Lw w)) (jV (Lw w)))) PUnit := do
  let ⟨v65, a1, a2, a3, a4, a5, v69⟩ ← k1_part5 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 1#32 (wd w) 1#32 (c1 w)
  k1_part6 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 1#32 (wd w) 1#32 (c1 w) v65 a1 a2 a3 a4 a5 v69

/-- The second pipeline's program on working tile `w`. -/
def pipe2 (w : Fin 8) : Prog (TpuEff nD τ sig (Elt F) Λ₀ (.scVector (cV (Lw w)) (jV (Lw w)))) PUnit := do
  let ⟨v65, a1, a2, a3, a4, a5, v69⟩ ← k1_part11 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 1#32 (wd w) 1#32 (c19 w)
  k1_part12 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 1#32 (wd w) 1#32 (c19 w) v65 a1 a2 a3 a4 a5 v69

/-- The third pipeline's program on working tile `w`. -/
def pipe3 (w : Fin 8) : Prog (TpuEff nD τ sig (Elt F) Λ₀ (.scVector (cV (Lw w)) (jV (Lw w)))) PUnit := do
  let ⟨v65, a1, a2, a3, a4, a5, v69⟩ ← k1_part17 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 1#32 (wd w) 1#32 (c37 w)
  k1_part18 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 1#32 (wd w) 1#32 (c37 w) v65 a1 a2 a3 a4 a5 v69

/-- What a working tile runs before its third pipeline: the first two. -/
theorem part19_eq (w : Fin 8) : k1_part19 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 = (do
    pipe1 w; pipe2 w
    pure ⟨0#32, wd w⟩ : Prog (TpuEff nD τ sig (Elt F) Λ₀ (.scVector (cV (Lw w)) (jV (Lw w)))) (Σ' (_ : BitVec 32), BitVec 32)) := by
  have key : k1_part19 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 = (do
      let ⟨v65, a1, a2, a3, a4, a5, v69⟩ ← k1_part5 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 1#32 (wd w) 1#32 (c1 w)
      k1_part6 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 1#32 (wd w) 1#32 (c1 w) v65 a1 a2 a3 a4 a5 v69
      let ⟨v65, a1, a2, a3, a4, a5, v69⟩ ← k1_part11 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 1#32 (wd w) 1#32 (c19 w)
      k1_part12 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 1#32 (wd w) 1#32 (c19 w) v65 a1 a2 a3 a4 a5 v69
      pure ⟨0#32, wd w⟩) := by
    match w with
    | 0 => rfl
    | 1 => rfl
    | 2 => rfl
    | 3 => rfl
    | 4 => rfl
    | 5 => rfl
    | 6 => rfl
    | 7 => rfl
  rw [key]
  unfold pipe1 pipe2
  simp only [bind_assoc]

/-- A working tile runs the three pipelines one after another. -/
theorem tileProg_eq (w : Fin 8) : tileProg (F := F) (Lw w) = (do pipe1 w; pipe2 w; pipe3 w) := by
  have key : tileProg (F := F) (Lw w) = (do
      let ⟨arg0, v24⟩ ← k1_part19 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17
      let v27 : BitVec 32 := Scalar.addi (Scalar.addi 0#32 v24) (Scalar.muli arg0 16#32)
      let v29 : BitVec 32 := Scalar.select (Scalar.cmpi .slt v27 8#32) 1#32 0#32
      let v34 : BitVec 32 := Scalar.select (Scalar.cmpi .slt v27 8#32) (Scalar.muli v27 v29) (Scalar.addi (Scalar.muli v27 0#32) 8#32)
      let ⟨v65, a1, a2, a3, a4, a5, v69⟩ ← k1_part17 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 v29 v34 (Scalar.muli 1#32 v29) (c37 w)
      k1_part18 (F := F) (Lw w) (Memref.whole main_arg4_scv) (Memref.isWhole_whole _) (Memref.whole main_arg5_scv) (Memref.isWhole_whole _) (Memref.whole main_arg6_scv) (Memref.isWhole_whole _) (Memref.whole main_v4_scv) (Memref.isWhole_whole _) (Memref.whole main_v5_0_scv) (Memref.isWhole_whole _) (Memref.whole main_v5_1_scv) (Memref.isWhole_whole _) (Memref.whole main_v5_2_scv) (Memref.isWhole_whole _) (Memref.whole cc1_scoped0) (Memref.isWhole_whole _) cc1_scoped1 (Memref.whole cc1_scoped2) (Memref.isWhole_whole _) cc1_scoped3 cc1_scoped4 cc1_scoped5 (Memref.whole cc1_scoped6) (Memref.isWhole_whole _) cc1_scoped7 (Memref.whole cc1_scoped8) (Memref.isWhole_whole _) cc1_scoped9 cc1_scoped10 cc1_scoped11 (Memref.whole cc1_scoped12) (Memref.isWhole_whole _) cc1_scoped13 (Memref.whole cc1_scoped14) (Memref.isWhole_whole _) cc1_scoped15 cc1_scoped16 cc1_scoped17 v29 v34 (Scalar.muli 1#32 v29) (c37 w) v65 a1 a2 a3 a4 a5 v69
      pure ⟨⟩) := by
    match w with
    | 0 => rfl
    | 1 => rfl
    | 2 => rfl
    | 3 => rfl
    | 4 => rfl
    | 5 => rfl
    | 6 => rfl
    | 7 => rfl
  rw [key, part19_eq]
  have e : ∀ w, Scalar.select (Scalar.cmpi .slt (Scalar.addi (Scalar.addi 0#32 (wd w)) (Scalar.muli 0#32 16#32)) 8#32) 1#32 0#32 = 1#32 := by decide +kernel
  have e' : ∀ w, Scalar.select (Scalar.cmpi .slt (Scalar.addi (Scalar.addi 0#32 (wd w)) (Scalar.muli 0#32 16#32)) 8#32) (Scalar.muli (Scalar.addi (Scalar.addi 0#32 (wd w)) (Scalar.muli 0#32 16#32)) 1#32) (Scalar.addi (Scalar.muli (Scalar.addi (Scalar.addi 0#32 (wd w)) (Scalar.muli 0#32 16#32)) 0#32) 8#32) = wd w := by decide +kernel
  have e'' : Scalar.muli 1#32 1#32 = (1#32 : BitVec 32) := by decide
  simp only [bind_assoc, pure_bind, e, e', e'']
  unfold pipe3
  simp only [bind_pure_unit]

/-- A tile other than the eight working ones runs nothing. -/
theorem idle (L : grid1.Coords) (h1 : k1_cond1 L ≠ 1#1) (h19 : k1_cond19 L ≠ 1#1) (h37 : k1_cond37 L ≠ 1#1) : tileProg (F := F) L = pure ⟨⟩ := by
  unfold tileProg
  rw [cc1_gather_kernel_eq_skeleton]; unfold cc1_gather_kernel_skel
  rw [k1_part19_eq_skeleton]; unfold k1_part19_skel
  simp only [dif_neg h1, dif_neg h19, dif_neg h37, pure_bind]

end Cert.Proof.Gather
end
-- ==== Proof.Tile.lean ====
/-
  What a tile owns, and what its gathers of rows read.
-/
module

public import proofs.«01_k».proof.Proof.Prog
public import Idealize.ShloMosaic.Lib.ViewIndex

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

section Tile

variable (d : Dev nD) (L : grid1.Coords)

/-- The vector subcore at a tile's coordinates. -/
abbrev vV (d : Dev nD) (L : grid1.Coords) : Thread nD τ := V d (cV L) (jV L)

/-- Transfer counter `k` of the eighteen that the gather uses of a tile's, at zero. -/
abbrev sv (d : Dev nD) (L : grid1.Coords) (k : Fin 18) : sProp 𝕄 := semVal (vV d L, .dma (⟨10 + k.val, by omega⟩ : Fin 36)) 0

/-- The eighteen counters' numbers among a tile's. -/
def svIx : Fin 18 ↪ Fin 36 := ⟨fun k => ⟨10 + k.val, by omega⟩, fun a b e => Fin.ext (by have := Fin.mk.inj e; omega)⟩

/-- The other counters of a tile, at zero. -/
def svRest (d : Dev nD) (L : grid1.Coords) : sProp 𝕄 :=
  bigSep (Finset.univ \ Finset.univ.map svIx) fun k : Fin 36 => semVal (vV d L, .dma k) 0

omit [FloatOps F] in
/-- A tile's own semaphores are the eighteen transfer counters and the others. -/
theorem ownSems0_V : (ownSems0 (vV d L) : sProp 𝕄)
    = iprop((sv d L 0 ∗ sv d L 1 ∗ sv d L 2 ∗ sv d L 3 ∗ sv d L 4 ∗ sv d L 5 ∗ sv d L 6 ∗ sv d L 7 ∗ sv d L 8 ∗ sv d L 9
      ∗ sv d L 10 ∗ sv d L 11 ∗ sv d L 12 ∗ sv d L 13 ∗ sv d L 14 ∗ sv d L 15 ∗ sv d L 16 ∗ sv d L 17) ∗ svRest d L) := by
  have e : (bigSep Finset.univ fun k : Fin 36 => (semVal (vV d L, .dma k) 0 : sProp 𝕄))
      = iprop((bigSep Finset.univ fun k : Fin 18 => (semVal (vV d L, .dma (svIx k)) 0 : sProp 𝕄)) ∗ svRest d L) := by
    conv_lhs => rw [show (Finset.univ : Finset (Fin 36)) = Finset.univ.map svIx ∪ (Finset.univ \ Finset.univ.map svIx) by decide]
    rw [bigSep_union (by decide : Disjoint (Finset.univ.map svIx) (Finset.univ \ Finset.univ.map svIx)), bigSep_map]
    rfl
  rw [SparseCore.Cfg.ownSems0_eq,
    show (Finset.univ.filter fun sm : SemLoc sig => sm.isScoped (vV d L).2.kind) = Finset.univ.map ⟨fun k : Fin 36 => (SemLoc.dma k : SemLoc sig), fun _ _ e => SemLoc.dma.inj e⟩ from by
      show (Finset.univ.filter fun sm : SemLoc sig => sm.isScoped .scVector) = _
      decide +kernel,
    bigSep_map]
  refine e.trans (congrArg (fun P : sProp 𝕄 => iprop(P ∗ svRest d L)) ?_)
  iterate 17 rw [bigSep_univ_succ]
  rw [bigSep_univ_of_subsingleton (0 : Fin 1)]
  rfl

/-- Index `(0, k)` of a block of index words. -/
def pix (k : Fin 128) : S1x128.Idx := fun a => match a with | 0 => (0 : Fin 1) | 1 => k

/-- Word `k` of the list a gather reads is word `(0, k)` of the block it was copied from. -/
theorem list_ix : ∀ x : S128.Idx, (Rect.unit (s := S1x128) ![0, 0] ![1, 128] (by decide)).emb (Shape.reshapeEquiv squeezes_S1x128_S128.numel_eq x) = pix (x 0) := by
  decide +kernel

/-- The `k`-th word of a list, in row-major order, is word `k`. -/
theorem rm128 (k : Fin 128) : (S128.rowMajor.symm (Fin.cast rfl k)) 0 = k := by
  apply Fin.ext
  have h := Shape.rowMajor_val_one (d := ![128]) (S128.rowMajor.symm (Fin.cast rfl k))
  rw [← h]
  exact congrArg Fin.val (S128.rowMajor.apply_symm_apply (Fin.cast rfl k))

omit [FloatOps F] in
/-- The source index that a gather of rows by a list of in-range words reads for each index of its destination. -/
theorem gath (l : S128.Idx → Elt F .i32) (hin : ∀ x, (l x).toNat < S100000x128.size gathers_S100000x128_S128x128.axis) (x : S128x128.Idx)
    (v : BitVec 32) (hl : ∀ y : S128.Idx, y 0 = x 0 → l y = v) :
    (Rect.unit (s := S100000x128) ![0, 0] ![100000, 128] (by decide)).emb
      (gathers_S100000x128_S128x128.idx (SparseCore.rows l rfl hin) x) = tix (rowOf v) (x 1) := by
  have hv : (gathers_S100000x128_S128x128.idx (SparseCore.rows l rfl hin) x 0).val = v.toNat := by
    rw [← hl (S128.rowMajor.symm (Fin.cast rfl (x 0))) (rm128 _)]
    rfl
  have hv' : v.toNat < 100000 := hv ▸ (gathers_S100000x128_S128x128.idx (SparseCore.rows l rfl hin) x 0).isLt
  funext a
  match a with
  | 0 => apply Fin.ext
         show 0 + 1 * (gathers_S100000x128_S128x128.idx (SparseCore.rows l rfl hin) x 0).val = min v.toNat 99999
         rw [hv]; omega
  | 1 => apply Fin.ext
         show 0 + 1 * (x 1).val = (x 1).val
         omega

/-- The position of row `k` of block `w`. -/
def blk (w : Fin 8) (k : Fin 128) : Fin 1024 := ⟨128 * w.val + k.val, by omega⟩

end Tile
end Cert.Proof.Gather
end
-- ==== Proof.Run1.lean ====
/-
  The first pipeline of the gather on a working tile: what it leaves.
-/
module

public import proofs.«01_k».proof.Proof.Tile
public import Idealize.ShloMosaic.Lib.ViewIndex

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

section Tile

variable (d : Dev nD)

/-- The rows of the first result that working tile `w` writes, as it addresses them. -/
abbrev oW1 (w : Fin 8) : Memref sig .scVector .hbm S128x128 .f32 :=
  (Memref.whole main_v5_0_scv).slice (Rect.unit (s := S1024x128) (k1_off13 (Lw w) 0#32) S128x128.size
    (k1_off13_inb (Lw w) (z1 w) 1#32 0#32 0#32 0#32 0#32 (h1 w) (c1 w) (c7 w))) (fun _ => rfl)

/-- Slot 0 of the first pipeline's buffer of index words, as a copy addresses it. -/
abbrev slotI1 (w : Fin 8) : Memref sig .scVector .vmem S1x128 .i32 :=
  ((Memref.whole cc1_scoped0).slice (Rect.unit (s := S2x1x128) k1_off1 S1x1x128.size (k1_off1_inb (Lw w) (c1 w) (c2 w))) (fun _ => rfl)).squeeze S1x128 squeezes_S1x1x128_S1x128
/-- The same slot as the list that the gather reads. -/
abbrev listI1 : Memref sig .scVector .vmem S128 .i32 :=
  ((((Memref.whole cc1_scoped0).slice (Rect.unit (s := S2x1x128) ![0, 0, 0] ![1, 1, 128] (by decide)) (fun _ => rfl)).squeeze S1x128 squeezes_S1x1x128_S1x128).slice
    (Rect.unit (s := S1x128) ![0, 0] ![1, 128] (by decide)) (fun _ => rfl)).squeeze S128 squeezes_S1x128_S128

omit [FloatOps F] in
/-- The list a gather reads, after a block of index words was copied into its slot, is that block. -/
theorem list_read1 (w : Fin 8) (b0 : S2x1x128.Idx → Elt F .i32) (pay : S1x128.Idx → Elt F .i32) (x : S128.Idx) :
    listI1.view.read (Elt F) ((slotI1 w).view.write (Elt F) b0 pay Finset.univ) x = pay (pix (x 0)) := by
  change (slotI1 w).view.read (Elt F) ((slotI1 w).view.write (Elt F) b0 pay Finset.univ) ((Rect.unit (s := S1x128) ![0, 0] ![1, 128] (by decide)).emb (Shape.reshapeEquiv squeezes_S1x128_S128.numel_eq x)) = _
  rw [View.read_write_univ, list_ix]

omit [FloatOps F] in
/-- A block written with the rows its words name holds what the whole result should. -/
theorem val1 (w : Fin 8) (f0 : S100000x128.Idx → Elt F .f32) (ix : S1x1024.Idx → Elt F .i32) (o0 : S1024x128.Idx → Elt F .f32)
    (pay : S128x128.Idx → Elt F .f32) (hpay : ∀ x, pay x = f0 (tix (rowOf (ix (lix (blk w (x 0))))) (x 1))) :
    ∀ i ∈ (oW1 w).view.set, (oW1 w).view.writes (Elt F) o0 [⟨Rect.whole S128x128, pay⟩] i = rows f0 ix i := by
  intro i hi
  obtain ⟨x, e⟩ := View.exists_of_mem_set_slice (v := (Memref.whole main_v5_0_scv).view) hi
  subst e
  have key : (oW1 w).view.writes (Elt F) o0 [⟨Rect.whole S128x128, pay⟩] ((oW1 w).view.emb x) = pay x := by
    have h := View.read_writes_cons_emb (oW1 w).view (Val := Elt F) o0 (Rect.whole S128x128) pay [] x
    rw [View.read_apply, Rect.emb_whole_apply, cast_eq] at h
    exact h
  refine key.trans ((hpay x).trans ?_)
  · unfold rows
    have e0 : ((oW1 w).view.emb x : S1024x128.Idx) 0 = blk w (x 0) := by
      apply Fin.ext
      show k1_off13 (Lw w) 0#32 0 + 1 * (x 0).val = 128 * w.val + (x 0).val
      rw [show k1_off13 (Lw w) 0#32 0 = 128 * w.val from congrFun (o13 w) 0, one_mul]
    have e1 : ((oW1 w).view.emb x : S1024x128.Idx) 1 = x 1 := by
      apply Fin.ext
      show k1_off13 (Lw w) 0#32 1 + 1 * (x 1).val = (x 1).val
      rw [show k1_off13 (Lw w) 0#32 1 = 0 from congrFun (o13 w) 1, one_mul, zero_add]
    show _ = f0 (tix (rowOf (ix (lix (((oW1 w).view.emb x : S1024x128.Idx) 0)))) (((oW1 w).view.emb x : S1024x128.Idx) 1))
    rw [e0, e1]

set_option maxHeartbeats 4000000 in
/-- The first pipeline on working tile `w`: from shares of its table and of the index words, its block of the result at anything,
    its two buffers and its transfer counters, it ends with the block at the gathered rows and everything else back. -/
theorem run1 (w : Fin 8) (O : CellTallies nD τ sig (HIx 1)) (W : Waits sig (HIx 1)) (q : PosShare TreeShare)
   (f0 : S100000x128.Idx → Elt F .f32) (ix : S1x1024.Idx → Elt F .i32) (o0 : S1024x128.Idx → Elt F .f32)
   (b0 : S2x1x128.Idx → Elt F .i32) (r0 : S2x128x128.Idx → Elt F .f32) (hix : ∀ j, (ix j).toNat < 100000) :
    iprop((Transfers.MayWaits (vV d (Lw w)) (default : HIx 1) O : sProp 𝕄)
        ∗ ((Memref.whole main_arg4_scv).view.loc (vV d (Lw w)) ↦{q} f0) ∗ ((Memref.whole main_v4_scv).view.loc (vV d (Lw w)) ↦{q} ix)
        ∗ ((oW1 w).view.loc (vV d (Lw w)) ↦[(oW1 w).view.set]{fullShare} o0)
        ∗ ((Memref.whole cc1_scoped0).view.loc (vV d (Lw w)) ↦{fullShare} b0) ∗ ((Memref.whole cc1_scoped2).view.loc (vV d (Lw w)) ↦{fullShare} r0)
        ∗ sv d (Lw w) 0 ∗ sv d (Lw w) 2 ∗ sv d (Lw w) 4 ∗ owes (vV d (Lw w)) O W)
      ⊢ wp frame (wpE (defs₀ (F := F)) 𝒱₀ (vV d (Lw w)) none) Set.univ (pipe1 (F := F) w) fun _ =>
        iprop(((Memref.whole main_arg4_scv).view.loc (vV d (Lw w)) ↦{q} f0) ∗ ((Memref.whole main_v4_scv).view.loc (vV d (Lw w)) ↦{q} ix)
        ∗ ((oW1 w).view.loc (vV d (Lw w)) ↦[(oW1 w).view.set]{fullShare} (rows f0 ix : S1024x128.Idx → Elt F .f32))
        ∗ (∃ b, (Memref.whole cc1_scoped0).view.loc (vV d (Lw w)) ↦{fullShare} b) ∗ (∃ r, (Memref.whole cc1_scoped2).view.loc (vV d (Lw w)) ↦{fullShare} r)
        ∗ sv d (Lw w) 0 ∗ sv d (Lw w) 2 ∗ sv d (Lw w) 4
        ∗ ∃ W', ⌜∀ p ∈ W', p ∈ W ∨ p.2 = none⌝ ∗ owes (vV d (Lw w)) O W') := by
  unfold pipe1
  rw [k1_part5_eq_skeleton, k1_part6_eq_skeleton]; unfold k1_part5_skel k1_part6_skel
  iintro ⟨#Hmw, Hf, Hi, Ho, Hb, Hr, S0, S2, S4, HO⟩
  have e1 := c1 w; have e2 := c2 w; have e18 := c18 w; have e3 := c3 w; have e4 := c4 w; have e7 := c7 w; have e9 := c9 w
  have e1' := h1 w; have e2' := h2 w; have e3' := h3 w; have e7' := h7 w; have e8' := h8 w
  sl_exec!
  rw [for_one _ _ (t1 w)]
  unfold k1_t1_body
  sl_exec!
  have hin : ∀ x, (listI1.view.read (Elt F) ((slotI1 w).view.write (Elt F) b0 (run1.sl.dma0 w ix e2) Finset.univ) x).toNat < S100000x128.size gathers_S100000x128_S128x128.axis := by
    intro x; rw [list_read1]
    exact hix _
  sl_exec!
  rw [for_zero _ _ (t2 w)]
  sl_exec!
  have hv : ∀ x, run1.sl.dma0_1 w f0 ix b0 r0 e2 e7 e1' e2' e3' hin x = f0 (tix (rowOf (ix (lix (blk w (x 0))))) (x 1)) := by
    intro x
    dsimp only [run1.sl.dma0_1, run1.sl.gather0]
    refine (congrFun (View.read_write_univ _ _) x).trans ?_
    refine congrArg f0 (gath (F := F) _ hin x (ix (lix (blk w (x 0)))) fun y hy => ?_)
    rw [list_read1]
    refine congrArg ix ?_
    funext a
    match a with
    | 0 => exact Subsingleton.elim (α := Fin 1) _ _
    | 1 => apply Fin.ext
           show k1_off2 (Lw w) 1 + 1 * (y 0).val = 128 * w.val + (x 0).val
           rw [show k1_off2 (Lw w) 1 = 128 * w.val from congrFun (o2 w) 1, hy, one_mul]
  sl_step
  isplitl [Hf]; · iexact Hf
  isplitl [Hi]; · iexact Hi
  isplitl [Ho]; · iapply (Entails.of_eq (pointsTo_congr (val1 w f0 ix o0 _ hv))); iexact Ho
  isplitl [Hb]; · iexists _; iexact Hb
  isplitl [Hr]; · iexists _; iexact Hr
  isplitl [S0]; · iexact S0
  isplitl [S2]; · iexact S2
  isplitl [S4]; · iexact S4
  iexists _; isplitr
  swap; · iexact HO
  ipureintro; intro p hp
  simp only [Finset.mem_insert] at hp
  rcases hp with rfl | rfl | rfl | hp
  · exact .inr rfl
  · exact .inr rfl
  · exact .inr rfl
  · exact .inl hp

end Tile
end Cert.Proof.Gather
end
-- ==== Proof.Run2.lean ====
/-
  The second pipeline of the gather on a working tile: what it leaves.
-/
module

public import proofs.«01_k».proof.Proof.Tile
public import Idealize.ShloMosaic.Lib.ViewIndex

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

section Tile

variable (d : Dev nD)

/-- The rows of the second result that working tile `w` writes, as it addresses them. -/
abbrev oW2 (w : Fin 8) : Memref sig .scVector .hbm S128x128 .f32 :=
  (Memref.whole main_v5_1_scv).slice (Rect.unit (s := S1024x128) (k1_off48 (Lw w) 0#32) S128x128.size
    (k1_off48_inb (Lw w) (z3 w) 1#32 0#32 0#32 0#32 0#32 (h9 w) (c19 w) (c25 w))) (fun _ => rfl)

/-- Slot 0 of the second pipeline's buffer of index words, as a copy addresses it. -/
abbrev slotI2 (w : Fin 8) : Memref sig .scVector .vmem S1x128 .i32 :=
  ((Memref.whole cc1_scoped6).slice (Rect.unit (s := S2x1x128) k1_off36 S1x1x128.size (k1_off36_inb (Lw w) (c19 w) (c20 w))) (fun _ => rfl)).squeeze S1x128 squeezes_S1x1x128_S1x128
/-- The same slot as the list that the gather reads. -/
abbrev listI2 : Memref sig .scVector .vmem S128 .i32 :=
  ((((Memref.whole cc1_scoped6).slice (Rect.unit (s := S2x1x128) ![0, 0, 0] ![1, 1, 128] (by decide)) (fun _ => rfl)).squeeze S1x128 squeezes_S1x1x128_S1x128).slice
    (Rect.unit (s := S1x128) ![0, 0] ![1, 128] (by decide)) (fun _ => rfl)).squeeze S128 squeezes_S1x128_S128

omit [FloatOps F] in
/-- The list a gather reads, after a block of index words was copied into its slot, is that block. -/
theorem list_read2 (w : Fin 8) (b0 : S2x1x128.Idx → Elt F .i32) (pay : S1x128.Idx → Elt F .i32) (x : S128.Idx) :
    listI2.view.read (Elt F) ((slotI2 w).view.write (Elt F) b0 pay Finset.univ) x = pay (pix (x 0)) := by
  change (slotI2 w).view.read (Elt F) ((slotI2 w).view.write (Elt F) b0 pay Finset.univ) ((Rect.unit (s := S1x128) ![0, 0] ![1, 128] (by decide)).emb (Shape.reshapeEquiv squeezes_S1x128_S128.numel_eq x)) = _
  rw [View.read_write_univ, list_ix]

omit [FloatOps F] in
/-- A block written with the rows its words name holds what the whole result should. -/
theorem val2 (w : Fin 8) (f0 : S100000x128.Idx → Elt F .f32) (ix : S1x1024.Idx → Elt F .i32) (o0 : S1024x128.Idx → Elt F .f32)
    (pay : S128x128.Idx → Elt F .f32) (hpay : ∀ x, pay x = f0 (tix (rowOf (ix (lix (blk w (x 0))))) (x 1))) :
    ∀ i ∈ (oW2 w).view.set, (oW2 w).view.writes (Elt F) o0 [⟨Rect.whole S128x128, pay⟩] i = rows f0 ix i := by
  intro i hi
  obtain ⟨x, e⟩ := View.exists_of_mem_set_slice (v := (Memref.whole main_v5_1_scv).view) hi
  subst e
  have key : (oW2 w).view.writes (Elt F) o0 [⟨Rect.whole S128x128, pay⟩] ((oW2 w).view.emb x) = pay x := by
    have h := View.read_writes_cons_emb (oW2 w).view (Val := Elt F) o0 (Rect.whole S128x128) pay [] x
    rw [View.read_apply, Rect.emb_whole_apply, cast_eq] at h
    exact h
  refine key.trans ((hpay x).trans ?_)
  · unfold rows
    have e0 : ((oW2 w).view.emb x : S1024x128.Idx) 0 = blk w (x 0) := by
      apply Fin.ext
      show k1_off48 (Lw w) 0#32 0 + 1 * (x 0).val = 128 * w.val + (x 0).val
      rw [show k1_off48 (Lw w) 0#32 0 = 128 * w.val from congrFun (o48 w) 0, one_mul]
    have e1 : ((oW2 w).view.emb x : S1024x128.Idx) 1 = x 1 := by
      apply Fin.ext
      show k1_off48 (Lw w) 0#32 1 + 1 * (x 1).val = (x 1).val
      rw [show k1_off48 (Lw w) 0#32 1 = 0 from congrFun (o48 w) 1, one_mul, zero_add]
    show _ = f0 (tix (rowOf (ix (lix (((oW2 w).view.emb x : S1024x128.Idx) 0)))) (((oW2 w).view.emb x : S1024x128.Idx) 1))
    rw [e0, e1]

set_option maxHeartbeats 4000000 in
/-- The second pipeline on working tile `w`: from shares of its table and of the index words, its block of the result at anything,
    its two buffers and its transfer counters, it ends with the block at the gathered rows and everything else back. -/
theorem run2 (w : Fin 8) (O : CellTallies nD τ sig (HIx 1)) (W : Waits sig (HIx 1)) (q : PosShare TreeShare)
   (f0 : S100000x128.Idx → Elt F .f32) (ix : S1x1024.Idx → Elt F .i32) (o0 : S1024x128.Idx → Elt F .f32)
   (b0 : S2x1x128.Idx → Elt F .i32) (r0 : S2x128x128.Idx → Elt F .f32) (hix : ∀ j, (ix j).toNat < 100000) :
    iprop((Transfers.MayWaits (vV d (Lw w)) (default : HIx 1) O : sProp 𝕄)
        ∗ ((Memref.whole main_arg5_scv).view.loc (vV d (Lw w)) ↦{q} f0) ∗ ((Memref.whole main_v4_scv).view.loc (vV d (Lw w)) ↦{q} ix)
        ∗ ((oW2 w).view.loc (vV d (Lw w)) ↦[(oW2 w).view.set]{fullShare} o0)
        ∗ ((Memref.whole cc1_scoped6).view.loc (vV d (Lw w)) ↦{fullShare} b0) ∗ ((Memref.whole cc1_scoped8).view.loc (vV d (Lw w)) ↦{fullShare} r0)
        ∗ sv d (Lw w) 6 ∗ sv d (Lw w) 8 ∗ sv d (Lw w) 10 ∗ owes (vV d (Lw w)) O W)
      ⊢ wp frame (wpE (defs₀ (F := F)) 𝒱₀ (vV d (Lw w)) none) Set.univ (pipe2 (F := F) w) fun _ =>
        iprop(((Memref.whole main_arg5_scv).view.loc (vV d (Lw w)) ↦{q} f0) ∗ ((Memref.whole main_v4_scv).view.loc (vV d (Lw w)) ↦{q} ix)
        ∗ ((oW2 w).view.loc (vV d (Lw w)) ↦[(oW2 w).view.set]{fullShare} (rows f0 ix : S1024x128.Idx → Elt F .f32))
        ∗ (∃ b, (Memref.whole cc1_scoped6).view.loc (vV d (Lw w)) ↦{fullShare} b) ∗ (∃ r, (Memref.whole cc1_scoped8).view.loc (vV d (Lw w)) ↦{fullShare} r)
        ∗ sv d (Lw w) 6 ∗ sv d (Lw w) 8 ∗ sv d (Lw w) 10
        ∗ ∃ W', ⌜∀ p ∈ W', p ∈ W ∨ p.2 = none⌝ ∗ owes (vV d (Lw w)) O W') := by
  unfold pipe2
  rw [k1_part11_eq_skeleton, k1_part12_eq_skeleton]; unfold k1_part11_skel k1_part12_skel
  iintro ⟨#Hmw, Hf, Hi, Ho, Hb, Hr, S0, S2, S4, HO⟩
  have e1 := c19 w; have e2 := c20 w; have e18 := c36 w; have e3 := c21 w; have e4 := c22 w; have e7 := c25 w; have e9 := c27 w
  have e1' := h9 w; have e2' := h10 w; have e3' := h11 w; have e7' := h15 w; have e8' := h16 w
  sl_exec!
  rw [for_one _ _ (t3 w)]
  unfold k1_t3_body
  sl_exec!
  have hin : ∀ x, (listI2.view.read (Elt F) ((slotI2 w).view.write (Elt F) b0 (run2.sl.dma0 w ix e2) Finset.univ) x).toNat < S100000x128.size gathers_S100000x128_S128x128.axis := by
    intro x; rw [list_read2]
    exact hix _
  sl_exec!
  rw [for_zero _ _ (t4 w)]
  sl_exec!
  have hv : ∀ x, run2.sl.dma0_1 w f0 ix b0 r0 e2 e7 e1' e2' e3' hin x = f0 (tix (rowOf (ix (lix (blk w (x 0))))) (x 1)) := by
    intro x
    dsimp only [run2.sl.dma0_1, run2.sl.gather0]
    refine (congrFun (View.read_write_univ _ _) x).trans ?_
    refine congrArg f0 (gath (F := F) _ hin x (ix (lix (blk w (x 0)))) fun y hy => ?_)
    rw [list_read2]
    refine congrArg ix ?_
    funext a
    match a with
    | 0 => exact Subsingleton.elim (α := Fin 1) _ _
    | 1 => apply Fin.ext
           show k1_off37 (Lw w) 1 + 1 * (y 0).val = 128 * w.val + (x 0).val
           rw [show k1_off37 (Lw w) 1 = 128 * w.val from congrFun (o37 w) 1, hy, one_mul]
  sl_step
  isplitl [Hf]; · iexact Hf
  isplitl [Hi]; · iexact Hi
  isplitl [Ho]; · iapply (Entails.of_eq (pointsTo_congr (val2 w f0 ix o0 _ hv))); iexact Ho
  isplitl [Hb]; · iexists _; iexact Hb
  isplitl [Hr]; · iexists _; iexact Hr
  isplitl [S0]; · iexact S0
  isplitl [S2]; · iexact S2
  isplitl [S4]; · iexact S4
  iexists _; isplitr
  swap; · iexact HO
  ipureintro; intro p hp
  simp only [Finset.mem_insert] at hp
  rcases hp with rfl | rfl | rfl | hp
  · exact .inr rfl
  · exact .inr rfl
  · exact .inr rfl
  · exact .inl hp

end Tile
end Cert.Proof.Gather
end
-- ==== Proof.Run3.lean ====
/-
  The third pipeline of the gather on a working tile: what it leaves.
-/
module

public import proofs.«01_k».proof.Proof.Tile
public import Idealize.ShloMosaic.Lib.ViewIndex

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

section Tile

variable (d : Dev nD)

/-- The rows of the third result that working tile `w` writes, as it addresses them. -/
abbrev oW3 (w : Fin 8) : Memref sig .scVector .hbm S128x128 .f32 :=
  (Memref.whole main_v5_2_scv).slice (Rect.unit (s := S1024x128) (k1_off83 (Lw w) 0#32) S128x128.size
    (k1_off83_inb (Lw w) (z5 w) 1#32 0#32 0#32 0#32 0#32 (h17 w) (c37 w) (c43 w))) (fun _ => rfl)

/-- Slot 0 of the third pipeline's buffer of index words, as a copy addresses it. -/
abbrev slotI3 (w : Fin 8) : Memref sig .scVector .vmem S1x128 .i32 :=
  ((Memref.whole cc1_scoped12).slice (Rect.unit (s := S2x1x128) k1_off71 S1x1x128.size (k1_off71_inb (Lw w) (c37 w) (c38 w))) (fun _ => rfl)).squeeze S1x128 squeezes_S1x1x128_S1x128
/-- The same slot as the list that the gather reads. -/
abbrev listI3 : Memref sig .scVector .vmem S128 .i32 :=
  ((((Memref.whole cc1_scoped12).slice (Rect.unit (s := S2x1x128) ![0, 0, 0] ![1, 1, 128] (by decide)) (fun _ => rfl)).squeeze S1x128 squeezes_S1x1x128_S1x128).slice
    (Rect.unit (s := S1x128) ![0, 0] ![1, 128] (by decide)) (fun _ => rfl)).squeeze S128 squeezes_S1x128_S128

omit [FloatOps F] in
/-- The list a gather reads, after a block of index words was copied into its slot, is that block. -/
theorem list_read3 (w : Fin 8) (b0 : S2x1x128.Idx → Elt F .i32) (pay : S1x128.Idx → Elt F .i32) (x : S128.Idx) :
    listI3.view.read (Elt F) ((slotI3 w).view.write (Elt F) b0 pay Finset.univ) x = pay (pix (x 0)) := by
  change (slotI3 w).view.read (Elt F) ((slotI3 w).view.write (Elt F) b0 pay Finset.univ) ((Rect.unit (s := S1x128) ![0, 0] ![1, 128] (by decide)).emb (Shape.reshapeEquiv squeezes_S1x128_S128.numel_eq x)) = _
  rw [View.read_write_univ, list_ix]

omit [FloatOps F] in
/-- A block written with the rows its words name holds what the whole result should. -/
theorem val3 (w : Fin 8) (f0 : S100000x128.Idx → Elt F .f32) (ix : S1x1024.Idx → Elt F .i32) (o0 : S1024x128.Idx → Elt F .f32)
    (pay : S128x128.Idx → Elt F .f32) (hpay : ∀ x, pay x = f0 (tix (rowOf (ix (lix (blk w (x 0))))) (x 1))) :
    ∀ i ∈ (oW3 w).view.set, (oW3 w).view.writes (Elt F) o0 [⟨Rect.whole S128x128, pay⟩] i = rows f0 ix i := by
  intro i hi
  obtain ⟨x, e⟩ := View.exists_of_mem_set_slice (v := (Memref.whole main_v5_2_scv).view) hi
  subst e
  have key : (oW3 w).view.writes (Elt F) o0 [⟨Rect.whole S128x128, pay⟩] ((oW3 w).view.emb x) = pay x := by
    have h := View.read_writes_cons_emb (oW3 w).view (Val := Elt F) o0 (Rect.whole S128x128) pay [] x
    rw [View.read_apply, Rect.emb_whole_apply, cast_eq] at h
    exact h
  refine key.trans ((hpay x).trans ?_)
  · unfold rows
    have e0 : ((oW3 w).view.emb x : S1024x128.Idx) 0 = blk w (x 0) := by
      apply Fin.ext
      show k1_off83 (Lw w) 0#32 0 + 1 * (x 0).val = 128 * w.val + (x 0).val
      rw [show k1_off83 (Lw w) 0#32 0 = 128 * w.val from congrFun (o83 w) 0, one_mul]
    have e1 : ((oW3 w).view.emb x : S1024x128.Idx) 1 = x 1 := by
      apply Fin.ext
      show k1_off83 (Lw w) 0#32 1 + 1 * (x 1).val = (x 1).val
      rw [show k1_off83 (Lw w) 0#32 1 = 0 from congrFun (o83 w) 1, one_mul, zero_add]
    show _ = f0 (tix (rowOf (ix (lix (((oW3 w).view.emb x : S1024x128.Idx) 0)))) (((oW3 w).view.emb x : S1024x128.Idx) 1))
    rw [e0, e1]

set_option maxHeartbeats 4000000 in
/-- The third pipeline on working tile `w`: from shares of its table and of the index words, its block of the result at anything,
    its two buffers and its transfer counters, it ends with the block at the gathered rows and everything else back. -/
theorem run3 (w : Fin 8) (O : CellTallies nD τ sig (HIx 1)) (W : Waits sig (HIx 1)) (q : PosShare TreeShare)
   (f0 : S100000x128.Idx → Elt F .f32) (ix : S1x1024.Idx → Elt F .i32) (o0 : S1024x128.Idx → Elt F .f32)
   (b0 : S2x1x128.Idx → Elt F .i32) (r0 : S2x128x128.Idx → Elt F .f32) (hix : ∀ j, (ix j).toNat < 100000) :
    iprop((Transfers.MayWaits (vV d (Lw w)) (default : HIx 1) O : sProp 𝕄)
        ∗ ((Memref.whole main_arg6_scv).view.loc (vV d (Lw w)) ↦{q} f0) ∗ ((Memref.whole main_v4_scv).view.loc (vV d (Lw w)) ↦{q} ix)
        ∗ ((oW3 w).view.loc (vV d (Lw w)) ↦[(oW3 w).view.set]{fullShare} o0)
        ∗ ((Memref.whole cc1_scoped12).view.loc (vV d (Lw w)) ↦{fullShare} b0) ∗ ((Memref.whole cc1_scoped14).view.loc (vV d (Lw w)) ↦{fullShare} r0)
        ∗ sv d (Lw w) 12 ∗ sv d (Lw w) 14 ∗ sv d (Lw w) 16 ∗ owes (vV d (Lw w)) O W)
      ⊢ wp frame (wpE (defs₀ (F := F)) 𝒱₀ (vV d (Lw w)) none) Set.univ (pipe3 (F := F) w) fun _ =>
        iprop(((Memref.whole main_arg6_scv).view.loc (vV d (Lw w)) ↦{q} f0) ∗ ((Memref.whole main_v4_scv).view.loc (vV d (Lw w)) ↦{q} ix)
        ∗ ((oW3 w).view.loc (vV d (Lw w)) ↦[(oW3 w).view.set]{fullShare} (rows f0 ix : S1024x128.Idx → Elt F .f32))
        ∗ (∃ b, (Memref.whole cc1_scoped12).view.loc (vV d (Lw w)) ↦{fullShare} b) ∗ (∃ r, (Memref.whole cc1_scoped14).view.loc (vV d (Lw w)) ↦{fullShare} r)
        ∗ sv d (Lw w) 12 ∗ sv d (Lw w) 14 ∗ sv d (Lw w) 16
        ∗ ∃ W', ⌜∀ p ∈ W', p ∈ W ∨ p.2 = none⌝ ∗ owes (vV d (Lw w)) O W') := by
  unfold pipe3
  rw [k1_part17_eq_skeleton, k1_part18_eq_skeleton]; unfold k1_part17_skel k1_part18_skel
  iintro ⟨#Hmw, Hf, Hi, Ho, Hb, Hr, S0, S2, S4, HO⟩
  have e1 := c37 w; have e2 := c38 w; have e18 := c54 w; have e3 := c39 w; have e4 := c40 w; have e7 := c43 w; have e9 := c45 w
  have e1' := h17 w; have e2' := h18 w; have e3' := h19 w; have e7' := h23 w; have e8' := h24 w
  sl_exec!
  rw [for_one _ _ (t5 w)]
  unfold k1_t5_body
  sl_exec!
  have hin : ∀ x, (listI3.view.read (Elt F) ((slotI3 w).view.write (Elt F) b0 (run3.sl.dma0 w ix e2) Finset.univ) x).toNat < S100000x128.size gathers_S100000x128_S128x128.axis := by
    intro x; rw [list_read3]
    exact hix _
  sl_exec!
  rw [for_zero _ _ (t6 w)]
  sl_exec!
  have hv : ∀ x, run3.sl.dma0_1 w f0 ix b0 r0 e2 e7 e1' e2' e3' hin x = f0 (tix (rowOf (ix (lix (blk w (x 0))))) (x 1)) := by
    intro x
    dsimp only [run3.sl.dma0_1, run3.sl.gather0]
    refine (congrFun (View.read_write_univ _ _) x).trans ?_
    refine congrArg f0 (gath (F := F) _ hin x (ix (lix (blk w (x 0)))) fun y hy => ?_)
    rw [list_read3]
    refine congrArg ix ?_
    funext a
    match a with
    | 0 => exact Subsingleton.elim (α := Fin 1) _ _
    | 1 => apply Fin.ext
           show k1_off72 (Lw w) 1 + 1 * (y 0).val = 128 * w.val + (x 0).val
           rw [show k1_off72 (Lw w) 1 = 128 * w.val from congrFun (o72 w) 1, hy, one_mul]
  sl_step
  isplitl [Hf]; · iexact Hf
  isplitl [Hi]; · iexact Hi
  isplitl [Ho]; · iapply (Entails.of_eq (pointsTo_congr (val3 w f0 ix o0 _ hv))); iexact Ho
  isplitl [Hb]; · iexists _; iexact Hb
  isplitl [Hr]; · iexists _; iexact Hr
  isplitl [S0]; · iexact S0
  isplitl [S2]; · iexact S2
  isplitl [S4]; · iexact S4
  iexists _; isplitr
  swap; · iexact HO
  ipureintro; intro p hp
  simp only [Finset.mem_insert] at hp
  rcases hp with rfl | rfl | rfl | hp
  · exact .inr rfl
  · exact .inr rfl
  · exact .inr rfl
  · exact .inl hp

end Tile
end Cert.Proof.Gather
end
-- ==== Proof.TileRun.lean ====
/-
  The launch of the gather: what the call hands each tile, what a tile does with it, how the operands split among
  the tiles and come back, and what the whole program leaves.
-/
module

public import proofs.«01_k».proof.Proof.Run1
public import proofs.«01_k».proof.Proof.Run2
public import proofs.«01_k».proof.Proof.Run3

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

section Tile

variable (d : Dev nD) (L : grid1.Coords)

omit [FloatOps F] in
/-- Distinct references of a tile are distinct buffers of the device. -/
theorem devRef_ne {a b : Ref sig .scVector} (h : a ≠ b) :
    (Proc.scVector (cV L) (jV L)).devRef a ≠ (Proc.scVector (cV L) (jV L)).devRef b := fun e => h (Proc.devRef_injective _ e)

/-- A tile's own buffers other than the six that the pipelines use. -/
def bufRest : Finset (DevRef τ sig) :=
  ((((((ownRefs (τ := τ) (.scVector (cV L) (jV L))).erase ((Proc.scVector (cV L) (jV L)).devRef cc1_scoped0)).erase
    ((Proc.scVector (cV L) (jV L)).devRef cc1_scoped2)).erase ((Proc.scVector (cV L) (jV L)).devRef cc1_scoped6)).erase
    ((Proc.scVector (cV L) (jV L)).devRef cc1_scoped8)).erase ((Proc.scVector (cV L) (jV L)).devRef cc1_scoped12)).erase
    ((Proc.scVector (cV L) (jV L)).devRef cc1_scoped14)

omit [FloatOps F] in
/-- A tile's own buffers are the six that the pipelines use, at some contents, and the rest. -/
theorem ownBufs_V : (ownBufs (vV d L) : sProp 𝕄)
    = iprop((∃ f, (Memref.whole cc1_scoped0).view.loc (vV d L) ↦{fullShare} f) ∗ (∃ f, (Memref.whole cc1_scoped2).view.loc (vV d L) ↦{fullShare} f)
      ∗ (∃ f, (Memref.whole cc1_scoped6).view.loc (vV d L) ↦{fullShare} f) ∗ (∃ f, (Memref.whole cc1_scoped8).view.loc (vV d L) ↦{fullShare} f)
      ∗ (∃ f, (Memref.whole cc1_scoped12).view.loc (vV d L) ↦{fullShare} f) ∗ (∃ f, (Memref.whole cc1_scoped14).view.loc (vV d L) ↦{fullShare} f)
      ∗ bigSep (bufRest L) fun b => iprop(∃ f, ((d, b) : Loc nD τ sig) ↦{fullShare} f)) := by
  have hm : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b h => mem_ownRefs_of_owner h
  unfold SparseCore.Cfg.ownBufs bufRest
  refine (SparseCore.bigSep_erase' (hm cc1_scoped0 rfl)).trans ?_
  rw [SparseCore.bigSep_erase' (i := (Proc.scVector (cV L) (jV L)).devRef cc1_scoped2) (Finset.mem_erase.mpr ⟨devRef_ne L (by decide), hm _ rfl⟩),
    SparseCore.bigSep_erase' (i := (Proc.scVector (cV L) (jV L)).devRef cc1_scoped6) (Finset.mem_erase.mpr ⟨devRef_ne L (by decide), Finset.mem_erase.mpr ⟨devRef_ne L (by decide), hm _ rfl⟩⟩),
    SparseCore.bigSep_erase' (i := (Proc.scVector (cV L) (jV L)).devRef cc1_scoped8) (Finset.mem_erase.mpr ⟨devRef_ne L (by decide), Finset.mem_erase.mpr ⟨devRef_ne L (by decide), Finset.mem_erase.mpr ⟨devRef_ne L (by decide), hm _ rfl⟩⟩⟩),
    SparseCore.bigSep_erase' (i := (Proc.scVector (cV L) (jV L)).devRef cc1_scoped12) (Finset.mem_erase.mpr ⟨devRef_ne L (by decide), Finset.mem_erase.mpr ⟨devRef_ne L (by decide), Finset.mem_erase.mpr ⟨devRef_ne L (by decide), Finset.mem_erase.mpr ⟨devRef_ne L (by decide), hm _ rfl⟩⟩⟩⟩),
    SparseCore.bigSep_erase' (i := (Proc.scVector (cV L) (jV L)).devRef cc1_scoped14) (Finset.mem_erase.mpr ⟨devRef_ne L (by decide), Finset.mem_erase.mpr ⟨devRef_ne L (by decide), Finset.mem_erase.mpr ⟨devRef_ne L (by decide), Finset.mem_erase.mpr ⟨devRef_ne L (by decide), Finset.mem_erase.mpr ⟨devRef_ne L (by decide), hm _ rfl⟩⟩⟩⟩⟩)]

/-- A rectangle of 128 whole rows from row `128 w` is block `w`. -/
theorem rect_blk (w : Fin 8) (off : Fin 2 → Nat) (h : off = ![128 * w.val, 0]) (inb : ∀ a, off a + S128x128.size a ≤ S1024x128.size a) :
    Rect.unit (s := S1024x128) off S128x128.size inb = oblk w := by
  subst h
  unfold oblk Rect.part Rect.block
  congr 1 <;> funext a
  · match a with
    | 0 => simp [Shape.partIx, Shape.partSize]; omega
    | 1 => simp [Shape.partIx, Shape.partSize]
  · match a with
    | 0 => simp [Shape.partSize]
    | 1 => simp [Shape.partSize]

theorem set_oW1 (w : Fin 8) : (oW1 w).view.set = (oblk w).set := by
  show ((View.whole (main_v5_0_scv : Ref sig .scVector)).slice _).set = _
  rw [View.set_slice, rect_blk w _ (o13 w)]; exact Finset.map_refl
theorem set_oW2 (w : Fin 8) : (oW2 w).view.set = (oblk w).set := by
  show ((View.whole (main_v5_1_scv : Ref sig .scVector)).slice _).set = _
  rw [View.set_slice, rect_blk w _ (o48 w)]; exact Finset.map_refl
theorem set_oW3 (w : Fin 8) : (oW3 w).view.set = (oblk w).set := by
  show ((View.whole (main_v5_2_scv : Ref sig .scVector)).slice _).set = _
  rw [View.set_slice, rect_blk w _ (o83 w)]; exact Finset.map_refl

/-! ## What each tile is handed -/

variable (f u x : S100000x128.Idx → Elt F .f32) (ix : S1x1024.Idx → Elt F .i32)

/-- What tile `s` of SparseCore `c` holds of the call's operands: a share of each table and of the index words, and its
    rows of the three results. -/
def tileRes (c : Fin 2) (s : Fin 16) (o p q : S1024x128.Idx → Elt F .f32) : sProp 𝕄 :=
  iprop((fLoc d ↦{tq c s} f) ∗ (uLoc d ↦{tq c s} u) ∗ (wLoc d ↦{tq c s} x) ∗ (iLoc d ↦{tq c s} ix)
    ∗ (oLoc d ↦[oSet c s]{fullShare} o) ∗ (pLoc d ↦[oSet c s]{fullShare} p) ∗ (qLoc d ↦[oSet c s]{fullShare} q))

set_option maxHeartbeats 2000000 in
/-- A working tile: the three pipelines one after another leave its rows of the three results at the gathered rows. -/
theorem tile_work (hF : (K (F := F)).Facts) (L : grid1.Coords) (w : Fin 8) (hL : L = Lw w) (c : Fin 2) (hc : c.val = 0) (s : Fin 16) (hs : s.val = w.val) (o p q : S1024x128.Idx → Elt F .f32)
    (hix : ∀ j, (ix j).toNat < 100000)
    (O : CellTallies nD τ sig (HIx 1)) (W : Waits sig (HIx 1)) (hO : ∀ g, O g none = 0) :
    iprop(levAts (K (F := F)).L (K (F := F)).lev ∗ emp ∗ tileRes d f u x ix c s o p q
        ∗ scopedBufs (vV d L) ∗ scopedSems0 (vV d L) ∗ owes (vV d L) O W)
      ⊢ wp frame (wpE (defs₀ (F := F)) 𝒱₀ (vV d L) none) Set.univ (tileProg (F := F) L)
          fun _ => iprop(tileRes d f u x ix c s (rows f ix) (rows u ix) (rows x ix)
            ∗ scopedBufs (vV d L) ∗ scopedSems0 (vV d L)
            ∗ ∃ W', ⌜∀ p ∈ W', p ∈ W ∨ p.2 = none ∨ p.2 = some 0⌝ ∗ owes (vV d L) O W') := by
  subst hL
  have hos : oSet c s = (oblk w).set := by
    unfold oSet; rw [dif_pos ⟨hc, hs ▸ w.isLt⟩]; exact congrArg (fun v => (oblk v).set) (Fin.ext hs)
  rw [tileProg_eq]
  simp only [wp_bind]
  unfold tileRes
  rw [(K (F := F)).scopedBufs_V hF d (cV (Lw w)) (jV (Lw w)), SparseCore.Cfg.scopedSems0_V (Val := Elt F) d (cV (Lw w)) (jV (Lw w)), ownSems0_V, ownBufs_V, hos]
  iintro ⟨#Hlv, -, ⟨Hf, Hu, Hx, Hi, Ho, Hp, Hq⟩, ⟨⟨%b1, B1⟩, ⟨%r1, R1⟩, ⟨%b2, B2⟩, ⟨%r2, R2⟩, ⟨%b3, B3⟩, ⟨%r3, R3⟩, Hbufs⟩,
    ⟨⟨S0, S1, S2, S3, S4, S5, S6, S7, S8, S9, S10, S11, S12, S13, S14, S15, S16, S17⟩, SR⟩, HO⟩
  ihave #Hmw := (show levAts (K (F := F)).L (K (F := F)).lev ⊢ Transfers.MayWaits (vV d (Lw w)) (default : HIx 1) O from
    (K (F := F)).mayWaits_none (thr := vV d (Lw w)) hO) $$ Hlv
  ihave Ho' := (Entails.of_eq (show (oLoc d ↦[(oblk w).set]{fullShare} o : sProp 𝕄) = (oW1 w).view.loc (vV d (Lw w)) ↦[(oW1 w).view.set]{fullShare} o by rw [set_oW1])) $$ Ho
  ihave Hp' := (Entails.of_eq (show (pLoc d ↦[(oblk w).set]{fullShare} p : sProp 𝕄) = (oW2 w).view.loc (vV d (Lw w)) ↦[(oW2 w).view.set]{fullShare} p by rw [set_oW2])) $$ Hp
  ihave Hq' := (Entails.of_eq (show (qLoc d ↦[(oblk w).set]{fullShare} q : sProp 𝕄) = (oW3 w).view.loc (vV d (Lw w)) ↦[(oW3 w).view.set]{fullShare} q by rw [set_oW3])) $$ Hq
  ihave H := (run1 d w O W (tq c s) f ix o b1 r1 hix) $$ [Hf Hi Ho' B1 R1 S0 S2 S4 HO]
  · isplitr; · iexact Hmw
    isplitl [Hf]; · iexact Hf
    isplitl [Hi]; · iexact Hi
    isplitl [Ho']; · iexact Ho'
    isplitl [B1]; · iexact B1
    isplitl [R1]; · iexact R1
    isplitl [S0]; · iexact S0
    isplitl [S2]; · iexact S2
    isplitl [S4]; · iexact S4
    iexact HO
  iapply (wp_wand frame _ _) $$ H
  iintro %_ ⟨Hf, Hi, Ho, B1, R1, S0, S2, S4, %W1, %hW1, HO⟩
  ihave H := (run2 d w O W1 (tq c s) u ix p b2 r2 hix) $$ [Hu Hi Hp' B2 R2 S6 S8 S10 HO]
  · isplitr; · iexact Hmw
    isplitl [Hu]; · iexact Hu
    isplitl [Hi]; · iexact Hi
    isplitl [Hp']; · iexact Hp'
    isplitl [B2]; · iexact B2
    isplitl [R2]; · iexact R2
    isplitl [S6]; · iexact S6
    isplitl [S8]; · iexact S8
    isplitl [S10]; · iexact S10
    iexact HO
  iapply (wp_wand frame _ _) $$ H
  iintro %_ ⟨Hu, Hi, Hp, B2, R2, S6, S8, S10, %W2, %hW2, HO⟩
  ihave H := (run3 d w O W2 (tq c s) x ix q b3 r3 hix) $$ [Hx Hi Hq' B3 R3 S12 S14 S16 HO]
  · isplitr; · iexact Hmw
    isplitl [Hx]; · iexact Hx
    isplitl [Hi]; · iexact Hi
    isplitl [Hq']; · iexact Hq'
    isplitl [B3]; · iexact B3
    isplitl [R3]; · iexact R3
    isplitl [S12]; · iexact S12
    isplitl [S14]; · iexact S14
    isplitl [S16]; · iexact S16
    iexact HO
  iapply (wp_wand frame _ _) $$ H
  iintro %_ ⟨Hx, Hi, Hq, B3, R3, S12, S14, S16, %W3, %hW3, HO⟩
  isplitl [Hf Hu Hx Hi Ho Hp Hq]
  · isplitl [Hf]; · iexact Hf
    isplitl [Hu]; · iexact Hu
    isplitl [Hx]; · iexact Hx
    isplitl [Hi]; · iexact Hi
    isplitl [Ho]
    · iapply (Entails.of_eq (show ((oW1 w).view.loc (vV d (Lw w)) ↦[(oW1 w).view.set]{fullShare} rows f ix : sProp 𝕄) = oLoc d ↦[(oblk w).set]{fullShare} rows f ix by rw [set_oW1])); iexact Ho
    isplitl [Hp]
    · iapply (Entails.of_eq (show ((oW2 w).view.loc (vV d (Lw w)) ↦[(oW2 w).view.set]{fullShare} rows u ix : sProp 𝕄) = pLoc d ↦[(oblk w).set]{fullShare} rows u ix by rw [set_oW2])); iexact Hp
    · iapply (Entails.of_eq (show ((oW3 w).view.loc (vV d (Lw w)) ↦[(oW3 w).view.set]{fullShare} rows x ix : sProp 𝕄) = qLoc d ↦[(oblk w).set]{fullShare} rows x ix by rw [set_oW3])); iexact Hq
  isplitl [B1 R1 B2 R2 B3 R3 Hbufs]
  · isplitl [B1]; · iexact B1
    isplitl [R1]; · iexact R1
    isplitl [B2]; · iexact B2
    isplitl [R2]; · iexact R2
    isplitl [B3]; · iexact B3
    isplitl [R3]; · iexact R3
    iexact Hbufs
  isplitl [S0 S1 S2 S3 S4 S5 S6 S7 S8 S9 S10 S11 S12 S13 S14 S15 S16 S17 SR]
  · isplitr [SR]
    swap; · iexact SR
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    iexact S17
  iexists W3; isplitr
  · ipureintro; intro p hp
    rcases hW3 p hp with h | h
    · rcases hW2 p h with h | h
      · exact (hW1 p h).imp_right Or.inl
      · exact .inr (.inl h)
    · exact .inr (.inl h)
  · iexact HO

end Tile

end Cert.Proof.Gather

end
-- ==== Proof.Launch.lean ====
/-
  The launch of the gather: what the call hands each tile, what a tile does with it, how the operands split among
  the tiles and come back, and what the whole program leaves.
-/
module

public import proofs.«01_k».proof.Proof.TileRun

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

-- the tile's program is never unfolded from here on
attribute [local irreducible] cc1_gather_kernel

variable {F : FTy → Type} [FloatOps F]
local notation "𝕄" => MT nD τ sig (HIx 1) (Elt F) ℕ UU ℕ

section Tile

variable (d : Dev nD) (f u x : S100000x128.Idx → Elt F .f32) (ix : S1x1024.Idx → Elt F .i32)

/-- The tiles other than the first eight of SparseCore 0 pass none of the three pipelines' guards. -/
theorem guards : ∀ (c : Fin 2) (s : Fin 16), ¬(c.val = 0 ∧ s.val < 8) →
    k1_cond1 (coordsV c s) ≠ 1#1 ∧ k1_cond19 (coordsV c s) ≠ 1#1 ∧ k1_cond37 (coordsV c s) ≠ 1#1 := by decide +kernel

/-- A tile that does not work holds no rows of the results, and runs nothing. -/
theorem tile_idle (L : grid1.Coords) (c : Fin 2) (s : Fin 16) (hL : L = coordsV c s) (h : ¬(c.val = 0 ∧ s.val < 8)) (o p q : S1024x128.Idx → Elt F .f32)
    (O : CellTallies nD τ sig (HIx 1)) (W : Waits sig (HIx 1)) :
    iprop(levAts (K (F := F)).L (K (F := F)).lev ∗ emp ∗ tileRes d f u x ix c s o p q
        ∗ scopedBufs (vV d L) ∗ scopedSems0 (vV d L) ∗ owes (vV d L) O W)
      ⊢ wp frame (wpE (defs₀ (F := F)) 𝒱₀ (vV d L) none) Set.univ (tileProg (F := F) L)
          fun _ => iprop(tileRes d f u x ix c s (rows f ix) (rows u ix) (rows x ix)
            ∗ scopedBufs (vV d L) ∗ scopedSems0 (vV d L)
            ∗ ∃ W', ⌜∀ p ∈ W', p ∈ W ∨ p.2 = none ∨ p.2 = some 0⌝ ∗ owes (vV d L) O W') := by
  have he : oSet c s = ∅ := dif_neg h
  obtain ⟨h1, h2, h3⟩ := guards c s h
  rw [← hL] at h1 h2 h3
  rw [idle L h1 h2 h3]
  unfold tileRes
  rw [he, pointsTo_congr (f := o) (g := rows f ix) (ℓ := oLoc d) (I := ∅) fun _ h => absurd h (Finset.notMem_empty _),
    pointsTo_congr (f := p) (g := rows u ix) (ℓ := pLoc d) (I := ∅) fun _ h => absurd h (Finset.notMem_empty _),
    pointsTo_congr (f := q) (g := rows x ix) (ℓ := qLoc d) (I := ∅) fun _ h => absurd h (Finset.notMem_empty _)]
  iintro ⟨-, -, HR, Hb, Hs, HO⟩
  sl_step
  isplitl [HR]; · iexact HR
  isplitl [Hb]; · iexact Hb
  isplitl [Hs]; · iexact Hs
  iexists W; isplitr
  · ipureintro; exact fun p hp => .inl hp
  · iexact HO

/-- The coordinates of a working tile are those of its number. -/
theorem lw_of (L : grid1.Coords) (c : Fin 2) (s : Fin 16) (hL : L = coordsV c s) (h : c.val = 0 ∧ s.val < 8) :
    ∃ w : Fin 8, L = Lw w ∧ s.val = w.val :=
  ⟨⟨s.val, h.2⟩, hL.trans (congrArg (fun c => coordsV c s) (Fin.ext h.1)), rfl⟩

/-- Any tile: from its part of the operands, it ends with its rows of the results at the gathered rows (no rows, on a
    tile that does not work). -/
theorem tile_body (hF : (K (F := F)).Facts) (L : grid1.Coords) (c : Fin 2) (s : Fin 16) (hL : L = coordsV c s) (o p q : S1024x128.Idx → Elt F .f32)
    (hix : ∀ j, (ix j).toNat < 100000)
    (O : CellTallies nD τ sig (HIx 1)) (W : Waits sig (HIx 1)) (hO : ∀ g, O g none = 0) :
    iprop(levAts (K (F := F)).L (K (F := F)).lev ∗ emp ∗ tileRes d f u x ix c s o p q
        ∗ scopedBufs (vV d L) ∗ scopedSems0 (vV d L) ∗ owes (vV d L) O W)
      ⊢ wp frame (wpE (defs₀ (F := F)) 𝒱₀ (vV d L) none) Set.univ (tileProg (F := F) L)
          fun _ => iprop(tileRes d f u x ix c s (rows f ix) (rows u ix) (rows x ix)
            ∗ scopedBufs (vV d L) ∗ scopedSems0 (vV d L)
            ∗ ∃ W', ⌜∀ p ∈ W', p ∈ W ∨ p.2 = none ∨ p.2 = some 0⌝ ∗ owes (vV d L) O W') := by
  rcases Classical.em (c.val = 0 ∧ s.val < 8) with h | h
  · obtain ⟨w, hw, hs⟩ := lw_of L c s hL h
    exact @tile_work F _ d f u x ix hF L w hw c h.1 s hs o p q hix O W hO
  · exact @tile_idle F _ d f u x ix L c s hL h o p q O W

/-- The row of the tiles' dispatch for a vector subcore: the gather's program at its coordinates. -/
theorem defs₀_vector (c : Fin τ.nSC) (s : Fin τ.nSub) :
    defs₀ (F := F) (.scVector c s) 1 ⟨⟩ = SparseCore.onTile hcore1 hsub1 (fun c s => tileProg (F := F) (coordsV c s)) ⟨⟩ c s := rfl

end Tile

end Cert.Proof.Gather

end
-- ==== Proof.StreamBody.lean ====
/-
  One grid step of the streamed call: what it leaves in the accumulator, and that its body does so.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.WritesUnit
public import Idealize.ShloMosaic.Lib.Ring
public import Idealize.ShloMosaic.Lib.ValueIdx
public import Idealize.ShloMosaic.Lib.Pipeline.Value

@[expose] public section

set_option maxRecDepth 16384

noncomputable section

namespace Cert.Proof.Gather

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-- Twice one minus the products of the unit rows with a block of table rows, held at or above nothing. -/
def arcOf (x : Vec F S1x1024x128 .bf16) (b : Vec F S2048x128 .bf16) : FVec F S1024x2048 .bf16 := k0_pay9 x b

/-- The two exponentials the step adds up: of the scaled cosine, and of the root. -/
def expOf (ch : Fin 2) (x : Vec F S1x1024x128 .bf16) (b : Vec F S2048x128 .bf16) : FVec F S1024x2048 .bf16 :=
  match ch with
  | 0 => k0_pay10 x b
  | 1 => k0_pay11 x b

/-- The same two, nothing in place of those at or beyond the table's last row. -/
def expMaskOf (arg0 : BitVec 32) (ch : Fin 2) (x : Vec F S1x1024x128 .bf16) (b : Vec F S2048x128 .bf16) :
    FVec F S1024x2048 .bf16 :=
  select (k0_pay36 arg0) (expOf ch x b) (broadcast S1024x2048 (Scalar.ofBits .bf16 0x0000#16))

/-- Sixteen groups of a hundred and twenty-eight lanes added up, in the order the kernel adds them. -/
def lanes16 (e : FVec F S1024x2048 .bf16) : FVec F S1024x128 .bf16 :=
  have s0 : FVec F S1024x128 .bf16 := extractStridedSlice S1024x128 ![0, 0] e slices_S1024x2048_o0_0_S1024x128
  have s1 : FVec F S1024x128 .bf16 := extractStridedSlice S1024x128 ![0, 128] e slices_S1024x2048_o0_128_S1024x128
  have s2 : FVec F S1024x128 .bf16 := extractStridedSlice S1024x128 ![0, 256] e slices_S1024x2048_o0_256_S1024x128
  have s3 : FVec F S1024x128 .bf16 := extractStridedSlice S1024x128 ![0, 384] e slices_S1024x2048_o0_384_S1024x128
  have s4 : FVec F S1024x128 .bf16 := extractStridedSlice S1024x128 ![0, 512] e slices_S1024x2048_o0_512_S1024x128
  have s5 : FVec F S1024x128 .bf16 := extractStridedSlice S1024x128 ![0, 640] e slices_S1024x2048_o0_640_S1024x128
  have s6 : FVec F S1024x128 .bf16 := extractStridedSlice S1024x128 ![0, 768] e slices_S1024x2048_o0_768_S1024x128
  have s7 : FVec F S1024x128 .bf16 := extractStridedSlice S1024x128 ![0, 896] e slices_S1024x2048_o0_896_S1024x128
  have s8 : FVec F S1024x128 .bf16 := extractStridedSlice S1024x128 ![0, 1024] e slices_S1024x2048_o0_1024_S1024x128
  have s9 : FVec F S1024x128 .bf16 := extractStridedSlice S1024x128 ![0, 1152] e slices_S1024x2048_o0_1152_S1024x128
  have s10 : FVec F S1024x128 .bf16 := extractStridedSlice S1024x128 ![0, 1280] e slices_S1024x2048_o0_1280_S1024x128
  have s11 : FVec F S1024x128 .bf16 := extractStridedSlice S1024x128 ![0, 1408] e slices_S1024x2048_o0_1408_S1024x128
  have s12 : FVec F S1024x128 .bf16 := extractStridedSlice S1024x128 ![0, 1536] e slices_S1024x2048_o0_1536_S1024x128
  have s13 : FVec F S1024x128 .bf16 := extractStridedSlice S1024x128 ![0, 1664] e slices_S1024x2048_o0_1664_S1024x128
  have s14 : FVec F S1024x128 .bf16 := extractStridedSlice S1024x128 ![0, 1792] e slices_S1024x2048_o0_1792_S1024x128
  have s15 : FVec F S1024x128 .bf16 := extractStridedSlice S1024x128 ![0, 1920] e slices_S1024x2048_o0_1920_S1024x128
  addf (addf (addf (addf (addf (addf (addf (addf (addf (addf (addf (addf (addf (addf (addf s0 s1) s2) s3) s4) s5) s6) s7) s8) s9) s10) s11) s12) s13) s14) s15

/-- One accumulator tile after a step: what it held, and the block's sixteen groups. -/
def tileOf (e : FVec F S1024x2048 .bf16) (a : Vec F S1x1x1024x128 .f32) : FVec F S1x1x1024x128 .f32 :=
  shapeCast S1x1x1024x128
    (addf (shapeCast S1024x128 a shapeCasts_S1x1x1024x128_S1024x128) (extf .f32 (lanes16 e) bitsLt_bf16_f32))
    shapeCasts_S1024x128_S1x1x1024x128

/-- Row `p` of the three unit-row blocks. -/
def xRow (x : Vec F S3x1024x128 .bf16) (p : Fin 3) : Vec F S1x1024x128 .bf16 :=
  fun z => x (ix3 p (z 1) (z 2))

/-- Tile `p`, `ch` of the accumulator. -/
def accTile (a : Vec F S3x2x1024x128 .f32) (p : Fin 3) (ch : Fin 2) : Vec F S1x1x1024x128 .f32 :=
  fun z => a (ix4 p ch (z 2) (z 3))

/-- Six tiles as one accumulator. -/
def tiles6 (w : Fin 3 → Fin 2 → Vec F S1x1x1024x128 .f32) : Vec F S3x2x1024x128 .f32 :=
  fun y => w (y 0) (y 1) (ix4 0 0 (y 2) (y 3))

/-- Three tables' blocks. -/
abbrev blocks (b0 b1 b2 : Vec F S2048x128 .bf16) (p : Fin 3) : Vec F S2048x128 .bf16 :=
  match p with
  | 0 => b0
  | 1 => b1
  | 2 => b2

/-- Three batches' blocks. -/
abbrev pick3 (x0 x1 x2 : Vec F S1024x128 .f32) (p : Fin 3) : Vec F S1024x128 .f32 :=
  match p with
  | 0 => x0
  | 1 => x1
  | 2 => x2

/-- The accumulator after a step over whole blocks. -/
def accFull (x : Vec F S3x1024x128 .bf16) (b : Fin 3 → Vec F S2048x128 .bf16) (a : Vec F S3x2x1024x128 .f32) :
    Vec F S3x2x1024x128 .f32 :=
  tiles6 fun p ch => tileOf (expOf ch (xRow x p) (b p)) (accTile a p ch)

/-- The accumulator after the last step, whose blocks overhang their tables. -/
def accMask (arg0 : BitVec 32) (x : Vec F S3x1024x128 .bf16) (b : Fin 3 → Vec F S2048x128 .bf16)
    (a : Vec F S3x2x1024x128 .f32) : Vec F S3x2x1024x128 .f32 :=
  tiles6 fun p ch => tileOf (expMaskOf arg0 ch (xRow x p) (b p)) (accTile a p ch)

/-- The three batches' rows brought to length one, as the first step stores them. -/
def unitRow (x : Fin 3 → Vec F S1024x128 .f32) (p : Fin 3) : Vec F S1x1024x128 .bf16 := k0_pay5 (x p)

/-- The three of them in one. -/
def unitRows (x : Fin 3 → Vec F S1024x128 .f32) : Vec F S3x1024x128 .bf16 :=
  fun y => unitRow x (y 0) (ix3 0 (y 1) (y 2))

/-- The six stores of a step, the last first. -/
abbrev six (w : Fin 3 → Fin 2 → Vec F S1x1x1024x128 .f32) : List (View.Piece (Elt F) S3x2x1024x128 .f32) :=
  [⟨Rect.unit ![2, 1, 0, 0] S1x1x1024x128.size inb_S3x2x1024x128_S1x1x1024x128_2_1_0_0, w 2 1⟩,
   ⟨Rect.unit ![2, 0, 0, 0] S1x1x1024x128.size inb_S3x2x1024x128_S1x1x1024x128_2_0_0_0, w 2 0⟩,
   ⟨Rect.unit ![1, 1, 0, 0] S1x1x1024x128.size inb_S3x2x1024x128_S1x1x1024x128_1_1_0_0, w 1 1⟩,
   ⟨Rect.unit ![1, 0, 0, 0] S1x1x1024x128.size inb_S3x2x1024x128_S1x1x1024x128_1_0_0_0, w 1 0⟩,
   ⟨Rect.unit ![0, 1, 0, 0] S1x1x1024x128.size inb_S3x2x1024x128_S1x1x1024x128_0_1_0_0, w 0 1⟩,
   ⟨Rect.unit ![0, 0, 0, 0] S1x1x1024x128.size inb_S3x2x1024x128_S1x1x1024x128_0_0_0_0, w 0 0⟩]

theorem ix4_eta (z : S1x1x1024x128.Idx) : z = ix4 0 0 (z 2) (z 3) := funext fun a => by
  match a with
  | 0 => exact Fin.ext (by have := (z 0).isLt; have h : S1x1x1024x128.size 0 = 1 := rfl; show (z 0).val = 0; omega)
  | 1 => exact Fin.ext (by have := (z 1).isLt; have h : S1x1x1024x128.size 1 = 1 := rfl; show (z 1).val = 0; omega)
  | 2 => rfl
  | 3 => rfl

/-- The cell of the accumulator a tile's cell is. -/
theorem tile_emb (p : Fin 3) (ch : Fin 2) (inb) (z : S1x1x1024x128.Idx) :
    (Rect.unit (s := S3x2x1024x128) ![p.val, ch.val, 0, 0] S1x1x1024x128.size inb).emb z = ix4 p ch (z 2) (z 3) := by
  conv_lhs => rw [ix4_eta z]
  funext a
  match a with
  | 0 => exact Fin.ext (by show p.val + 1 * 0 = p.val; omega)
  | 1 => exact Fin.ext (by show ch.val + 1 * 0 = ch.val; omega)
  | 2 => exact Fin.ext (by show 0 + 1 * (z 2).val = (z 2).val; omega)
  | 3 => exact Fin.ext (by show 0 + 1 * (z 3).val = (z 3).val; omega)

/-- A tile loaded. -/
theorem load_tile {sp : Space} (v : View sig .tc sp S3x2x1024x128 .f32) (f : v.ty.Contents (Elt F)) (p : Fin 3) (ch : Fin 2) (inb) :
    v.readAt (Elt F) (Rect.unit (s := S3x2x1024x128) ![p.val, ch.val, 0, 0] S1x1x1024x128.size inb).toLoadRect f
      = accTile (v.read (Elt F) f) p ch :=
  funext fun z => congrArg (v.read (Elt F) f) (tile_emb p ch inb z)

/-- A row of the unit rows loaded. -/
theorem load_row {sp : Space} (v : View sig .tc sp S3x1024x128 .bf16) (f : v.ty.Contents (Elt F)) (p : Fin 3) (inb) :
    v.readAt (Elt F) (Rect.unit (s := S3x1024x128) ![p.val, 0, 0] S1x1024x128.size inb).toLoadRect f
      = xRow (v.read (Elt F) f) p :=
  funext fun z => congrArg (v.read (Elt F) f) (funext fun a => by
    match a with
    | 0 => exact Fin.ext (by have h : (z 0).val < 1 := (z 0).isLt; show p.val + 1 * (z 0).val = p.val; omega)
    | 1 => exact Fin.ext (by show 0 + 1 * (z 1).val = (z 1).val; omega)
    | 2 => exact Fin.ext (by show 0 + 1 * (z 2).val = (z 2).val; omega))

/-- A block loaded. -/
theorem load_block {sp : Space} (v : View sig .tc sp S2048x128 .bf16) (f : v.ty.Contents (Elt F)) (inb) :
    v.readAt (Elt F) (Rect.unit (s := S2048x128) ![0, 0] S2048x128.size inb).toLoadRect f = v.read (Elt F) f :=
  funext fun y => congrArg (v.read (Elt F) f) (funext fun a => by
    match a with
    | 0 => exact Fin.ext (by show 0 + 1 * (y 0).val = (y 0).val; omega)
    | 1 => exact Fin.ext (by show 0 + 1 * (y 1).val = (y 1).val; omega))

/-- Six stored tiles read back as one accumulator. -/
theorem read_tiles6 {sp : Space} (v : View sig .tc sp S3x2x1024x128 .f32) (f : v.ty.Contents (Elt F))
    (w : Fin 3 → Fin 2 → Vec F S1x1x1024x128 .f32) :
    v.read (Elt F) (v.writes (Elt F) f (six w)) = tiles6 w := by
  have hc := View.cover_of_tiled (Val := Elt F) (six w) S1x1x1024x128.size (by rfl)
  refine (View.read_writes_eq_canon v f _ hc).trans (funext fun y => ?_)
  refine View.canon_apply_of_pieces (tiles6 w) _ ?_ y (hc y)
  have key : ∀ (p : Fin 3) (ch : Fin 2) (inb) (z : S1x1x1024x128.Idx),
      w p ch z = tiles6 w ((Rect.unit (s := S3x2x1024x128) ![p.val, ch.val, 0, 0] S1x1x1024x128.size inb).emb z) := fun p ch inb z => by
    rw [tile_emb]
    exact congrArg (w p ch) (ix4_eta z)
  intro q hq
  simp only [List.mem_cons, List.mem_singleton, List.not_mem_nil, or_false] at hq
  rcases hq with rfl | rfl | rfl | rfl | rfl | rfl
  · exact key 2 1 inb_S3x2x1024x128_S1x1x1024x128_2_1_0_0
  · exact key 2 0 inb_S3x2x1024x128_S1x1x1024x128_2_0_0_0
  · exact key 1 1 inb_S3x2x1024x128_S1x1x1024x128_1_1_0_0
  · exact key 1 0 inb_S3x2x1024x128_S1x1x1024x128_1_0_0_0
  · exact key 0 1 inb_S3x2x1024x128_S1x1x1024x128_0_1_0_0
  · exact key 0 0 inb_S3x2x1024x128_S1x1x1024x128_0_0_0_0

set_option maxHeartbeats 400000 in
theorem full_step (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S3x2x1024x128 .f32) (harg7 : arg7.IsWhole) (arg8 : Memref sig .tc .vmem S3x1024x128 .bf16) (harg8 : arg8.IsWhole)
    (b0 b1 b2 : Vec F S2048x128 .bf16) (a : Vec F S3x2x1024x128 .f32) (x : Vec F S3x1024x128 .bf16) (K : PUnit → sProp 𝕄)
    (h1 : ¬ k0_cond1 i = 1#1) (h2 : k0_cond2 i = 1#1) (h3 : ¬ k0_cond3 i = 1#1) :
    iprop(owns (c : Thread nD τ) arg4 fullShare b0 ∗ owns (c : Thread nD τ) arg5 fullShare b1 ∗ owns (c : Thread nD τ) arg6 fullShare b2
        ∗ owns (c : Thread nD τ) arg7 fullShare a ∗ owns (c : Thread nD τ) arg8 fullShare x
        ∗ (iprop(owns (c : Thread nD τ) arg4 fullShare b0 ∗ owns (c : Thread nD τ) arg5 fullShare b1 ∗ owns (c : Thread nD τ) arg6 fullShare b2
        ∗ owns (c : Thread nD τ) arg7 fullShare (accFull x (blocks b0 b1 b2) a) ∗ owns (c : Thread nD τ) arg8 fullShare x) -∗ K ⟨⟩))
      ⊢ wp frame (wpE (defs₀ (F := F)) Variants.none c none) Set.univ (cc0__stream_body i arg1 harg1 arg2 harg2 arg3 harg3 arg4 harg4 arg5 harg5 arg6 harg6 arg7 harg7 arg8 harg8) K := by
  simp only [cc0__stream_body_eq_skeleton]; unfold cc0__stream_body_skel
  simp only [dif_neg h1, dif_pos h2, dif_neg h3]
  simp only [k0_part2_eq_skeleton, k0_part3_eq_skeleton, k0_part4_eq_skeleton, k0_part5_eq_skeleton, k0_part6_eq_skeleton, k0_part7_eq_skeleton]
  unfold owns
  iintro ⟨⟨%f4, %hf4, H4⟩, ⟨%f5, %hf5, H5⟩, ⟨%f6, %hf6, H6⟩, ⟨%f7, %hf7, H7⟩, ⟨%f8, %hf8, H8⟩, Hk⟩
  sl_exec
  sl_step
  iapply Hk
  isplitl [H4]
  · iexists f4; isplitr
    · ipureintro; exact hf4
    · iexact H4
  isplitl [H5]
  · iexists f5; isplitr
    · ipureintro; exact hf5
    · iexact H5
  isplitl [H6]
  · iexists f6; isplitr
    · ipureintro; exact hf6
    · iexact H6
  isplitl [H7]
  · iexists _; isplitr
    rotate_left
    · iexact H7
    · ipureintro
      refine Eq.trans ?_ (read_tiles6 arg7.view f7 fun p ch => tileOf (expOf ch (xRow x p) (blocks b0 b1 b2 p)) (accTile a p ch))
      subst hf4 hf5 hf6 hf7 hf8
      sl_unfold_run_names
      have hx0 : arg8.view.readAt (Elt F) (Rect.unit (s := S3x1024x128) ![0, 0, 0] S1x1024x128.size inb_S3x1024x128_S1x1024x128_0_0_0).toLoadRect f8 = _ := load_row (F := F) arg8.view f8 0 _
      have hx1 : arg8.view.readAt (Elt F) (Rect.unit (s := S3x1024x128) ![1, 0, 0] S1x1024x128.size inb_S3x1024x128_S1x1024x128_1_0_0).toLoadRect f8 = _ := load_row (F := F) arg8.view f8 1 _
      have hx2 : arg8.view.readAt (Elt F) (Rect.unit (s := S3x1024x128) ![2, 0, 0] S1x1024x128.size inb_S3x1024x128_S1x1024x128_2_0_0).toLoadRect f8 = _ := load_row (F := F) arg8.view f8 2 _
      have h00 : arg7.view.readAt (Elt F) (Rect.unit (s := S3x2x1024x128) ![0, 0, 0, 0] S1x1x1024x128.size inb_S3x2x1024x128_S1x1x1024x128_0_0_0_0).toLoadRect f7 = _ := load_tile (F := F) arg7.view f7 0 0 _
      have h01 : arg7.view.readAt (Elt F) (Rect.unit (s := S3x2x1024x128) ![0, 1, 0, 0] S1x1x1024x128.size inb_S3x2x1024x128_S1x1x1024x128_0_1_0_0).toLoadRect f7 = _ := load_tile (F := F) arg7.view f7 0 1 _
      have h10 : arg7.view.readAt (Elt F) (Rect.unit (s := S3x2x1024x128) ![1, 0, 0, 0] S1x1x1024x128.size inb_S3x2x1024x128_S1x1x1024x128_1_0_0_0).toLoadRect f7 = _ := load_tile (F := F) arg7.view f7 1 0 _
      have h11 : arg7.view.readAt (Elt F) (Rect.unit (s := S3x2x1024x128) ![1, 1, 0, 0] S1x1x1024x128.size inb_S3x2x1024x128_S1x1x1024x128_1_1_0_0).toLoadRect f7 = _ := load_tile (F := F) arg7.view f7 1 1 _
      have h20 : arg7.view.readAt (Elt F) (Rect.unit (s := S3x2x1024x128) ![2, 0, 0, 0] S1x1x1024x128.size inb_S3x2x1024x128_S1x1x1024x128_2_0_0_0).toLoadRect f7 = _ := load_tile (F := F) arg7.view f7 2 0 _
      have h21 : arg7.view.readAt (Elt F) (Rect.unit (s := S3x2x1024x128) ![2, 1, 0, 0] S1x1x1024x128.size inb_S3x2x1024x128_S1x1x1024x128_2_1_0_0).toLoadRect f7 = _ := load_tile (F := F) arg7.view f7 2 1 _
      refine congrArg (fun L => arg7.view.read (Elt F) (arg7.view.writes (Elt F) f7 L)) ?_
      have l4 : arg4.view.readAt (Elt F) (Rect.unit (s := S2048x128) ![0, 0] ![2048, 128] inb_S2048x128_S2048x128_0_0).toLoadRect f4 = _ := load_block arg4.view f4 _
      have l5 : arg5.view.readAt (Elt F) (Rect.unit (s := S2048x128) ![0, 0] ![2048, 128] inb_S2048x128_S2048x128_0_0).toLoadRect f5 = _ := load_block arg5.view f5 _
      have l6 : arg6.view.readAt (Elt F) (Rect.unit (s := S2048x128) ![0, 0] ![2048, 128] inb_S2048x128_S2048x128_0_0).toLoadRect f6 = _ := load_block arg6.view f6 _
      simp only [hx0, hx1, hx2, h00, h01, h10, h11, h20, h21, l4, l5, l6]
      rfl
  · iexists f8; isplitr
    · ipureintro; exact hf8
    · iexact H8

set_option maxHeartbeats 400000 in
theorem mask_step (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S3x2x1024x128 .f32) (harg7 : arg7.IsWhole) (arg8 : Memref sig .tc .vmem S3x1024x128 .bf16) (harg8 : arg8.IsWhole)
    (b0 b1 b2 : Vec F S2048x128 .bf16) (a : Vec F S3x2x1024x128 .f32) (x : Vec F S3x1024x128 .bf16) (K : PUnit → sProp 𝕄)
    (h1 : ¬ k0_cond1 i = 1#1) (h2 : ¬ k0_cond2 i = 1#1) (h3 : k0_cond3 i = 1#1) :
    iprop(owns (c : Thread nD τ) arg4 fullShare b0 ∗ owns (c : Thread nD τ) arg5 fullShare b1 ∗ owns (c : Thread nD τ) arg6 fullShare b2
        ∗ owns (c : Thread nD τ) arg7 fullShare a ∗ owns (c : Thread nD τ) arg8 fullShare x
        ∗ (iprop(owns (c : Thread nD τ) arg4 fullShare b0 ∗ owns (c : Thread nD τ) arg5 fullShare b1 ∗ owns (c : Thread nD τ) arg6 fullShare b2
        ∗ owns (c : Thread nD τ) arg7 fullShare (accMask (BitVec.ofNat 32 (i 0).val) x (blocks b0 b1 b2) a) ∗ owns (c : Thread nD τ) arg8 fullShare x) -∗ K ⟨⟩))
      ⊢ wp frame (wpE (defs₀ (F := F)) Variants.none c none) Set.univ (cc0__stream_body i arg1 harg1 arg2 harg2 arg3 harg3 arg4 harg4 arg5 harg5 arg6 harg6 arg7 harg7 arg8 harg8) K := by
  simp only [cc0__stream_body_eq_skeleton]; unfold cc0__stream_body_skel
  simp only [dif_neg h1, dif_neg h2, dif_pos h3]
  simp only [k0_part8_eq_skeleton, k0_part9_eq_skeleton, k0_part10_eq_skeleton, k0_part11_eq_skeleton, k0_part12_eq_skeleton, k0_part13_eq_skeleton]
  unfold owns
  iintro ⟨⟨%f4, %hf4, H4⟩, ⟨%f5, %hf5, H5⟩, ⟨%f6, %hf6, H6⟩, ⟨%f7, %hf7, H7⟩, ⟨%f8, %hf8, H8⟩, Hk⟩
  sl_exec
  sl_step
  iapply Hk
  isplitl [H4]
  · iexists f4; isplitr
    · ipureintro; exact hf4
    · iexact H4
  isplitl [H5]
  · iexists f5; isplitr
    · ipureintro; exact hf5
    · iexact H5
  isplitl [H6]
  · iexists f6; isplitr
    · ipureintro; exact hf6
    · iexact H6
  isplitl [H7]
  · iexists _; isplitr
    rotate_left
    · iexact H7
    · ipureintro
      refine Eq.trans ?_ (read_tiles6 arg7.view f7 fun p ch => tileOf (expMaskOf (BitVec.ofNat 32 (i 0).val) ch (xRow x p) (blocks b0 b1 b2 p)) (accTile a p ch))
      subst hf4 hf5 hf6 hf7 hf8
      sl_unfold_run_names
      have hx0 : arg8.view.readAt (Elt F) (Rect.unit (s := S3x1024x128) ![0, 0, 0] S1x1024x128.size inb_S3x1024x128_S1x1024x128_0_0_0).toLoadRect f8 = _ := load_row (F := F) arg8.view f8 0 _
      have hx1 : arg8.view.readAt (Elt F) (Rect.unit (s := S3x1024x128) ![1, 0, 0] S1x1024x128.size inb_S3x1024x128_S1x1024x128_1_0_0).toLoadRect f8 = _ := load_row (F := F) arg8.view f8 1 _
      have hx2 : arg8.view.readAt (Elt F) (Rect.unit (s := S3x1024x128) ![2, 0, 0] S1x1024x128.size inb_S3x1024x128_S1x1024x128_2_0_0).toLoadRect f8 = _ := load_row (F := F) arg8.view f8 2 _
      have h00 : arg7.view.readAt (Elt F) (Rect.unit (s := S3x2x1024x128) ![0, 0, 0, 0] S1x1x1024x128.size inb_S3x2x1024x128_S1x1x1024x128_0_0_0_0).toLoadRect f7 = _ := load_tile (F := F) arg7.view f7 0 0 _
      have h01 : arg7.view.readAt (Elt F) (Rect.unit (s := S3x2x1024x128) ![0, 1, 0, 0] S1x1x1024x128.size inb_S3x2x1024x128_S1x1x1024x128_0_1_0_0).toLoadRect f7 = _ := load_tile (F := F) arg7.view f7 0 1 _
      have h10 : arg7.view.readAt (Elt F) (Rect.unit (s := S3x2x1024x128) ![1, 0, 0, 0] S1x1x1024x128.size inb_S3x2x1024x128_S1x1x1024x128_1_0_0_0).toLoadRect f7 = _ := load_tile (F := F) arg7.view f7 1 0 _
      have h11 : arg7.view.readAt (Elt F) (Rect.unit (s := S3x2x1024x128) ![1, 1, 0, 0] S1x1x1024x128.size inb_S3x2x1024x128_S1x1x1024x128_1_1_0_0).toLoadRect f7 = _ := load_tile (F := F) arg7.view f7 1 1 _
      have h20 : arg7.view.readAt (Elt F) (Rect.unit (s := S3x2x1024x128) ![2, 0, 0, 0] S1x1x1024x128.size inb_S3x2x1024x128_S1x1x1024x128_2_0_0_0).toLoadRect f7 = _ := load_tile (F := F) arg7.view f7 2 0 _
      have h21 : arg7.view.readAt (Elt F) (Rect.unit (s := S3x2x1024x128) ![2, 1, 0, 0] S1x1x1024x128.size inb_S3x2x1024x128_S1x1x1024x128_2_1_0_0).toLoadRect f7 = _ := load_tile (F := F) arg7.view f7 2 1 _
      refine congrArg (fun L => arg7.view.read (Elt F) (arg7.view.writes (Elt F) f7 L)) ?_
      have l4 : arg4.view.readAt (Elt F) (Rect.unit (s := S2048x128) ![0, 0] ![2048, 128] inb_S2048x128_S2048x128_0_0).toLoadRect f4 = _ := load_block arg4.view f4 _
      have l5 : arg5.view.readAt (Elt F) (Rect.unit (s := S2048x128) ![0, 0] ![2048, 128] inb_S2048x128_S2048x128_0_0).toLoadRect f5 = _ := load_block arg5.view f5 _
      have l6 : arg6.view.readAt (Elt F) (Rect.unit (s := S2048x128) ![0, 0] ![2048, 128] inb_S2048x128_S2048x128_0_0).toLoadRect f6 = _ := load_block arg6.view f6 _
      simp only [hx0, hx1, hx2, h00, h01, h10, h11, h20, h21, l4, l5, l6]
      rfl
  · iexists f8; isplitr
    · ipureintro; exact hf8
    · iexact H8

/-- The three batches are brought to length one by the same operations. -/
theorem pay1_eq (x : Vec F S1024x128 .f32) : k0_pay1 x (k0_pay7 x) (k0_pay8 (F := F)) = k0_pay5 x := rfl
theorem pay6_eq (x : Vec F S1024x128 .f32) : k0_pay6 x = k0_pay5 x := rfl

/-- The accumulator cleared. -/
def accZero : Vec F S3x2x1024x128 .f32 := k0_pay4

/-- A batch block loaded. -/
theorem load_batch {sp : Space} (v : View sig .tc sp S1024x128 .f32) (f : v.ty.Contents (Elt F)) (inb) :
    v.readAt (Elt F) (Rect.unit (s := S1024x128) ![0, 0] S1024x128.size inb).toLoadRect f = v.read (Elt F) f :=
  funext fun y => congrArg (v.read (Elt F) f) (funext fun a => by
    match a with
    | 0 => exact Fin.ext (by show 0 + 1 * (y 0).val = (y 0).val; omega)
    | 1 => exact Fin.ext (by show 0 + 1 * (y 1).val = (y 1).val; omega))

/-- The three stores of unit rows, the last first. -/
abbrev three (w : Fin 3 → Vec F S1x1024x128 .bf16) : List (View.Piece (Elt F) S3x1024x128 .bf16) :=
  [⟨Rect.unit ![2, 0, 0] S1x1024x128.size inb_S3x1024x128_S1x1024x128_2_0_0, w 2⟩,
   ⟨Rect.unit ![1, 0, 0] S1x1024x128.size inb_S3x1024x128_S1x1024x128_1_0_0, w 1⟩,
   ⟨Rect.unit ![0, 0, 0] S1x1024x128.size inb_S3x1024x128_S1x1024x128_0_0_0, w 0⟩]

/-- Three stored batches read back. -/
theorem read_three {sp : Space} (v : View sig .tc sp S3x1024x128 .bf16) (f : v.ty.Contents (Elt F))
    (w : Fin 3 → Vec F S1x1024x128 .bf16) :
    v.read (Elt F) (v.writes (Elt F) f (three w)) = fun y => w (y 0) (ix3 0 (y 1) (y 2)) := by
  have hc := View.cover_of_tiled (Val := Elt F) (three w) S1x1024x128.size (by rfl)
  refine (View.read_writes_eq_canon v f _ hc).trans (funext fun y => ?_)
  refine View.canon_apply_of_pieces (fun y => w (y 0) (ix3 0 (y 1) (y 2))) _ ?_ y (hc y)
  have key : ∀ (p : Fin 3) (inb) (z : S1x1024x128.Idx), w p z
      = (fun y : S3x1024x128.Idx => w (y 0) (ix3 0 (y 1) (y 2))) ((Rect.unit (s := S3x1024x128) ![p.val, 0, 0] S1x1024x128.size inb).emb z) := fun p inb z => by
    have e : (Rect.unit (s := S3x1024x128) ![p.val, 0, 0] S1x1024x128.size inb).emb z = ix3 p (z 1) (z 2) := funext fun a => by
      match a with
      | 0 => exact Fin.ext (by have h : (z 0).val < 1 := (z 0).isLt; show p.val + 1 * (z 0).val = p.val; omega)
      | 1 => exact Fin.ext (by show 0 + 1 * (z 1).val = (z 1).val; omega)
      | 2 => exact Fin.ext (by show 0 + 1 * (z 2).val = (z 2).val; omega)
    rw [e]
    refine congrArg (w p) (funext fun a => ?_)
    match a with
    | 0 => exact Fin.ext (by have h : (z 0).val < 1 := (z 0).isLt; show (z 0).val = 0; omega)
    | 1 => rfl
    | 2 => rfl
  intro q hq
  simp only [List.mem_cons, List.mem_singleton, List.not_mem_nil, or_false] at hq
  rcases hq with rfl | rfl | rfl
  · exact key 2 inb_S3x1024x128_S1x1024x128_2_0_0
  · exact key 1 inb_S3x1024x128_S1x1024x128_1_0_0
  · exact key 0 inb_S3x1024x128_S1x1024x128_0_0_0

/-- The accumulator stored whole reads as what was stored. -/
theorem read_zero {sp : Space} (v : View sig .tc sp S3x2x1024x128 .f32) (f : v.ty.Contents (Elt F)) (w : Vec F S3x2x1024x128 .f32) :
    v.read (Elt F) (v.writes (Elt F) f
      [⟨Rect.unit (s := S3x2x1024x128) ![0, 0, 0, 0] S3x2x1024x128.size inb_S3x2x1024x128_S3x2x1024x128_0_0_0_0, w⟩]) = w := by
  have hc := View.cover_of_tiled (Val := Elt F) [(⟨Rect.unit (s := S3x2x1024x128) ![0, 0, 0, 0] S3x2x1024x128.size inb_S3x2x1024x128_S3x2x1024x128_0_0_0_0, w⟩ : View.Piece (Elt F) S3x2x1024x128 .f32)] S3x2x1024x128.size (by rfl)
  refine (View.read_writes_eq_canon v f _ hc).trans (funext fun y => ?_)
  refine View.canon_apply_of_pieces w _ ?_ y (hc y)
  intro q hq
  obtain rfl := List.mem_singleton.mp hq
  intro z
  exact congrArg w (funext fun a => Fin.ext (by
    match a with
    | 0 => show (z 0).val = 0 + 1 * (z 0).val; omega
    | 1 => show (z 1).val = 0 + 1 * (z 1).val; omega
    | 2 => show (z 2).val = 0 + 1 * (z 2).val; omega
    | 3 => show (z 3).val = 0 + 1 * (z 3).val; omega))

/-- A program given a name. -/
theorem name_prog {P : sProp 𝕄} {W} {E : Set ℕ} {R : Prog (TpuEff nD τ sig (Elt F) Λ₀ .tc) PUnit} {K : PUnit → sProp 𝕄}
    (h : P ⊢ wp frame W E R K) : ∃ R', R' = R ∧ (P ⊢ wp frame W E R' K) := ⟨R, rfl, h⟩

set_option maxHeartbeats 400000 in
/-- The first step clears the accumulator and brings the rows to length one, then does what every step does. -/
theorem first_step (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S3x2x1024x128 .f32) (harg7 : arg7.IsWhole) (arg8 : Memref sig .tc .vmem S3x1024x128 .bf16) (harg8 : arg8.IsWhole)
    (i' : grid0.Coords) (h1' : ¬ k0_cond1 i' = 1#1) (h2' : k0_cond2 i' = 1#1) (h3' : ¬ k0_cond3 i' = 1#1)
    (x0 x1 x2 : Vec F S1024x128 .f32)
    (b0 b1 b2 : Vec F S2048x128 .bf16) (a : Vec F S3x2x1024x128 .f32) (x : Vec F S3x1024x128 .bf16) (K : PUnit → sProp 𝕄)
    (h1 : k0_cond1 i = 1#1) (h2 : k0_cond2 i = 1#1) (h3 : ¬ k0_cond3 i = 1#1) :
    iprop(owns (c : Thread nD τ) arg1 fullShare x0 ∗ owns (c : Thread nD τ) arg2 fullShare x1 ∗ owns (c : Thread nD τ) arg3 fullShare x2
        ∗ owns (c : Thread nD τ) arg4 fullShare b0 ∗ owns (c : Thread nD τ) arg5 fullShare b1 ∗ owns (c : Thread nD τ) arg6 fullShare b2
        ∗ owns (c : Thread nD τ) arg7 fullShare a ∗ owns (c : Thread nD τ) arg8 fullShare x
        ∗ (iprop(owns (c : Thread nD τ) arg1 fullShare x0 ∗ owns (c : Thread nD τ) arg2 fullShare x1 ∗ owns (c : Thread nD τ) arg3 fullShare x2
        ∗ owns (c : Thread nD τ) arg4 fullShare b0 ∗ owns (c : Thread nD τ) arg5 fullShare b1 ∗ owns (c : Thread nD τ) arg6 fullShare b2
        ∗ owns (c : Thread nD τ) arg7 fullShare (accFull (unitRows (pick3 x0 x1 x2)) (blocks b0 b1 b2) accZero)
        ∗ owns (c : Thread nD τ) arg8 fullShare (unitRows (pick3 x0 x1 x2))) -∗ K ⟨⟩))
      ⊢ wp frame (wpE (defs₀ (F := F)) Variants.none c none) Set.univ (cc0__stream_body i arg1 harg1 arg2 harg2 arg3 harg3 arg4 harg4 arg5 harg5 arg6 harg6 arg7 harg7 arg8 harg8) K := by
  have key := full_step (F := F) c i' arg1 harg1 arg2 harg2 arg3 harg3 arg4 harg4 arg5 harg5 arg6 harg6 arg7 harg7 arg8 harg8 b0 b1 b2 accZero (unitRows (pick3 x0 x1 x2)) K h1' h2' h3'
  simp only [cc0__stream_body_eq_skeleton] at key; unfold cc0__stream_body_skel at key
  simp only [dif_neg h1', dif_pos h2', dif_neg h3'] at key
  simp only [cc0__stream_body_eq_skeleton]; unfold cc0__stream_body_skel
  simp only [dif_pos h1, dif_pos h2, dif_neg h3]
  have e2 : k0_part2 (F := F) i' = k0_part2 i := rfl
  have e3 : k0_part3 (F := F) i' = k0_part3 i := rfl
  have e4 : k0_part4 (F := F) i' = k0_part4 i := rfl
  have e5 : k0_part5 (F := F) i' = k0_part5 i := rfl
  have e6 : k0_part6 (F := F) i' = k0_part6 i := rfl
  have e7 : k0_part7 (F := F) i' = k0_part7 i := rfl
  simp only [e2, e3, e4, e5, e6, e7] at key
  obtain ⟨R, hR, key⟩ := name_prog key
  rw [← hR]
  simp only [k0_part1_eq_skeleton]
  unfold owns at key ⊢
  iintro ⟨⟨%f1, %hf1, H1⟩, ⟨%f2, %hf2, H2⟩, ⟨%f3, %hf3, H3⟩, H4, H5, H6, ⟨%f7, %hf7, H7⟩, ⟨%f8, %hf8, H8⟩, Hk⟩
  sl_exec
  iapply key
  isplitl [H4]
  · iexact H4
  isplitl [H5]
  · iexact H5
  isplitl [H6]
  · iexact H6
  isplitl [H7]
  · iexists _; isplitr
    rotate_left
    · iexact H7
    · ipureintro
      exact read_zero arg7.view f7 k0_pay4
  isplitl [H8]
  · iexists _; isplitr
    rotate_left
    · iexact H8
    · ipureintro
      refine Eq.trans ?_ (read_three arg8.view f8 (unitRow (pick3 x0 x1 x2)))
      subst hf1 hf2 hf3
      sl_unfold_run_names
      refine congrArg (fun L => arg8.view.read (Elt F) (arg8.view.writes (Elt F) f8 L)) ?_
      have l1 : arg1.view.readAt (Elt F) (Rect.unit (s := S1024x128) ![0, 0] ![1024, 128] inb_S1024x128_S1024x128_0_0).toLoadRect f1 = _ := load_batch arg1.view f1 _
      have l2 : arg2.view.readAt (Elt F) (Rect.unit (s := S1024x128) ![0, 0] ![1024, 128] inb_S1024x128_S1024x128_0_0).toLoadRect f2 = _ := load_batch arg2.view f2 _
      have l3 : arg3.view.readAt (Elt F) (Rect.unit (s := S1024x128) ![0, 0] ![1024, 128] inb_S1024x128_S1024x128_0_0).toLoadRect f3 = _ := load_batch arg3.view f3 _
      unfold three
      rw [pay1_eq, pay6_eq]
      simp only [load_batch]
      simp only [l1, l2, l3]
      rfl
  iintro ⟨G4, G5, G6, G7, G8⟩
  iapply Hk
  isplitl [H1]
  · iexists f1; isplitr
    · ipureintro; exact hf1
    · iexact H1
  isplitl [H2]
  · iexists f2; isplitr
    · ipureintro; exact hf2
    · iexact H2
  isplitl [H3]
  · iexists f3; isplitr
    · ipureintro; exact hf3
    · iexact H3
  isplitl [G4]
  · iexact G4
  isplitl [G5]
  · iexact G5
  isplitl [G6]
  · iexact G6
  isplitl [G7]
  · iexact G7
  iexact G8

end Cert.Proof.Gather
-- ==== Proof.Stream.lean ====
/-
  The streamed products as a pipeline: what each step finds and leaves, said as a relation because the last blocks of the
  tables overhang them, and the accumulator that the call hands back.
-/
module

public import proofs.«01_k».proof.Proof.StreamBody
public import Idealize.ShloMosaic.Lib.Pipeline.ArrRel

@[expose] public section

noncomputable section

namespace Cert.Proof.Gather

open Cert.KernelIdeal Cert.KernelIdeal.Gen

open Idealize.ShloMosaic Idealize.ShloMosaic.TcCoe Idealize.ShloMosaic.ValueIdx
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

/-! ## The accumulator as a relation -/

/-- Three blocks of 2048 rows that agree with the tables' block `n` where that lies inside the tables. -/
def BlkOf (tb : Fin 3 → Vec F S100000x128 .bf16) (n : ℕ) (b : Fin 3 → Vec F S2048x128 .bf16) : Prop :=
  ∀ (p : Fin 3) (y : S2048x128.Idx) (h : 2048 * n + (y 0).val < 100000),
    b p y = tb p (ix2 ⟨2048 * n + (y 0).val, h⟩ (y 1))

/-- One step's accumulator: the last step leaves out what lies beyond the tables. -/
def stepAcc (n : ℕ) (xs : Fin 3 → Vec F S1024x128 .f32) (b : Fin 3 → Vec F S2048x128 .bf16) (a : Vec F S3x2x1024x128 .f32) :
    Vec F S3x2x1024x128 .f32 :=
  if n = 48 then accMask (BitVec.ofNat 32 n) (unitRows xs) b a else accFull (unitRows xs) b a

/-- What the accumulator may hold after step `n`. -/
def AccRel (xs : Fin 3 → Vec F S1024x128 .f32) (tb : Fin 3 → Vec F S100000x128 .bf16) : ℕ → Vec F S3x2x1024x128 .f32 → Prop
  | 0, a' => ∃ b, BlkOf tb 0 b ∧ a' = stepAcc 0 xs b accZero
  | n + 1, a' => ∃ a b, AccRel xs tb n a ∧ BlkOf tb (n + 1) b ∧ a' = stepAcc (n + 1) xs b a

/-! ## The steps by their number -/

theorem coord0 : ∀ t : Fin grid0.N, (grid0.coords t 0).val = t.val := by decide +kernel
theorem cond1_iff : ∀ t : Fin grid0.N, k0_cond1 (grid0.coords t) = 1#1 ↔ t.val = 0 := by decide +kernel
theorem cond2_iff : ∀ t : Fin grid0.N, k0_cond2 (grid0.coords t) = 1#1 ↔ t.val < 48 := by decide +kernel
theorem cond3_iff : ∀ t : Fin grid0.N, k0_cond3 (grid0.coords t) = 1#1 ↔ t.val = 48 := by decide +kernel

/-! ## The pipeline's data -/

/-- The arrays of a TensorCore. -/
abbrev Vals (F : FTy → Type) (c : Dev nD) : Type := (b : Ref sig .tc) → Buf (Elt F) ((c : Thread nD τ).loc b)

/-- The batches and the cast tables. -/
abbrev xsOf (c : Dev nD) (V : Vals F c) : Fin 3 → Vec F S1024x128 .f32 := pick3 (V main_arg0) (V main_arg1) (V main_arg2)
abbrev tbOf (c : Dev nD) (V : Vals F c) : Fin 3 → Vec F S100000x128 .bf16 := fun p => match p with
  | 0 => V main_v0
  | 1 => V main_v1
  | 2 => V main_v2

/-- A buffer at something. -/
abbrev some' (c : Dev nD) (b : Ref sig .tc) : sProp 𝕄 :=
  iprop(∃ f : Buf (Elt F) ((c : Thread nD τ).loc b), ((c : Thread nD τ).loc b) ↦{fullShare} f)

/-- The scoped buffers that the call neither stages nor computes in. -/
def rest0 (c : Dev nD) : sProp 𝕄 :=
  iprop(some' c cc2_stg0_0 ∗ some' c cc2_stg1_0 ∗ some' c cc2_stg2_0 ∗ some' c cc2_stg3_0 ∗ some' c cc2_stg4_0
    ∗ some' c cc2_stg5_0 ∗ some' c cc2_stg6_0 ∗ some' c cc2_stg7_0)

/-- Before step `n` the scratch holds the unit rows, unless no step has run. -/
def Φ0 (c : Dev nD) (V : Vals F c) (n : ℕ) : sProp 𝕄 :=
  iprop((∃ x, ⌜n ≠ 0 → x = unitRows (xsOf c V)⌝ ∗ owns (c : Thread nD τ) (Memref.whole cc0_scratch0) fullShare x) ∗ rest0 c)

/-- The pipeline's data: the arrays at entry, and the accumulator after each step as the relation has it. -/
def rd0 (c : Dev nD) (V : Vals F c) (O : CellTallies nD τ sig (HIx 1)) (R : Set (SemLoc sig × HIx 1)) :
    RDat τ (Elt F) (HIx 1) ℕ UU ℕ cfg0 c where
  A w := V (Pipeline.arrRef spec0 w)
  after w t _ X := match w, X with
    | ⟨0, _⟩, _ => True
    | ⟨1, _⟩, _ => True
    | ⟨2, _⟩, _ => True
    | ⟨3, _⟩, _ => True
    | ⟨4, _⟩, _ => True
    | ⟨5, _⟩, _ => True
    | ⟨6, _⟩, X => AccRel (xsOf c V) (tbOf c V) t.val X
  Φ t := Φ0 c V t.val
  q _ := fullShare
  owed _ := O
  recorded _ := R

variable (c : Dev nD) (V : Vals F c) (O : CellTallies nD τ sig (HIx 1)) (R : Set (SemLoc sig × HIx 1))

/-- The tables' blocks by their numbers, and what of the last one is left. -/
theorem index_tab : ∀ t : Fin grid0.N, (win0_3.index t 0 = t.val ∧ win0_3.index t 1 = 0)
    ∧ (win0_4.index t 0 = t.val ∧ win0_4.index t 1 = 0) ∧ (win0_5.index t 0 = t.val ∧ win0_5.index t 1 = 0) := by decide +kernel
theorem cut_tab : ∀ t : Fin grid0.N,
    (win0_3.xsize (grid0.coords t) 0 = min 2048 (100000 - 2048 * t.val) ∧ win0_3.xsize (grid0.coords t) 1 = 128)
    ∧ (win0_4.xsize (grid0.coords t) 0 = min 2048 (100000 - 2048 * t.val) ∧ win0_4.xsize (grid0.coords t) 1 = 128)
    ∧ (win0_5.xsize (grid0.coords t) 0 = min 2048 (100000 - 2048 * t.val) ∧ win0_5.xsize (grid0.coords t) 1 = 128) := by decide +kernel

theorem inside_of {n : ℕ} {y : S2048x128.Idx} {z : Fin 2 → ℕ} (hz : z 0 = min 2048 (100000 - 2048 * n) ∧ z 1 = 128)
    (h : 2048 * n + (y 0).val < 100000) : ∀ a, (y a).val < z a := fun a => by
  match a with
  | 0 => have := (y 0).isLt; have e : S2048x128.size 0 = 2048 := rfl; rw [hz.1]; omega
  | 1 => rw [hz.2]; exact (y 1).isLt

/-- A step's block of a table agrees with the table where it lies inside. -/
theorem blkOf_finds (t : Fin cfg0.N) (Y : (w : Fin cfg0.W) → (cfg0.win w).block.Idx → Elt F (cfg0.win w).elt)
    (hY : ∀ w, (rd0 c V O R).Finds w t (Y w)) : BlkOf (tbOf c V) t.val (blocks (Y 3) (Y 4) (Y 5)) := by
  intro p y h
  match p with
  | 0 =>
    obtain ⟨d, hd⟩ := ((rd0 c V O R).finds_of_fetch (fetch0_3 t) (Y 3)).mp (hY 3)
    show Y 3 y = _
    rw [hd]
    unfold RDat.fetched Pipeline.Window.fill
    rw [dif_pos (((cfg0.win 3).moved_iff _ y).mpr (inside_of (cut_tab t).1 h))]
    refine congrArg (V main_v0) (funext fun a => ?_)
    match a with
    | 0 => exact Fin.ext (by
        refine (Pipeline.Window.rect_emb_val win0_3 t (fun a => ⟨(y a).val, inside_of (cut_tab t).1 h a⟩) 0 rfl).trans ?_
        rw [(index_tab t).1.1]
        show t.val * 2048 + (y 0).val = 2048 * t.val + (y 0).val; omega)
    | 1 => exact Fin.ext (by
        refine (Pipeline.Window.rect_emb_val win0_3 t (fun a => ⟨(y a).val, inside_of (cut_tab t).1 h a⟩) 1 rfl).trans ?_
        rw [(index_tab t).1.2]
        show 0 * 128 + (y 1).val = (y 1).val; omega)
  | 1 =>
    obtain ⟨d, hd⟩ := ((rd0 c V O R).finds_of_fetch (fetch0_4 t) (Y 4)).mp (hY 4)
    show Y 4 y = _
    rw [hd]
    unfold RDat.fetched Pipeline.Window.fill
    rw [dif_pos (((cfg0.win 4).moved_iff _ y).mpr (inside_of (cut_tab t).2.1 h))]
    refine congrArg (V main_v1) (funext fun a => ?_)
    match a with
    | 0 => exact Fin.ext (by
        refine (Pipeline.Window.rect_emb_val win0_4 t (fun a => ⟨(y a).val, inside_of (cut_tab t).2.1 h a⟩) 0 rfl).trans ?_
        rw [(index_tab t).2.1.1]
        show t.val * 2048 + (y 0).val = 2048 * t.val + (y 0).val; omega)
    | 1 => exact Fin.ext (by
        refine (Pipeline.Window.rect_emb_val win0_4 t (fun a => ⟨(y a).val, inside_of (cut_tab t).2.1 h a⟩) 1 rfl).trans ?_
        rw [(index_tab t).2.1.2]
        show 0 * 128 + (y 1).val = (y 1).val; omega)
  | 2 =>
    obtain ⟨d, hd⟩ := ((rd0 c V O R).finds_of_fetch (fetch0_5 t) (Y 5)).mp (hY 5)
    show Y 5 y = _
    rw [hd]
    unfold RDat.fetched Pipeline.Window.fill
    rw [dif_pos (((cfg0.win 5).moved_iff _ y).mpr (inside_of (cut_tab t).2.2 h))]
    refine congrArg (V main_v2) (funext fun a => ?_)
    match a with
    | 0 => exact Fin.ext (by
        refine (Pipeline.Window.rect_emb_val win0_5 t (fun a => ⟨(y a).val, inside_of (cut_tab t).2.2 h a⟩) 0 rfl).trans ?_
        rw [(index_tab t).2.2.1]
        show t.val * 2048 + (y 0).val = 2048 * t.val + (y 0).val; omega)
    | 1 => exact Fin.ext (by
        refine (Pipeline.Window.rect_emb_val win0_5 t (fun a => ⟨(y a).val, inside_of (cut_tab t).2.2 h a⟩) 1 rfl).trans ?_
        rw [(index_tab t).2.2.2]
        show 0 * 128 + (y 1).val = (y 1).val; omega)

/-- The first step finds the batches. -/
theorem batch_finds (t : Fin cfg0.N) (ht : t.val = 0) (Y : (w : Fin cfg0.W) → (cfg0.win w).block.Idx → Elt F (cfg0.win w).elt)
    (hY : ∀ w, (rd0 c V O R).Finds w t (Y w)) : pick3 (F := F) (Y 0) (Y 1) (Y 2) = xsOf c V := by
  have e0 : Y 0 = V main_arg0 := by
    obtain ⟨d, hd⟩ := ((rd0 c V O R).finds_of_fetch ((fetch0_0 t).mpr (by omega)) (Y 0)).mp (hY 0)
    rw [hd]
    funext y
    refine congrArg (V main_arg0) (funext fun a => Fin.ext ?_)
    refine (Pipeline.Window.rect_emb_val win0_0 t y a rfl).trans ?_
    match a with
    | 0 => show 0 * 1024 + (y 0).val = (y 0).val; omega
    | 1 => show 0 * 128 + (y 1).val = (y 1).val; omega
  have e1 : Y 1 = V main_arg1 := by
    obtain ⟨d, hd⟩ := ((rd0 c V O R).finds_of_fetch ((fetch0_1 t).mpr (by omega)) (Y 1)).mp (hY 1)
    rw [hd]
    funext y
    refine congrArg (V main_arg1) (funext fun a => Fin.ext ?_)
    refine (Pipeline.Window.rect_emb_val win0_1 t y a rfl).trans ?_
    match a with
    | 0 => show 0 * 1024 + (y 0).val = (y 0).val; omega
    | 1 => show 0 * 128 + (y 1).val = (y 1).val; omega
  have e2 : Y 2 = V main_arg2 := by
    obtain ⟨d, hd⟩ := ((rd0 c V O R).finds_of_fetch ((fetch0_2 t).mpr (by omega)) (Y 2)).mp (hY 2)
    rw [hd]
    funext y
    refine congrArg (V main_arg2) (funext fun a => Fin.ext ?_)
    refine (Pipeline.Window.rect_emb_val win0_2 t y a rfl).trans ?_
    match a with
    | 0 => show 0 * 1024 + (y 0).val = (y 0).val; omega
    | 1 => show 0 * 128 + (y 1).val = (y 1).val; omega
  rw [e0, e1, e2]

/-- A later step finds what the step before left. -/
theorem acc_finds (t : Fin cfg0.N) (n : ℕ) (ht : t.val = n + 1) (X : (cfg0.win 6).block.Idx → Elt F (cfg0.win 6).elt)
    (hY : (rd0 c V O R).Finds 6 t X) : AccRel (xsOf c V) (tbOf c V) n X := by
  rcases ((rd0 c V O R).finds_of_pos rfl (by omega) X).mp hY with h | ⟨Y, -, h⟩
  · have := (flush0_6 _).mp h
    have ht' : t.val < 49 := lt_of_lt_of_eq t.isLt N_0
    simp only at this
    omega
  · have h' : AccRel (xsOf c V) (tbOf c V) (t.val - 1) X := h
    rwa [show t.val - 1 = n by omega] at h'

/-- A step after the first, whole or the last. -/
theorem later_step (c : Dev nD) (i : grid0.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S3x2x1024x128 .f32) (harg7 : arg7.IsWhole) (arg8 : Memref sig .tc .vmem S3x1024x128 .bf16) (harg8 : arg8.IsWhole)
    (b0 b1 b2 : Vec F S2048x128 .bf16) (a : Vec F S3x2x1024x128 .f32) (x : Vec F S3x1024x128 .bf16)
    (xs : Fin 3 → Vec F S1024x128 .f32) (t : Fin grid0.N) (ht : i = grid0.coords t) (h0 : t.val ≠ 0) (hx : x = unitRows xs) (K : PUnit → sProp 𝕄) :
    iprop(owns (c : Thread nD τ) arg4 fullShare b0 ∗ owns (c : Thread nD τ) arg5 fullShare b1 ∗ owns (c : Thread nD τ) arg6 fullShare b2
        ∗ owns (c : Thread nD τ) arg7 fullShare (a) ∗ owns (c : Thread nD τ) arg8 fullShare x
        ∗ (iprop(owns (c : Thread nD τ) arg4 fullShare b0 ∗ owns (c : Thread nD τ) arg5 fullShare b1 ∗ owns (c : Thread nD τ) arg6 fullShare b2
        ∗ owns (c : Thread nD τ) arg7 fullShare (stepAcc t.val xs (blocks b0 b1 b2) a) ∗ owns (c : Thread nD τ) arg8 fullShare x) -∗ K ⟨⟩))
      ⊢ wp frame (wpE (defs₀ (F := F)) Variants.none c none) Set.univ (cc0__stream_body i arg1 harg1 arg2 harg2 arg3 harg3 arg4 harg4 arg5 harg5 arg6 harg6 arg7 harg7 arg8 harg8) K := by
  subst ht hx
  have h1 : ¬ k0_cond1 (grid0.coords t) = 1#1 := fun h => h0 ((cond1_iff t).mp h)
  unfold stepAcc
  by_cases h : t.val = 48
  · have e := mask_step c (grid0.coords t) arg1 harg1 arg2 harg2 arg3 harg3 arg4 harg4 arg5 harg5 arg6 harg6 arg7 harg7 arg8 harg8 b0 b1 b2 a (unitRows xs) K h1 (fun h' => by have := (cond2_iff t).mp h'; omega) ((cond3_iff t).mpr h)
    rw [coord0] at e
    rw [if_pos h]; exact e
  · have ht' : t.val < 49 := lt_of_lt_of_eq t.isLt N_0
    rw [if_neg h]
    exact full_step c (grid0.coords t) arg1 harg1 arg2 harg2 arg3 harg3 arg4 harg4 arg5 harg5 arg6 harg6 arg7 harg7 arg8 harg8 b0 b1 b2 a (unitRows xs) K h1 ((cond2_iff t).mpr (by omega)) (fun h' => h ((cond3_iff t).mp h'))

theorem body0 : (rd0 c V O R).BodyObligation (defs₀ (F := F)) 𝒱₀ none Set.univ := by
  intro t Y hY
  have hb := blkOf_finds c V O R t Y hY
  rw [bigSep_W0, bigSep_W0]
  rw [show (rd0 c V O R).Φ t.castSucc = Φ0 c V t.val from rfl, show (rd0 c V O R).Φ t.succ = Φ0 c V (t.val + 1) from rfl]
  unfold Φ0
  iintro ⟨⟨⟨%x, %hx, HS⟩, HR⟩, HO, H0, H1, H2, H3, H4, H5, H6⟩
  by_cases h0 : t.val = 0
  · have hxs := batch_finds c V O R t h0 Y hY
    iapply (first_step c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6)) (Memref.whole cc0_scratch0) (Memref.isWhole_whole _)
      (grid0.coords ⟨1, by rw [N_0]; decide⟩) (by decide +kernel) (by decide +kernel) (by decide +kernel) (Y 0) (Y 1) (Y 2) (Y 3) (Y 4) (Y 5) (Y 6) x _
      ((cond1_iff t).mpr h0) ((cond2_iff t).mpr (by omega)) (fun h => by have := (cond3_iff t).mp h; omega))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [HS HR]
    · isplitl [HS]
      · iexists _; isplitr
        rotate_left
        · iexact HS
        · ipureintro; intro _; rw [hxs]
      · iexact HR
    isplitl [HO]; · iexact HO
    isplitl [H0]; · iexists _; isplitr; rotate_left; (· iexact H0); ipureintro; trivial
    isplitl [H1]; · iexists _; isplitr; rotate_left; (· iexact H1); ipureintro; trivial
    isplitl [H2]; · iexists _; isplitr; rotate_left; (· iexact H2); ipureintro; trivial
    isplitl [H3]; · iexists _; isplitr; rotate_left; (· iexact H3); ipureintro; trivial
    isplitl [H4]; · iexists _; isplitr; rotate_left; (· iexact H4); ipureintro; trivial
    isplitl [H5]; · iexists _; isplitr; rotate_left; (· iexact H5); ipureintro; trivial
    iexists _; isplitr; rotate_left; (· iexact H6); ipureintro
    show AccRel _ _ t.val _
    rw [hxs, h0]
    exact ⟨_, h0 ▸ hb, rfl⟩
  · obtain ⟨n, hn⟩ : ∃ n, t.val = n + 1 := ⟨t.val - 1, by omega⟩
    have ht' : t.val < 49 := lt_of_lt_of_eq t.isLt N_0
    have ha := acc_finds c V O R t n hn (Y 6) (hY 6)
    have hx' := hx h0
    iapply (later_step c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3)) (st0_4 t) (hstage0_4 ((cfg0.slots t 4).cast nbuf0_4))
      (st0_5 t) (hstage0_5 ((cfg0.slots t 5).cast nbuf0_5)) (st0_6 t) (hstage0_6 ((cfg0.slots t 6).cast nbuf0_6)) (Memref.whole cc0_scratch0) (Memref.isWhole_whole _)
      (Y 3) (Y 4) (Y 5) (Y 6) x (xsOf c V) t rfl h0 hx' _)
    isplitl [H3]; · iexact H3
    isplitl [H4]; · iexact H4
    isplitl [H5]; · iexact H5
    isplitl [H6]; · iexact H6
    isplitl [HS]; · iexact HS
    iintro ⟨H3, H4, H5, H6, HS⟩
    isplitl [HS HR]
    · isplitl [HS]
      · iexists x; isplitr
        · ipureintro; intro _; exact hx'
        · iexact HS
      · iexact HR
    isplitl [HO]; · iexact HO
    isplitl [H0]; · iexists _; isplitr; rotate_left; (· iexact H0); ipureintro; trivial
    isplitl [H1]; · iexists _; isplitr; rotate_left; (· iexact H1); ipureintro; trivial
    isplitl [H2]; · iexists _; isplitr; rotate_left; (· iexact H2); ipureintro; trivial
    isplitl [H3]; · iexists _; isplitr; rotate_left; (· iexact H3); ipureintro; trivial
    isplitl [H4]; · iexists _; isplitr; rotate_left; (· iexact H4); ipureintro; trivial
    isplitl [H5]; · iexists _; isplitr; rotate_left; (· iexact H5); ipureintro; trivial
    iexists _; isplitr; rotate_left; (· iexact H6); ipureintro
    show AccRel _ _ t.val _
    rw [hn]
    exact ⟨_, _, ha, hn ▸ hb, rfl⟩

end Cert.Proof.Gather

end
-- ==== Proof.FinishBody.lean ====
/-
  The last call: what it makes of the batches, the gathered rows and the accumulator, and that its body does so.
-/
module

public import proofs.«01_k».proof.Proof.StreamBody

@[expose] public section

set_option maxRecDepth 16384

noncomputable section

namespace Cert.Proof.Gather

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig (HIx 1) (Elt F) ℕ UU ℕ

/-! ## The loss, in the kernel's operations -/

/-- A row's sum, for each of 1024 rows. -/
def rowSum (v : FVec F S1024x128 .f32) : FVec F S1024 .f32 :=
  multiReduction .add [1] S1024 v 0x00000000#32 reduces_S1024x128_S1024 (.inl rfl) rfl

/-- The rows brought to length one. -/
def unitOf (x : Vec F S1024x128 .f32) : FVec F S1024x128 .f32 :=
  divf x (broadcastTo S1024x128 (maximumf (sqrt (shapeCast S1024x1 (rowSum (mulf x x)) shapeCasts_S1024_S1024x1))
    (broadcast S1024x1 (Scalar.ofBits .f32 0x2B8CBCCC#32))) broadcasts_S1024x1_S1024x128)

/-- The cosine of each row and the row gathered for it. -/
def cosAt (x g : Vec F S1024x128 .f32) : FVec F S1024 .f32 :=
  rowSum (mulf (unitOf x) (shapeCast S1024x128 g shapeCasts_S1024x128_S1024x128))

/-- The accumulator's lanes added up. -/
def lanesOf (v : Vec F S1x1x1024x128 .f32) : FVec F S1024 .f32 :=
  rowSum (shapeCast S1024x128 v shapeCasts_S1x1x1024x128_S1024x128)

/-- The mean over the rows. -/
def meanOf (v : FVec F S1024 .f32) : F .f32 :=
  Scalar.divf (extractAt ![0, 0] (shapeCast S1x1 (multiReduction .add [1] S1 (shapeCast S1x1024 v shapeCasts_S1024_S1x1024)
    0x00000000#32 reduces_S1x1024_S1 (.inl rfl) rfl) shapeCasts_S1_S1x1) inpos_S1x1_p0_0) (Scalar.ofBits .f32 0x44800000#32)

/-- One over the sum of the second exponentials. -/
def recipOf (v1 : Vec F S1x1x1024x128 .f32) : FVec F S1024 .f32 :=
  divf (broadcast S1024 (Scalar.ofBits .f32 0x3F800000#32)) (lanesOf v1)

/-- The first cross entropy of each row. -/
def outerOf (s : FVec F S1024 .f32) (v0 : Vec F S1x1x1024x128 .f32) : FVec F S1024 .f32 :=
  subf (addf (broadcast S1024 (Scalar.ofBits .f32 0x41A00000#32)) (log (lanesOf v0)))
    (mulf (broadcast S1024 (Scalar.ofBits .f32 0x41A00000#32)) s)

/-- The second cross entropy of each row. -/
def innerOf (s : FVec F S1024 .f32) (v1 : Vec F S1x1x1024x128 .f32) : FVec F S1024 .f32 :=
  subf (log (addf (broadcast S1024 (Scalar.ofBits .f32 0x47C35000#32)) (mulf (lanesOf v1) (recipOf v1))))
    (mulf (exp (subf (sqrt (maximumf (subf (broadcast S1024 (Scalar.ofBits .f32 0x40000000#32))
      (mulf (broadcast S1024 (Scalar.ofBits .f32 0x40000000#32)) s)) (broadcast S1024 (Scalar.ofBits .f32 0x00000000#32))))
      (broadcast S1024 (Scalar.ofBits .f32 0x40000000#32)))) (recipOf v1))

/-- One table's share of the loss. -/
def pairOf (x g : Vec F S1024x128 .f32) (v0 v1 : Vec F S1x1x1024x128 .f32) : F .f32 :=
  Scalar.mulf (Scalar.ofBits .f32 0x3F000000#32)
    (Scalar.addf (meanOf (outerOf (cosAt x g) v0)) (meanOf (innerOf (cosAt x g) v1)))

/-- The loss. -/
def lossOf (x g : Fin 3 → Vec F S1024x128 .f32) (a : Vec F S3x2x1024x128 .f32) : Vec F S1x1 .f32 :=
  broadcast S1x1 (Scalar.addf (Scalar.addf (Scalar.addf (Scalar.ofBits .f32 0x00000000#32)
    (pairOf (x 0) (g 0) (accTile a 0 0) (accTile a 0 1))) (pairOf (x 1) (g 1) (accTile a 1 0) (accTile a 1 1)))
    (pairOf (x 2) (g 2) (accTile a 2 0) (accTile a 2 1)))

/-! ## The body's run -/

/-- The store of the one cell. -/
abbrev one (w : Vec F S1x1 .f32) : List (View.Piece (Elt F) S1x1 .f32) :=
  [⟨Rect.unit ![0, 0] S1x1.size inb_S1x1_S1x1_0_0, w⟩]

/-- The one cell of the result stored and read back. -/
theorem read_one {sp : Space} (v : View sig .tc sp S1x1 .f32) (f : v.ty.Contents (Elt F)) (w : Vec F S1x1 .f32) :
    v.read (Elt F) (v.writes (Elt F) f (one w)) = w := by
  have hc := View.cover_of_tiled (Val := Elt F) (one w) S1x1.size (by rfl)
  refine (View.read_writes_eq_canon v f _ hc).trans (funext fun y => ?_)
  refine View.canon_apply_of_pieces w _ ?_ y (hc y)
  intro q hq
  simp only [List.mem_singleton] at hq
  subst hq
  intro z
  refine congrArg w (funext fun a => Fin.ext ?_)
  match a with
  | 0 => show (z 0).val = 0 + 1 * (z 0).val; omega
  | 1 => show (z 1).val = 0 + 1 * (z 1).val; omega

set_option maxHeartbeats 400000 in
theorem finish_run (c : Dev nD) (i : grid2.Coords) (arg1 : Memref sig .tc .vmem S1024x128 .f32) (harg1 : arg1.IsWhole) (arg2 : Memref sig .tc .vmem S1024x128 .f32) (harg2 : arg2.IsWhole) (arg3 : Memref sig .tc .vmem S1024x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S3x2x1024x128 .f32) (harg7 : arg7.IsWhole) (arg8 : Memref sig .tc .vmem S1x1 .f32) (harg8 : arg8.IsWhole)
    (x g : Fin 3 → Vec F S1024x128 .f32) (a : Vec F S3x2x1024x128 .f32) (K : PUnit → sProp 𝕄) :
    iprop(owns (c : Thread nD τ) arg1 fullShare (x 0) ∗ owns (c : Thread nD τ) arg2 fullShare (x 1) ∗ owns (c : Thread nD τ) arg3 fullShare (x 2) ∗ owns (c : Thread nD τ) arg4 fullShare (g 0) ∗ owns (c : Thread nD τ) arg5 fullShare (g 1) ∗ owns (c : Thread nD τ) arg6 fullShare (g 2) ∗ owns (c : Thread nD τ) arg7 fullShare (a) ∗ (∃ d, owns (c : Thread nD τ) arg8 fullShare d)
        ∗ (iprop(owns (c : Thread nD τ) arg1 fullShare (x 0) ∗ owns (c : Thread nD τ) arg2 fullShare (x 1) ∗ owns (c : Thread nD τ) arg3 fullShare (x 2) ∗ owns (c : Thread nD τ) arg4 fullShare (g 0) ∗ owns (c : Thread nD τ) arg5 fullShare (g 1) ∗ owns (c : Thread nD τ) arg6 fullShare (g 2) ∗ owns (c : Thread nD τ) arg7 fullShare (a) ∗ owns (c : Thread nD τ) arg8 fullShare (lossOf x g a)) -∗ K ⟨⟩))
      ⊢ wp frame (wpE (defs₀ (F := F)) Variants.none c none) Set.univ (cc2__finish_body i arg1 harg1 arg2 harg2 arg3 harg3 arg4 harg4 arg5 harg5 arg6 harg6 arg7 harg7 arg8 harg8) K := by
  simp only [cc2__finish_body_eq_skeleton]; unfold cc2__finish_body_skel
  simp only [k2_part1_eq_skeleton, k2_part2_eq_skeleton, k2_part3_eq_skeleton, k2_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  sl_exec
  sl_step
  iapply Hk
  isplitl [H0]
  · iexists f0; isplitr
    · ipureintro; exact hf0
    · iexact H0
  isplitl [H1]
  · iexists f1; isplitr
    · ipureintro; exact hf1
    · iexact H1
  isplitl [H2]
  · iexists f2; isplitr
    · ipureintro; exact hf2
    · iexact H2
  isplitl [H3]
  · iexists f3; isplitr
    · ipureintro; exact hf3
    · iexact H3
  isplitl [H4]
  · iexists f4; isplitr
    · ipureintro; exact hf4
    · iexact H4
  isplitl [H5]
  · iexists f5; isplitr
    · ipureintro; exact hf5
    · iexact H5
  isplitl [H6]
  · iexists f6; isplitr
    · ipureintro; exact hf6
    · iexact H6
  iexists _; isplitr
  swap; · iexact H7
  ipureintro
  refine Eq.trans ?_ (read_one arg8.view f7 (lossOf x g a))
  refine congrArg (fun w => arg8.view.read (Elt F) (arg8.view.writes (Elt F) f7 (one w))) ?_
  unfold lossOf
  rw [← hf0, ← hf1, ← hf2, ← hf3, ← hf4, ← hf5, ← hf6]
  sl_unfold_run_names
  have l0 : arg1.view.readAt (Elt F) (Rect.unit (s := S1024x128) ![0, 0] ![1024, 128] inb_S1024x128_S1024x128_0_0).toLoadRect f0 = _ := load_batch arg1.view f0 _
  have l1 : arg2.view.readAt (Elt F) (Rect.unit (s := S1024x128) ![0, 0] ![1024, 128] inb_S1024x128_S1024x128_0_0).toLoadRect f1 = _ := load_batch arg2.view f1 _
  have l2 : arg3.view.readAt (Elt F) (Rect.unit (s := S1024x128) ![0, 0] ![1024, 128] inb_S1024x128_S1024x128_0_0).toLoadRect f2 = _ := load_batch arg3.view f2 _
  have l3 : arg4.view.readAt (Elt F) (Rect.unit (s := S1024x128) ![0, 0] ![1024, 128] inb_S1024x128_S1024x128_0_0).toLoadRect f3 = _ := load_batch arg4.view f3 _
  have l4 : arg5.view.readAt (Elt F) (Rect.unit (s := S1024x128) ![0, 0] ![1024, 128] inb_S1024x128_S1024x128_0_0).toLoadRect f4 = _ := load_batch arg5.view f4 _
  have l5 : arg6.view.readAt (Elt F) (Rect.unit (s := S1024x128) ![0, 0] ![1024, 128] inb_S1024x128_S1024x128_0_0).toLoadRect f5 = _ := load_batch arg6.view f5 _
  have h00 : arg7.view.readAt (Elt F) (Rect.unit (s := S3x2x1024x128) ![0, 0, 0, 0] S1x1x1024x128.size inb_S3x2x1024x128_S1x1x1024x128_0_0_0_0).toLoadRect f6 = _ := load_tile (F := F) arg7.view f6 0 0 _
  have h01 : arg7.view.readAt (Elt F) (Rect.unit (s := S3x2x1024x128) ![0, 1, 0, 0] S1x1x1024x128.size inb_S3x2x1024x128_S1x1x1024x128_0_1_0_0).toLoadRect f6 = _ := load_tile (F := F) arg7.view f6 0 1 _
  have h10 : arg7.view.readAt (Elt F) (Rect.unit (s := S3x2x1024x128) ![1, 0, 0, 0] S1x1x1024x128.size inb_S3x2x1024x128_S1x1x1024x128_1_0_0_0).toLoadRect f6 = _ := load_tile (F := F) arg7.view f6 1 0 _
  have h11 : arg7.view.readAt (Elt F) (Rect.unit (s := S3x2x1024x128) ![1, 1, 0, 0] S1x1x1024x128.size inb_S3x2x1024x128_S1x1x1024x128_1_1_0_0).toLoadRect f6 = _ := load_tile (F := F) arg7.view f6 1 1 _
  have h20 : arg7.view.readAt (Elt F) (Rect.unit (s := S3x2x1024x128) ![2, 0, 0, 0] S1x1x1024x128.size inb_S3x2x1024x128_S1x1x1024x128_2_0_0_0).toLoadRect f6 = _ := load_tile (F := F) arg7.view f6 2 0 _
  have h21 : arg7.view.readAt (Elt F) (Rect.unit (s := S3x2x1024x128) ![2, 1, 0, 0] S1x1x1024x128.size inb_S3x2x1024x128_S1x1x1024x128_2_1_0_0).toLoadRect f6 = _ := load_tile (F := F) arg7.view f6 2 1 _
  simp only [l0, l1, l2, l3, l4, l5, h00, h01, h10, h11, h20, h21]
  rfl

end Cert.Proof.Gather
-- ==== Proof.Finish.lean ====
/-
  The last call as a pipeline of one step: what it finds is the arrays, what it leaves is the loss.
-/
module

public import proofs.«01_k».proof.Proof.Stream
public import proofs.«01_k».proof.Proof.FinishBody

@[expose] public section

noncomputable section

namespace Cert.Proof.Gather

open Cert.KernelIdeal Cert.KernelIdeal.Gen

open Idealize.ShloMosaic Idealize.ShloMosaic.TcCoe Idealize.ShloMosaic.ValueIdx
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

/-- The gathered rows. -/
abbrev gsOf (c : Dev nD) (V : Vals F c) : Fin 3 → Vec F S1024x128 .f32 := pick3 (V main_v5_0) (V main_v5_1) (V main_v5_2)

/-- The scoped buffers that the call does not stage. -/
def Φ2 (c : Dev nD) : sProp 𝕄 := Pipeline.scopedRest spec2 c

/-- The pipeline's data: the arrays at entry, and the loss. -/
def rd2 (c : Dev nD) (V : Vals F c) (O : CellTallies nD τ sig (HIx 1)) (R : Set (SemLoc sig × HIx 1)) :
    RDat τ (Elt F) (HIx 1) ℕ UU ℕ cfg2 c where
  A w := V (Pipeline.arrRef spec2 w)
  after w _ _ X := match w, X with
    | ⟨0, _⟩, _ => True
    | ⟨1, _⟩, _ => True
    | ⟨2, _⟩, _ => True
    | ⟨3, _⟩, _ => True
    | ⟨4, _⟩, _ => True
    | ⟨5, _⟩, _ => True
    | ⟨6, _⟩, _ => True
    | ⟨7, _⟩, X => X = lossOf (xsOf c V) (gsOf c V) (V main_v3)
  Φ _ := Φ2 c
  q _ := fullShare
  owed _ := O
  recorded _ := R

variable (c : Dev nD) (V : Vals F c) (O : CellTallies nD τ sig (HIx 1)) (R : Set (SemLoc sig × HIx 1))

/-- An array read at its own indices. -/
theorem read_batch (f : Vec F S1024x128 .f32) (e : S1024x128.Idx → S1024x128.Idx)
    (he : ∀ (y : S1024x128.Idx) (a : Fin 2), (e y a).val = (![0, 0] : Fin 2 → ℕ) a * S1024x128.size a + (y a).val) : (fun y => f (e y)) = f := by
  funext y
  refine congrArg f (funext fun a => Fin.ext ((he y a).trans ?_))
  match a with
  | 0 => show 0 * 1024 + (y 0).val = (y 0).val; omega
  | 1 => show 0 * 128 + (y 1).val = (y 1).val; omega

/-- The step finds the arrays. -/
theorem all_found (t : Fin cfg2.N) (Y : (w : Fin cfg2.W) → (cfg2.win w).block.Idx → Elt F (cfg2.win w).elt)
    (hY : ∀ w, (rd2 c V O R).Finds w t (Y w)) :
    (Y 0 = V main_arg0 ∧ Y 1 = V main_arg1 ∧ Y 2 = V main_arg2) ∧ (Y 3 = V main_v5_0 ∧ Y 4 = V main_v5_1 ∧ Y 5 = V main_v5_2) ∧ Y 6 = V main_v3 := by
  have e0 : Y 0 = V main_arg0 := by
    obtain ⟨d, hd⟩ := ((rd2 c V O R).finds_of_fetch (fetch2_0 t) (Y 0)).mp (hY 0)
    rw [hd]
    exact read_batch (V main_arg0) _ fun y a => Pipeline.Window.rect_emb_val win2_0 t y a rfl
  have e1 : Y 1 = V main_arg1 := by
    obtain ⟨d, hd⟩ := ((rd2 c V O R).finds_of_fetch (fetch2_1 t) (Y 1)).mp (hY 1)
    rw [hd]
    exact read_batch (V main_arg1) _ fun y a => Pipeline.Window.rect_emb_val win2_1 t y a rfl
  have e2 : Y 2 = V main_arg2 := by
    obtain ⟨d, hd⟩ := ((rd2 c V O R).finds_of_fetch (fetch2_2 t) (Y 2)).mp (hY 2)
    rw [hd]
    exact read_batch (V main_arg2) _ fun y a => Pipeline.Window.rect_emb_val win2_2 t y a rfl
  have e3 : Y 3 = V main_v5_0 := by
    obtain ⟨d, hd⟩ := ((rd2 c V O R).finds_of_fetch (fetch2_3 t) (Y 3)).mp (hY 3)
    rw [hd]
    exact read_batch (V main_v5_0) _ fun y a => Pipeline.Window.rect_emb_val win2_3 t y a rfl
  have e4 : Y 4 = V main_v5_1 := by
    obtain ⟨d, hd⟩ := ((rd2 c V O R).finds_of_fetch (fetch2_4 t) (Y 4)).mp (hY 4)
    rw [hd]
    exact read_batch (V main_v5_1) _ fun y a => Pipeline.Window.rect_emb_val win2_4 t y a rfl
  have e5 : Y 5 = V main_v5_2 := by
    obtain ⟨d, hd⟩ := ((rd2 c V O R).finds_of_fetch (fetch2_5 t) (Y 5)).mp (hY 5)
    rw [hd]
    exact read_batch (V main_v5_2) _ fun y a => Pipeline.Window.rect_emb_val win2_5 t y a rfl
  have e6 : Y 6 = V main_v3 := by
    obtain ⟨d, hd⟩ := ((rd2 c V O R).finds_of_fetch (fetch2_6 t) (Y 6)).mp (hY 6)
    rw [hd]
    funext y
    refine congrArg (V main_v3) (funext fun a => Fin.ext ?_)
    refine (Pipeline.Window.rect_emb_val win2_6 t y a rfl).trans ?_
    match a with
    | 0 => show 0 * 3 + (y 0).val = (y 0).val; omega
    | 1 => show 0 * 2 + (y 1).val = (y 1).val; omega
    | 2 => show 0 * 1024 + (y 2).val = (y 2).val; omega
    | 3 => show 0 * 128 + (y 3).val = (y 3).val; omega
  exact ⟨⟨e0, e1, e2⟩, ⟨e3, e4, e5⟩, e6⟩

theorem body2 : (rd2 c V O R).BodyObligation (defs₀ (F := F)) 𝒱₀ none Set.univ := by
  intro t Y hY
  obtain ⟨⟨e0, e1, e2⟩, ⟨e3, e4, e5⟩, e6⟩ := all_found c V O R t Y hY
  rw [bigSep_W2, bigSep_W2]
  rw [show (rd2 c V O R).Φ t.castSucc = Φ2 c from rfl, show (rd2 c V O R).Φ t.succ = Φ2 c from rfl]
  iintro ⟨HR, HO, H0, H1, H2, H3, H4, H5, H6, H7⟩
  iapply (finish_run c (grid2.coords t) (st2_0 t) (hstage2_0 ((cfg2.slots t 0).cast nbuf2_0)) (st2_1 t) (hstage2_1 ((cfg2.slots t 1).cast nbuf2_1)) (st2_2 t) (hstage2_2 ((cfg2.slots t 2).cast nbuf2_2)) (st2_3 t) (hstage2_3 ((cfg2.slots t 3).cast nbuf2_3)) (st2_4 t) (hstage2_4 ((cfg2.slots t 4).cast nbuf2_4)) (st2_5 t) (hstage2_5 ((cfg2.slots t 5).cast nbuf2_5)) (st2_6 t) (hstage2_6 ((cfg2.slots t 6).cast nbuf2_6)) (st2_7 t) (hstage2_7 ((cfg2.slots t 7).cast nbuf2_7))
    (xsOf c V) (gsOf c V) (V main_v3) _)
  isplitl [H0]; · rw [e0]; iexact H0
  isplitl [H1]; · rw [e1]; iexact H1
  isplitl [H2]; · rw [e2]; iexact H2
  isplitl [H3]; · rw [e3]; iexact H3
  isplitl [H4]; · rw [e4]; iexact H4
  isplitl [H5]; · rw [e5]; iexact H5
  isplitl [H6]; · rw [e6]; iexact H6
  isplitl [H7]; · iexists _; iexact H7
  iintro ⟨H0, H1, H2, H3, H4, H5, H6, H7⟩
  isplitl [HR]; · iexact HR
  isplitl [HO]; · iexact HO
  isplitl [H0]; · iexists _; isplitr; rotate_left; (· iexact H0); ipureintro; trivial
  isplitl [H1]; · iexists _; isplitr; rotate_left; (· iexact H1); ipureintro; trivial
  isplitl [H2]; · iexists _; isplitr; rotate_left; (· iexact H2); ipureintro; trivial
  isplitl [H3]; · iexists _; isplitr; rotate_left; (· iexact H3); ipureintro; trivial
  isplitl [H4]; · iexists _; isplitr; rotate_left; (· iexact H4); ipureintro; trivial
  isplitl [H5]; · iexists _; isplitr; rotate_left; (· iexact H5); ipureintro; trivial
  isplitl [H6]; · iexists _; isplitr; rotate_left; (· iexact H6); ipureintro; trivial
  iexists _; isplitr; rotate_left; (· iexact H7); ipureintro
  rfl

end Cert.Proof.Gather

end
-- ==== Proof.Calls.lean ====
/-
  The two TensorCore calls as parts of a longer program: each takes all the arrays and gives them all back, its own result
  replaced and the others as they were.
-/
module

public import proofs.«01_k».proof.Proof.Finish
public import Idealize.ShloMosaic.Lib.Pipeline.Regions

@[expose] public section

noncomputable section

namespace Cert.Proof.Gather

open Cert.KernelIdeal Cert.KernelIdeal.Gen

open Idealize.ShloMosaic Idealize.ShloMosaic.TcCoe Idealize.ShloMosaic.ValueIdx
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

abbrev adm : (p : Fin 2) → (pcfgs (F := F) p).Adm := fun p => (cfgs p).toPCfg_adm

variable (V : (c : Dev nD) → Vals F c) (O : Dev nD → CellTallies nD τ sig (HIx 1)) (R : Dev nD → Set (SemLoc sig × HIx 1))

/-- The two pipelines' data, both from the same arrays. -/
def rdats : (p : Fin 2) → (c : Dev nD) → RDat τ (Elt F) (HIx 1) ℕ UU ℕ (Pipeline.pin (pcfgs (F := F)) adm p) c
  | ⟨0, _⟩ => fun c => rd0 c (V c) (O c) (R c)
  | ⟨1, _⟩ => fun c => rd2 c (V c) (O c) (R c)

/-- All the arrays, and what the core owes. -/
abbrev stateOf (c : Dev nD) (W : Vals F c) : sProp 𝕄 := iprop(unscopedBufs c W ∗ Pipeline.owesWithin c (O c) (R c))

/-- The arrays with one replaced. -/
def setV (c : Dev nD) (W : Vals F c) (b : Ref sig .tc) (x : Buf (Elt F) ((c : Thread nD τ).loc b)) : Vals F c :=
  fun b' => if h : b' = b then h ▸ x else W b'

theorem setV_self (c : Dev nD) (W : Vals F c) (b : Ref sig .tc) (x : Buf (Elt F) ((c : Thread nD τ).loc b)) : setV c W b x b = x := by
  unfold setV; rw [dif_pos rfl]
theorem setV_ne (c : Dev nD) (W : Vals F c) (b : Ref sig .tc) (x : Buf (Elt F) ((c : Thread nD τ).loc b)) {b' : Ref sig .tc} (h : b' ≠ b) :
    setV c W b x b' = W b' := by
  unfold setV; rw [dif_neg h]

/-- A core may record its waits at the pipelines' own semaphores. -/
def Records : Prop := ∀ (c : Dev nD) (sm : SemLoc sig), (sm, none) ∈ R c

variable (hR : Records R) (hO : ∀ c g, O c g none = 0)

theorem owes_back (c : Dev nD) (cfg : Pipeline.Cfg sig Λ₀) (hR : Records R) :
    (Pipeline.owesWithin c (O c) (R c ∪ cfg.waitPairs none) : sProp 𝕄) ⊢ Pipeline.owesWithin c (O c) (R c) :=
  Pipeline.owesWithin_mono c (O c) (by
    rintro p (h | ⟨w, s, h⟩)
    · exact h
    · rw [h]; exact hR c _)

/-- The last step writes the whole accumulator. -/
abbrev last0 : Fin cfg0.N := ⟨48, by show 48 < grid0.N; rw [N_0]; decide⟩
theorem whole_last0 : (cfg0.win 6).WholeAt last0 := by decide +kernel

/-- The arrays that the call does not touch are as they were. -/
theorem rest0_setV (c : Dev nD) (x : Vec F S3x2x1024x128 .f32) :
    (Pipeline.unscopedRest spec0 c (setV c (V c) main_v3 x) : sProp 𝕄) = Pipeline.unscopedRest spec0 c (V c) := by
  rw [unscopedRest0_eq, unscopedRest0_eq]
  rw [setV_ne c (V c) main_v3 x (b' := main_arg3) (by decide), setV_ne c (V c) main_v3 x (b' := main_arg4) (by decide), setV_ne c (V c) main_v3 x (b' := main_arg5) (by decide), setV_ne c (V c) main_v3 x (b' := main_arg6) (by decide), setV_ne c (V c) main_v3 x (b' := main_v4) (by decide), setV_ne c (V c) main_v3 x (b' := main_v5_0) (by decide), setV_ne c (V c) main_v3 x (b' := main_v5_1) (by decide), setV_ne c (V c) main_v3 x (b' := main_v5_2) (by decide), setV_ne c (V c) main_v3 x (b' := main_v6) (by decide), setV_ne c (V c) main_v3 x (b' := main_v7) (by decide)]

set_option backward.isDefEq.respectTransparency.types false in
/-- The streamed products: the accumulator replaced by one that the relation admits after the last step. -/
def reg0 : RDat.RegionSeg (pcfgs (F := F)) adm (rdats V O R) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := body0 c (V c) (O c) (R c)
  hwaits c := RDat.cellsWaits_intro _ (rdats V O R) none 0 c fun w s t => (K (F := F)).mayWait_none _ (hO c)
  pre c := stateOf O R c (V c)
  post c := iprop(∃ X : Vec F S3x2x1024x128 .f32, ⌜AccRel (xsOf c (V c)) (tbOf c (V c)) 48 X⌝ ∗ stateOf O R c (setV c (V c) main_v3 X))
  X c := iprop(emp)
  Y c := iprop(emp)
  Z c := Pipeline.unscopedRest spec0 c (V c)
  hentry c := by
    have hsplit := RDat.arrays_of_unscopedBufs (pcfgs (F := F)) adm (rdats V O R) (p := 0) launch0.win launch0.arr_whole c
      (fun w => (rdats V O R 0 c).share_full (fun _ => rfl) w) (V c) (fun _ => rfl)
    iintro ⟨⟨Hub, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O c) (B := R c) (B' := R c ∪ cfg0.waitPairs none) Set.subset_union_left); iexact HO
    isplitr; · iempintro
    iexact HZ
  hin c := by
    rw [show (rdats V O R 0 c).Φ 0 = Φ0 c (V c) 0 from rfl]
    unfold Φ0 rest0
    iintro ⟨-, -, Hr⟩
    ihave H := (Entails.of_eq (scopedRest0_eq c)) $$ Hr
    icases H with ⟨⟨%f, HS⟩, Hr⟩
    isplitl [HS]
    · iexists f; isplitr
      · ipureintro; intro h; exact absurd rfl h
      · iapply (Entails.of_eq (owns_whole (c : Thread nD τ) cc0_scratch0 fullShare f).symm); iexact HS
    iexact Hr
  hout c := by
    rw [show (rdats V O R 0 c).Φ (Fin.last _) = Φ0 c (V c) cfg0.N from rfl]
    unfold Φ0 rest0
    iintro ⟨⟨%x, -, HS⟩, Hr⟩
    isplitr; · iempintro
    isplitr; · unfold Pipeline.ownSems0; rw [show (Finset.univ : Finset PEmpty) = ∅ from rfl, BI.bigSep_empty]; iempintro
    iapply (Entails.of_eq (scopedRest0_eq c).symm)
    isplitl [HS]
    · iexists x; iapply (Entails.of_eq (owns_whole (c : Thread nD τ) cc0_scratch0 fullShare x)); iexact HS
    iexact Hr
  hexit c := by
    have hat := RDat.arraysAt_eq (pcfgs (F := F)) adm (rdats V O R) 0 c launch0.arr_whole (fun w => (rdats V O R 0 c).share_full (fun _ => rfl) w) cfg0.N
    iintro ⟨Ha, HO, -, HZ⟩
    ihave H := (Entails.of_eq hat) $$ Ha
    ihave H' := (Entails.of_eq (bigSep_W0 _)) $$ H
    icases H' with ⟨⟨%g0, %h0, H0⟩, ⟨%g1, %h1, H1⟩, ⟨%g2, %h2, H2⟩, ⟨%g3, %h3, H3⟩, ⟨%g4, %h4, H4⟩, ⟨%g5, %h5, H5⟩, ⟨%g6, %h6, H6⟩⟩
    have q0 : g0 = V c main_arg0 := by have h := h0; rw [RDat.ArrAt_in _ 0 rfl] at h; exact h
    subst q0
    have q1 : g1 = V c main_arg1 := by have h := h1; rw [RDat.ArrAt_in _ 1 rfl] at h; exact h
    subst q1
    have q2 : g2 = V c main_arg2 := by have h := h2; rw [RDat.ArrAt_in _ 2 rfl] at h; exact h
    subst q2
    have q3 : g3 = V c main_v0 := by have h := h3; rw [RDat.ArrAt_in _ 3 rfl] at h; exact h
    subst q3
    have q4 : g4 = V c main_v1 := by have h := h4; rw [RDat.ArrAt_in _ 4 rfl] at h; exact h
    subst q4
    have q5 : g5 = V c main_v2 := by have h := h5; rw [RDat.ArrAt_in _ 5 rfl] at h; exact h
    subst q5
    obtain ⟨X, hX, hg⟩ := RDat.ArrAt.emb_eq_of_wholeAt h6 (t₀ := last0) whole_last0
    have hA : AccRel (xsOf c (V c)) (tbOf c (V c)) 48 X := by obtain ⟨Y, -, h⟩ := hX; exact h
    have q6 : g6 = X := funext fun j => hg j
    subst q6
    imodintro
    iexists g6
    isplitr; · ipureintro; exact hA
    isplitr [HO]
    · iapply (Entails.of_eq (Pipeline.unscopedBufs_split cfgs 0 launch0.win.arr_unscoped launch0.win.arr_inj c (setV c (V c) main_v3 g6)).symm)
      isplitr [HZ]
      · iapply (Entails.of_eq (bigSep_W0 _).symm)
        isplitl [H0]; · iapply (Entails.of_eq (congrArg (fun f => iprop(((c : Thread nD τ).loc main_arg0) ↦{fullShare} f)) (setV_ne c (V c) main_v3 g6 (b' := main_arg0) (by decide)).symm)); iexact H0
        isplitl [H1]; · iapply (Entails.of_eq (congrArg (fun f => iprop(((c : Thread nD τ).loc main_arg1) ↦{fullShare} f)) (setV_ne c (V c) main_v3 g6 (b' := main_arg1) (by decide)).symm)); iexact H1
        isplitl [H2]; · iapply (Entails.of_eq (congrArg (fun f => iprop(((c : Thread nD τ).loc main_arg2) ↦{fullShare} f)) (setV_ne c (V c) main_v3 g6 (b' := main_arg2) (by decide)).symm)); iexact H2
        isplitl [H3]; · iapply (Entails.of_eq (congrArg (fun f => iprop(((c : Thread nD τ).loc main_v0) ↦{fullShare} f)) (setV_ne c (V c) main_v3 g6 (b' := main_v0) (by decide)).symm)); iexact H3
        isplitl [H4]; · iapply (Entails.of_eq (congrArg (fun f => iprop(((c : Thread nD τ).loc main_v1) ↦{fullShare} f)) (setV_ne c (V c) main_v3 g6 (b' := main_v1) (by decide)).symm)); iexact H4
        isplitl [H5]; · iapply (Entails.of_eq (congrArg (fun f => iprop(((c : Thread nD τ).loc main_v2) ↦{fullShare} f)) (setV_ne c (V c) main_v3 g6 (b' := main_v2) (by decide)).symm)); iexact H5
        iapply (Entails.of_eq (congrArg (fun f => iprop(((c : Thread nD τ).loc main_v3) ↦{fullShare} f)) (setV_self c (V c) main_v3 g6).symm)); iexact H6
      · iapply (Entails.of_eq (rest0_setV V c g6).symm); iexact HZ
    · iapply (owes_back O R c cfg0 hR); iexact HO

/-- The one step writes the whole result. -/
abbrev last2 : Fin cfg2.N := ⟨0, by show 0 < grid2.N; rw [N_2]; decide⟩
theorem whole_last2 : (cfg2.win 7).WholeAt last2 := by decide +kernel

/-- The arrays that the call does not touch are as they were. -/
theorem rest2_setV (c : Dev nD) (x : Vec F S1x1 .f32) :
    (Pipeline.unscopedRest spec2 c (setV c (V c) main_v6 x) : sProp 𝕄) = Pipeline.unscopedRest spec2 c (V c) := by
  rw [unscopedRest2_eq, unscopedRest2_eq]
  rw [setV_ne c (V c) main_v6 x (b' := main_arg3) (by decide), setV_ne c (V c) main_v6 x (b' := main_arg4) (by decide), setV_ne c (V c) main_v6 x (b' := main_arg5) (by decide), setV_ne c (V c) main_v6 x (b' := main_arg6) (by decide), setV_ne c (V c) main_v6 x (b' := main_v0) (by decide), setV_ne c (V c) main_v6 x (b' := main_v1) (by decide), setV_ne c (V c) main_v6 x (b' := main_v2) (by decide), setV_ne c (V c) main_v6 x (b' := main_v4) (by decide), setV_ne c (V c) main_v6 x (b' := main_v7) (by decide)]

set_option backward.isDefEq.respectTransparency.types false in
/-- The last call: its one cell replaced by the loss. -/
def reg2 : RDat.RegionSeg (pcfgs (F := F)) adm (rdats V O R) none defs₀ 𝒱₀ (K (F := F)).L (K (F := F)).lev 1 where
  win := launch2.win.to₀
  block_pos := launch2.block_pos
  stage_whole := launch2.stage_whole
  K := PEmpty
  osem := fun k => k.elim
  ho := Pipeline.OwnSemFacts.none _
  hbody c := body2 c (V c) (O c) (R c)
  hwaits c := RDat.cellsWaits_intro _ (rdats V O R) none 1 c fun w s t => (K (F := F)).mayWait_none _ (hO c)
  pre c := stateOf O R c (V c)
  post c := stateOf O R c (setV c (V c) main_v6 (lossOf (xsOf c (V c)) (gsOf c (V c)) (V c main_v3)))
  X c := iprop(emp)
  Y c := iprop(emp)
  Z c := Pipeline.unscopedRest spec2 c (V c)
  hentry c := by
    have hsplit := RDat.arrays_of_unscopedBufs (pcfgs (F := F)) adm (rdats V O R) (p := 1) launch2.win launch2.arr_whole c
      (fun w => (rdats V O R 1 c).share_full (fun _ => rfl) w) (V c) (fun _ => rfl)
    iintro ⟨⟨Hub, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · iapply (Pipeline.owesWithin_mono c (O c) (B := R c) (B' := R c ∪ cfg2.waitPairs none) Set.subset_union_left); iexact HO
    isplitr; · iempintro
    iexact HZ
  hin c := by
    rw [show (rdats V O R 1 c).Φ 0 = Φ2 c from rfl]
    unfold Φ2
    iintro ⟨-, -, Hr⟩
    ihave H := (Entails.of_eq (scopedRest2_eq c)) $$ Hr
    iapply (Entails.of_eq (scopedRest2_eq c).symm)
    iexact H
  hout c := by
    rw [show (rdats V O R 1 c).Φ (Fin.last _) = Φ2 c from rfl]
    unfold Φ2
    iintro Hr
    isplitr; · iempintro
    isplitr; · unfold Pipeline.ownSems0; rw [show (Finset.univ : Finset PEmpty) = ∅ from rfl, BI.bigSep_empty]; iempintro
    ihave H := (Entails.of_eq (scopedRest2_eq c)) $$ Hr
    iapply (Entails.of_eq (scopedRest2_eq c).symm)
    iexact H
  hexit c := by
    have hat := RDat.arraysAt_eq (pcfgs (F := F)) adm (rdats V O R) 1 c launch2.arr_whole (fun w => (rdats V O R 1 c).share_full (fun _ => rfl) w) cfg2.N
    iintro ⟨Ha, HO, -, HZ⟩
    ihave H := (Entails.of_eq hat) $$ Ha
    ihave H' := (Entails.of_eq (bigSep_W2 _)) $$ H
    icases H' with ⟨⟨%g0, %h0, H0⟩, ⟨%g1, %h1, H1⟩, ⟨%g2, %h2, H2⟩, ⟨%g3, %h3, H3⟩, ⟨%g4, %h4, H4⟩, ⟨%g5, %h5, H5⟩, ⟨%g6, %h6, H6⟩, ⟨%g7, %h7, H7⟩⟩
    have q0 : g0 = V c main_arg0 := by have h := h0; rw [RDat.ArrAt_in _ 0 rfl] at h; exact h
    subst q0
    have q1 : g1 = V c main_arg1 := by have h := h1; rw [RDat.ArrAt_in _ 1 rfl] at h; exact h
    subst q1
    have q2 : g2 = V c main_arg2 := by have h := h2; rw [RDat.ArrAt_in _ 2 rfl] at h; exact h
    subst q2
    have q3 : g3 = V c main_v5_0 := by have h := h3; rw [RDat.ArrAt_in _ 3 rfl] at h; exact h
    subst q3
    have q4 : g4 = V c main_v5_1 := by have h := h4; rw [RDat.ArrAt_in _ 4 rfl] at h; exact h
    subst q4
    have q5 : g5 = V c main_v5_2 := by have h := h5; rw [RDat.ArrAt_in _ 5 rfl] at h; exact h
    subst q5
    have q6 : g6 = V c main_v3 := by have h := h6; rw [RDat.ArrAt_in _ 6 rfl] at h; exact h
    subst q6
    obtain ⟨X, hX, hg⟩ := RDat.ArrAt.emb_eq_of_wholeAt h7 (t₀ := last2) whole_last2
    have hA : X = lossOf (xsOf c (V c)) (gsOf c (V c)) (V c main_v3) := by obtain ⟨Y, -, h⟩ := hX; exact h
    have q7 : g7 = lossOf (xsOf c (V c)) (gsOf c (V c)) (V c main_v3) := (funext fun j => hg j : g7 = X).trans hA
    subst q7
    imodintro
    isplitr [HO]
    · iapply (Entails.of_eq (Pipeline.unscopedBufs_split cfgs 1 launch2.win.arr_unscoped launch2.win.arr_inj c (setV c (V c) main_v6 (lossOf (xsOf c (V c)) (gsOf c (V c)) (V c main_v3)))).symm)
      isplitr [HZ]
      · iapply (Entails.of_eq (bigSep_W2 _).symm)
        isplitl [H0]; · iapply (Entails.of_eq (congrArg (fun f => iprop(((c : Thread nD τ).loc main_arg0) ↦{fullShare} f)) (setV_ne c (V c) main_v6 (lossOf (xsOf c (V c)) (gsOf c (V c)) (V c main_v3)) (b' := main_arg0) (by decide)).symm)); iexact H0
        isplitl [H1]; · iapply (Entails.of_eq (congrArg (fun f => iprop(((c : Thread nD τ).loc main_arg1) ↦{fullShare} f)) (setV_ne c (V c) main_v6 (lossOf (xsOf c (V c)) (gsOf c (V c)) (V c main_v3)) (b' := main_arg1) (by decide)).symm)); iexact H1
        isplitl [H2]; · iapply (Entails.of_eq (congrArg (fun f => iprop(((c : Thread nD τ).loc main_arg2) ↦{fullShare} f)) (setV_ne c (V c) main_v6 (lossOf (xsOf c (V c)) (gsOf c (V c)) (V c main_v3)) (b' := main_arg2) (by decide)).symm)); iexact H2
        isplitl [H3]; · iapply (Entails.of_eq (congrArg (fun f => iprop(((c : Thread nD τ).loc main_v5_0) ↦{fullShare} f)) (setV_ne c (V c) main_v6 (lossOf (xsOf c (V c)) (gsOf c (V c)) (V c main_v3)) (b' := main_v5_0) (by decide)).symm)); iexact H3
        isplitl [H4]; · iapply (Entails.of_eq (congrArg (fun f => iprop(((c : Thread nD τ).loc main_v5_1) ↦{fullShare} f)) (setV_ne c (V c) main_v6 (lossOf (xsOf c (V c)) (gsOf c (V c)) (V c main_v3)) (b' := main_v5_1) (by decide)).symm)); iexact H4
        isplitl [H5]; · iapply (Entails.of_eq (congrArg (fun f => iprop(((c : Thread nD τ).loc main_v5_2) ↦{fullShare} f)) (setV_ne c (V c) main_v6 (lossOf (xsOf c (V c)) (gsOf c (V c)) (V c main_v3)) (b' := main_v5_2) (by decide)).symm)); iexact H5
        isplitl [H6]; · iapply (Entails.of_eq (congrArg (fun f => iprop(((c : Thread nD τ).loc main_v3) ↦{fullShare} f)) (setV_ne c (V c) main_v6 (lossOf (xsOf c (V c)) (gsOf c (V c)) (V c main_v3)) (b' := main_v3) (by decide)).symm)); iexact H6
        iapply (Entails.of_eq (congrArg (fun f => iprop(((c : Thread nD τ).loc main_v6) ↦{fullShare} f)) (setV_self c (V c) main_v6 (lossOf (xsOf c (V c)) (gsOf c (V c)) (V c main_v3))).symm)); iexact H7
      · iapply (Entails.of_eq (rest2_setV V c (lossOf (xsOf c (V c)) (gsOf c (V c)) (V c main_v3))).symm); iexact HZ
    · iapply (owes_back O R c cfg2 hR); iexact HO

/-! ## What each call is entered from and leaves -/

theorem reg0_pre (c : Dev nD) : (reg0 V O R hR hO).pre c = stateOf O R c (V c) := rfl
theorem reg0_post (c : Dev nD) : (reg0 V O R hR hO).post c
    = iprop(∃ X : Vec F S3x2x1024x128 .f32, ⌜AccRel (xsOf c (V c)) (tbOf c (V c)) 48 X⌝ ∗ stateOf O R c (setV c (V c) main_v3 X)) := rfl
theorem reg2_pre (c : Dev nD) : (reg2 V O R hR hO).pre c = stateOf O R c (V c) := rfl
theorem reg2_post (c : Dev nD) : (reg2 V O R hR hO).post c
    = stateOf O R c (setV c (V c) main_v6 (lossOf (xsOf c (V c)) (gsOf c (V c)) (V c main_v3))) := rfl

end Cert.Proof.Gather

end
-- ==== Proof.Main.lean ====
/-
  The whole program: what the call's handshakes carry, how the operands split among the SparseCores and their tiles and
  come back, @main on the TensorCore, and what every run leaves.
-/
module

public import proofs.«01_k».proof.Proof.Launch
public import proofs.«01_k».proof.Proof.Calls

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ShareLeaves (pointsTo_leaves)

-- the tile's program is never unfolded from here on
attribute [local irreducible] cc1_gather_kernel

variable {F : FTy → Type}
local notation "𝕄" => MT nD τ sig (HIx 1) (Elt F) ℕ UU ℕ

/-! ## The rows split among the tiles -/

/-- Distinct tiles of a SparseCore write distinct rows. -/
theorem oSet_disjoint (c : Fin 2) : ∀ s ∈ (Finset.univ : Finset (Fin 16)), ∀ s' ∈ (Finset.univ : Finset (Fin 16)), s ≠ s' → Disjoint (oSet c s) (oSet c s') := by
  intro s _ s' _ h
  unfold oSet
  split
  · split
    · exact Rect.part_disjoint odiv fun e => h (Fin.ext (Fin.mk.inj e))
    · exact Finset.disjoint_empty_right _
  · exact Finset.disjoint_empty_left _

/-- SparseCore 0's tiles write every row, SparseCore 1's none. -/
theorem cSet_zero : cSet 0 = Finset.univ := by
  rw [Finset.eq_univ_iff_forall]; intro j
  have h : j ∈ (Finset.univ : Finset (Fin 8)).biUnion fun w => (oblk w).set := by rw [Rect.biUnion_part odiv]; exact Finset.mem_univ j
  obtain ⟨w, -, hw⟩ := Finset.mem_biUnion.mp h
  refine Finset.mem_biUnion.mpr ⟨⟨w.val, by omega⟩, Finset.mem_univ _, ?_⟩
  unfold oSet; rw [dif_pos ⟨rfl, w.isLt⟩]; exact hw
theorem cSet_one : cSet 1 = ∅ := by
  rw [Finset.eq_empty_iff_forall_notMem]; intro j hj
  obtain ⟨s, -, hs⟩ := Finset.mem_biUnion.mp hj
  have e : oSet 1 s = ∅ := dif_neg fun h => Nat.one_ne_zero h.1
  rw [e] at hs; exact Finset.notMem_empty _ hs

theorem cSet_disjoint : ∀ c ∈ (Finset.univ : Finset (Fin 2)), ∀ c' ∈ (Finset.univ : Finset (Fin 2)), c ≠ c' → Disjoint (cSet c) (cSet c') := by
  intro c _ c' _ h
  rcases (by omega : c = 1 ∨ c' = 1) with rfl | rfl
  · rw [cSet_one]; exact Finset.disjoint_empty_left _
  · rw [cSet_one]; exact Finset.disjoint_empty_right _
theorem cSet_cover : (Finset.univ : Finset (Fin 2)).biUnion cSet = Finset.univ := by
  rw [Finset.eq_univ_iff_forall]; intro j
  exact Finset.mem_biUnion.mpr ⟨0, Finset.mem_univ _, by rw [cSet_zero]; exact Finset.mem_univ j⟩

/-! ## The operands at each level: the program's, a SparseCore's, a tile's -/

variable (d : Dev nD) (f u x : S100000x128.Idx → Elt F .f32) (ix : S1x1024.Idx → Elt F .i32) (o p q : S1024x128.Idx → Elt F .f32)

/-- The call's operands, whole: the tables and the row of indices read, the results written. -/
def callRes : sProp 𝕄 :=
  iprop((fLoc d ↦{fullShare} f) ∗ (uLoc d ↦{fullShare} u) ∗ (wLoc d ↦{fullShare} x) ∗ (iLoc d ↦{fullShare} ix)
    ∗ (oLoc d ↦{fullShare} o) ∗ (pLoc d ↦{fullShare} p) ∗ (qLoc d ↦{fullShare} q))
/-- SparseCore `c`'s part of them. -/
def coreRes (c : Fin 2) : sProp 𝕄 :=
  iprop((fLoc d ↦{cq c} f) ∗ (uLoc d ↦{cq c} u) ∗ (wLoc d ↦{cq c} x) ∗ (iLoc d ↦{cq c} ix)
    ∗ (oLoc d ↦[cSet c]{fullShare} o) ∗ (pLoc d ↦[cSet c]{fullShare} p) ∗ (qLoc d ↦[cSet c]{fullShare} q))

/-- An array read whole by both SparseCores is their shares of it. -/
theorem core_shares (ℓ : Loc nD τ sig) (g : Buf (Elt F) ℓ) : (ℓ ↦{fullShare} g : sProp 𝕄) = bigSep Finset.univ fun c : Fin 2 => ℓ ↦{cq c} g :=
  pointsTo_leaves Finset.univ g 1 fullShare
/-- A SparseCore's share of an array is its tiles' shares of it. -/
theorem tile_shares (c : Fin 2) (ℓ : Loc nD τ sig) (g : Buf (Elt F) ℓ) : (ℓ ↦{cq c} g : sProp 𝕄) = bigSep Finset.univ fun s : Fin 16 => ℓ ↦{tq c s} g :=
  pointsTo_leaves Finset.univ g 4 (cq c)

/-- The operands are the SparseCores' parts of them. -/
theorem callRes_split : (callRes d f u x ix o p q : sProp 𝕄) = bigSep Finset.univ fun c : Fin 2 => coreRes d f u x ix o p q c := by
  unfold callRes coreRes
  simp only [bigSep_sep']
  rw [← core_shares (fLoc d) f, ← core_shares (uLoc d) u, ← core_shares (wLoc d) x, ← core_shares (iLoc d) ix,
    ← pointsTo_biUnion (ℓ := oLoc d) Finset.univ cSet cSet_disjoint, ← pointsTo_biUnion (ℓ := pLoc d) Finset.univ cSet cSet_disjoint,
    ← pointsTo_biUnion (ℓ := qLoc d) Finset.univ cSet cSet_disjoint, cSet_cover]
/-- A SparseCore's part is its tiles' parts of it. -/
theorem coreRes_split (c : Fin 2) : (coreRes d f u x ix o p q c : sProp 𝕄) = bigSep Finset.univ fun s : Fin 16 => tileRes d f u x ix c s o p q := by
  unfold coreRes tileRes cSet
  simp only [bigSep_sep']
  rw [← tile_shares c (fLoc d) f, ← tile_shares c (uLoc d) u, ← tile_shares c (wLoc d) x, ← tile_shares c (iLoc d) ix,
    ← pointsTo_biUnion (ℓ := oLoc d) Finset.univ (oSet c) (oSet_disjoint c), ← pointsTo_biUnion (ℓ := pLoc d) Finset.univ (oSet c) (oSet_disjoint c),
    ← pointsTo_biUnion (ℓ := qLoc d) Finset.univ (oSet c) (oSet_disjoint c)]

instance coreRes_storable (c : Fin 2) : BI.Storable (upEmb : UEmb _ 𝕄) (coreRes d f u x ix o p q c) := by unfold coreRes; infer_instance
instance tileRes_storable (c : Fin 2) (s : Fin 16) : BI.Storable (upEmb : UEmb _ 𝕄) (tileRes d f u x ix c s o p q) := by unfold tileRes; infer_instance

/-! ## What the handshakes carry -/

variable (m : (ℓ : Loc nD τ sig) → Buf (Elt F) ℓ) (ρ : Dev nD → PrngReg)

abbrev jLoc (d : Dev nD) : Loc nD τ sig := (SparseCore.T d).loc main_arg3

/-- The row of indices that the program makes of its list of them. -/
def iv (t : S1024.Idx → Elt F .i32) : S1x1024.Idx → Elt F .i32 := shapeCast S1x1024 t shapeCasts_S1024_S1x1024

/-- A SparseCore's part of the operands at the call, and its part of them after it: the results at the gathered rows. -/
abbrev stRes (d : Dev nD) (c : Fin 2) : sProp 𝕄 :=
  coreRes d (m (fLoc d)) (m (uLoc d)) (m (wLoc d)) (iv (m (jLoc d))) (m (oLoc d)) (m (pLoc d)) (m (qLoc d)) c
abbrev dnRes (d : Dev nD) (c : Fin 2) : sProp 𝕄 :=
  coreRes d (m (fLoc d)) (m (uLoc d)) (m (wLoc d)) (iv (m (jLoc d)))
    (rows (m (fLoc d)) (iv (m (jLoc d)))) (rows (m (uLoc d)) (iv (m (jLoc d)))) (rows (m (wLoc d)) (iv (m (jLoc d)))) c
/-- A tile's. -/
abbrev goRes (d : Dev nD) (c : Fin 2) (s : Fin 16) : sProp 𝕄 :=
  tileRes d (m (fLoc d)) (m (uLoc d)) (m (wLoc d)) (iv (m (jLoc d))) c s (m (oLoc d)) (m (pLoc d)) (m (qLoc d))
abbrev tdRes (d : Dev nD) (c : Fin 2) (s : Fin 16) : sProp 𝕄 :=
  tileRes d (m (fLoc d)) (m (uLoc d)) (m (wLoc d)) (iv (m (jLoc d))) c s
    (rows (m (fLoc d)) (iv (m (jLoc d)))) (rows (m (uLoc d)) (iv (m (jLoc d)))) (rows (m (wLoc d)) (iv (m (jLoc d))))

theorem nCore_zero : (K (F := F)).nCore 0 = 2 := rfl
theorem nSub_zero : (K (F := F)).nSub 0 = 16 := rfl

/-- Each SparseCore is handed its part of the operands and each tile its part of those; they come back with the results at
    the gathered rows. -/
def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with | 0 => (inferInstance : BI.Storable (upEmb : UEmb _ 𝕄) (stRes m d (Fin.cast nCore_zero c)))
  dn q d c := match q with | 0 => (inferInstance : BI.Storable (upEmb : UEmb _ 𝕄) (dnRes m d (Fin.cast nCore_zero c)))
  go q d c i := match q with | 0 => (inferInstance : BI.Storable (upEmb : UEmb _ 𝕄) (goRes m d (Fin.cast nCore_zero c) (Fin.cast nSub_zero i)))
  td q d c i := match q with | 0 => (inferInstance : BI.Storable (upEmb : UEmb _ 𝕄) (tdRes m d (Fin.cast nCore_zero c) (Fin.cast nSub_zero i)))

/-- What the proof asks of the launch memory: every index names a row of the tables. -/
def PreOK : Prop := ∀ (d : Dev nD) (j : S1024.Idx), (m (jLoc d) j).toNat < 100000

theorem iv_lt (hpre : PreOK m) (d : Dev nD) (j : S1x1024.Idx) : (iv (m (jLoc d)) j).toNat < 100000 := hpre d _

variable [FloatOps F]

/-! ## The obligation of a tile, and the split of a SparseCore's part -/

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ⟨⟩)) _
  refine BIBase.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact @tile_body F _ d (m (fLoc d)) (m (uLoc d)) (m (wLoc d)) (iv (m (jLoc d))) hF (coordsV ⟨_, hci.1⟩ ⟨_, hci.2⟩)
    (Fin.cast nCore_zero c) (Fin.cast nSub_zero i) rfl (m (oLoc d)) (m (pLoc d)) (m (qLoc d)) (iv_lt m hpre d) O W hO

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)
omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stRes m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ dnRes m d (Fin.cast nCore_zero c)))
  rw [bigSep_tasks (F := F) (fun i => goRes m d (Fin.cast nCore_zero c) i), bigSep_tasks (F := F) (fun i => tdRes m d (Fin.cast nCore_zero c) i),
    ← coreRes_split, ← coreRes_split]
  iintro H; imodintro
  isplitl [H]; · iexact H
  iintro H; iexact H

/-! ## The launch element of the certificate's ghost state -/

def u₀ : UU := (initOf (K (F := F)).hsCells (K (F := F)).hsToks,
  (initOf (Pipeline.cells cfgs cellOf_inj) (Pipeline.launchToks cfgs cellOf_inj), 1))

/-- What the two TensorCore calls are given of it. -/
abbrev G (d : Dev nD) : sProp 𝕄 :=
  iprop((bigSep Finset.univ fun p : Fin 2 => Pipeline.cellsGhost cfgs EP p d) ∗ bigSep Finset.univ fun p : Fin 2 => Pipeline.toksInit cfgs EP p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (Pipeline.cells cfgs cellOf_inj) (Pipeline.launchToks cfgs cellOf_inj), 1) : UP × Counters)) $$ Hu
  icases H with ⟨HH, HR⟩
  ihave H := (own_pair_emb (embR (A := UH)) (initOf (Pipeline.cells cfgs cellOf_inj) (Pipeline.launchToks cfgs cellOf_inj)) (1 : Counters)) $$ HR
  icases H with ⟨HP, -⟩
  ihave HP := (Entails.of_eq (show BI.own (((Emb.inl : Emb UP (UP × Counters)).trans (embR (A := UH))) (initOf (Pipeline.cells cfgs cellOf_inj) (Pipeline.launchToks cfgs cellOf_inj)))
    = BI.own ((EP (F := F)) (initOf (Pipeline.cells cfgs cellOf_inj) (Pipeline.launchToks cfgs cellOf_inj))) from rfl)) $$ HP
  imod (Pipeline.fund_ghost cfgs (EP (F := F)) cellOf_inj) $$ HP with ⟨Hg, Ht⟩
  imodintro
  isplitl [HH]; · iexact HH
  isplitl [Hg Ht]
  · iapply (Entails.of_eq (bigSep_sep' _ _ _).symm)
    isplitl [Hg] <;> iassumption
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The arrays that the TensorCore holds -/

/-- Its arrays. -/
abbrev ucRefs : Finset (DevRef τ sig) := (StableHlo.tcRefs τ sig).filter fun b => ¬ b.isScoped

/-- A valuation's arrays. -/
abbrev valsOf (d : Dev nD) (W : Valuation τ sig (Elt F)) : Vals F d := fun b => W (Proc.devRef .tc b)

theorem unscoped_held (d : Dev nD) (W : Valuation τ sig (Elt F)) :
    (unscopedBufs d (valsOf d W) : sProp 𝕄) = held (T d) ucRefs W := by
  unfold unscopedBufs StableHlo.held ucRefs StableHlo.tcRefs
  rw [Finset.filter_map, BI.bigSep_map]
  rfl

/-- A valuation with one array replaced. -/
abbrev putW (W : Valuation τ sig (Elt F)) (b : Ref sig .tc) (x : b.ty.Contents (Elt F)) : Valuation τ sig (Elt F) :=
  Function.update W (Proc.devRef .tc b) x

theorem putW_self (W : Valuation τ sig (Elt F)) (b : Ref sig .tc) (x : b.ty.Contents (Elt F)) : putW W b x (Proc.devRef .tc b) = x :=
  Function.update_self ..
theorem putW_ne (W : Valuation τ sig (Elt F)) (b : Ref sig .tc) (x : b.ty.Contents (Elt F)) {b' : Ref sig .tc} (h : b' ≠ b) :
    putW W b x (Proc.devRef .tc b') = W (Proc.devRef .tc b') :=
  Function.update_of_ne (StableHlo.devRef_ne_of_ne h) ..

theorem setV_valsOf (d : Dev nD) (W : Valuation τ sig (Elt F)) (b : Ref sig .tc) (x : b.ty.Contents (Elt F)) :
    setV d (valsOf d W) b x = valsOf d (putW W b x) := by
  funext b'
  by_cases h : b' = b
  · subst h; rw [setV_self]; exact (putW_self W b' x).symm
  · rw [setV_ne _ _ _ _ h]; exact (putW_ne W b x h).symm

omit [FloatOps F] in
theorem regroup (A B C : sProp 𝕄) : iprop((A ∗ B) ∗ C) = iprop(A ∗ B ∗ C) := by
  have h1 : iprop((A ∗ B) ∗ C) ⊢ iprop(A ∗ B ∗ C) := by
    iintro ⟨⟨HA, HB⟩, HC⟩
    isplitl [HA]; · iexact HA
    isplitl [HB] <;> iassumption
  have h2 : iprop(A ∗ B ∗ C) ⊢ iprop((A ∗ B) ∗ C) := by
    iintro ⟨HA, HB, HC⟩
    isplitr [HC]
    · isplitl [HA] <;> iassumption
    · iexact HC
  exact BI.equiv_iff.mp ⟨h1, h2⟩

/-- The arrays listed, those of the gather first. -/
theorem held_list (d : Dev nD) (W : Valuation τ sig (Elt F)) :
    (held (T d) ucRefs W : sProp 𝕄) = iprop(callRes d (valsOf d W main_arg4) (valsOf d W main_arg5) (valsOf d W main_arg6) (valsOf d W main_v4)
        (valsOf d W main_v5_0) (valsOf d W main_v5_1) (valsOf d W main_v5_2)
      ∗ (((SparseCore.T d).loc main_arg0) ↦{fullShare} valsOf d W main_arg0) ∗ (((SparseCore.T d).loc main_arg1) ↦{fullShare} valsOf d W main_arg1)
      ∗ (((SparseCore.T d).loc main_arg2) ↦{fullShare} valsOf d W main_arg2) ∗ (((SparseCore.T d).loc main_arg3) ↦{fullShare} valsOf d W main_arg3)
      ∗ (((SparseCore.T d).loc main_v0) ↦{fullShare} valsOf d W main_v0) ∗ (((SparseCore.T d).loc main_v1) ↦{fullShare} valsOf d W main_v1)
      ∗ (((SparseCore.T d).loc main_v2) ↦{fullShare} valsOf d W main_v2) ∗ (((SparseCore.T d).loc main_v3) ↦{fullShare} valsOf d W main_v3)
      ∗ (((SparseCore.T d).loc main_v6) ↦{fullShare} valsOf d W main_v6) ∗ (((SparseCore.T d).loc main_v7) ↦{fullShare} valsOf d W main_v7)) := by
  rw [← unscoped_held]
  unfold unscopedBufs callRes
  rw [show (Finset.univ.filter fun b : Ref sig .tc => ¬ b.isScoped) = {main_arg4, main_arg5, main_arg6, main_v4, main_v5_0, main_v5_1, main_v5_2,
      main_arg0, main_arg1, main_arg2, main_arg3, main_v0, main_v1, main_v2, main_v3, main_v6, main_v7} by decide]
  iterate 16 rw [SparseCore.bigSep_insert' (by decide)]
  rw [bigSep_singleton]
  simp only [regroup]

/-! ## @main on the TensorCore -/

/-- The host's operations: a table cast, and the two reshapes. -/
abbrev cast16 (t : Vec F S100000x128 .f32) : Vec F S100000x128 .bf16 := truncf .bf16 t bitsLt_bf16_f32
abbrev op0 : HloOp τ sig (Elt F) := StableHlo.unary main_arg4 main_v0 (cast16 : (⟨S100000x128, .f32⟩ : BufTy).Contents (Elt F) → (⟨S100000x128, .bf16⟩ : BufTy).Contents (Elt F))
abbrev op1 : HloOp τ sig (Elt F) := StableHlo.unary main_arg5 main_v1 (cast16 : (⟨S100000x128, .f32⟩ : BufTy).Contents (Elt F) → (⟨S100000x128, .bf16⟩ : BufTy).Contents (Elt F))
abbrev op2 : HloOp τ sig (Elt F) := StableHlo.unary main_arg6 main_v2 (cast16 : (⟨S100000x128, .f32⟩ : BufTy).Contents (Elt F) → (⟨S100000x128, .bf16⟩ : BufTy).Contents (Elt F))
abbrev op4 : HloOp τ sig (Elt F) := StableHlo.reshape main_arg3 main_v4 (rfl : (.i32 : EltTy) = .i32) shapeCasts_S1024_S1x1024
abbrev op7 : HloOp τ sig (Elt F) := StableHlo.reshape main_v6 main_v7 (rfl : (.f32 : EltTy) = .f32) shapeCasts_S1x1_S_

theorem op0_in : (op0 (F := F)).bufs ⊆ ucRefs := show ({Proc.devRef .tc main_arg4, Proc.devRef .tc main_v0} : Finset (DevRef τ sig)) ⊆ ucRefs by decide
theorem op1_in : (op1 (F := F)).bufs ⊆ ucRefs := show ({Proc.devRef .tc main_arg5, Proc.devRef .tc main_v1} : Finset (DevRef τ sig)) ⊆ ucRefs by decide
theorem op2_in : (op2 (F := F)).bufs ⊆ ucRefs := show ({Proc.devRef .tc main_arg6, Proc.devRef .tc main_v2} : Finset (DevRef τ sig)) ⊆ ucRefs by decide
theorem op4_in : (op4 (F := F)).bufs ⊆ ucRefs := show ({Proc.devRef .tc main_arg3, Proc.devRef .tc main_v4} : Finset (DevRef τ sig)) ⊆ ucRefs by decide
theorem op7_in : (op7 (F := F)).bufs ⊆ ucRefs := show ({Proc.devRef .tc main_v6, Proc.devRef .tc main_v7} : Finset (DevRef τ sig)) ⊆ ucRefs by decide

/-! ## The arrays as @main goes along -/

/-- The arrays at launch; -/
def W0 (d : Dev nD) : Valuation τ sig (Elt F) := fun b => m (d, b)
/-- with the tables cast; -/
def W1 (d : Dev nD) : Valuation τ sig (Elt F) := op2.result (op1.result (op0.result (W0 m d)))
/-- with the accumulator, and the row of indices made; -/
def W2 (d : Dev nD) (X : Vec F S3x2x1024x128 .f32) : Valuation τ sig (Elt F) := op4.result (putW (W1 m d) main_v3 X)
/-- with the rows gathered; -/
def W3 (d : Dev nD) (X : Vec F S3x2x1024x128 .f32) : Valuation τ sig (Elt F) :=
  putW (putW (putW (W2 m d X) main_v5_0 (rows (m (fLoc d)) (iv (m (jLoc d))))) main_v5_1 (rows (m (uLoc d)) (iv (m (jLoc d)))))
    main_v5_2 (rows (m (wLoc d)) (iv (m (jLoc d))))
/-- the batches, the cast tables and the gathered rows in terms of the launch memory; -/
abbrev xs0 (d : Dev nD) : Fin 3 → Vec F S1024x128 .f32 :=
  pick3 (m ((SparseCore.T d).loc main_arg0)) (m ((SparseCore.T d).loc main_arg1)) (m ((SparseCore.T d).loc main_arg2))
abbrev tb0 (d : Dev nD) : Fin 3 → Vec F S100000x128 .bf16 := fun p => match p with
  | 0 => cast16 (m (fLoc d))
  | 1 => cast16 (m (uLoc d))
  | 2 => cast16 (m (wLoc d))
abbrev gs0 (d : Dev nD) : Fin 3 → Vec F S1024x128 .f32 :=
  pick3 (rows (m (fLoc d)) (iv (m (jLoc d)))) (rows (m (uLoc d)) (iv (m (jLoc d)))) (rows (m (wLoc d)) (iv (m (jLoc d))))
/-- with the loss in its cell; -/
def W4 (d : Dev nD) (X : Vec F S3x2x1024x128 .f32) : Valuation τ sig (Elt F) := putW (W3 m d X) main_v6 (lossOf (xs0 m d) (gs0 m d) X)
/-- at the end. -/
def W5 (d : Dev nD) (X : Vec F S3x2x1024x128 .f32) : Valuation τ sig (Elt F) := op7.result (W4 m d X)

theorem W1_ne (d : Dev nD) {b : Ref sig .tc} (h0 : b ≠ main_v0) (h1 : b ≠ main_v1) (h2 : b ≠ main_v2) :
    W1 m d (Proc.devRef .tc b) = m ((SparseCore.T d).loc b) := by
  unfold W1
  rw [StableHlo.unary_result_ne _ _ _ _ _ _ h2, StableHlo.unary_result_ne _ _ _ _ _ _ h1, StableHlo.unary_result_ne _ _ _ _ _ _ h0]
  rfl
theorem W1_v0 (d : Dev nD) : W1 m d (Proc.devRef .tc main_v0) = cast16 (m (fLoc d)) := by
  unfold W1
  rw [StableHlo.unary_result_ne _ _ _ _ _ _ (by decide), StableHlo.unary_result_ne _ _ _ _ _ _ (by decide)]
  exact StableHlo.unary_result main_arg4 main_v0 _ _ _ (W0 m d)
theorem W1_v1 (d : Dev nD) : W1 m d (Proc.devRef .tc main_v1) = cast16 (m (uLoc d)) := by
  unfold W1
  rw [StableHlo.unary_result_ne _ _ _ _ _ _ (by decide)]
  refine (StableHlo.unary_result main_arg5 main_v1 _ _ _ _).trans ?_
  rw [StableHlo.unary_result_ne _ _ _ _ _ _ (by decide)]
  rfl
theorem W1_v2 (d : Dev nD) : W1 m d (Proc.devRef .tc main_v2) = cast16 (m (wLoc d)) := by
  unfold W1
  refine (StableHlo.unary_result main_arg6 main_v2 _ _ _ _).trans ?_
  rw [StableHlo.unary_result_ne _ _ _ _ _ _ (by decide), StableHlo.unary_result_ne _ _ _ _ _ _ (by decide)]
  rfl

theorem W2_ne (d : Dev nD) (X : Vec F S3x2x1024x128 .f32) {b : Ref sig .tc} (h3 : b ≠ main_v3) (h4 : b ≠ main_v4) (h0 : b ≠ main_v0) (h1 : b ≠ main_v1) (h2 : b ≠ main_v2) :
    W2 m d X (Proc.devRef .tc b) = m ((SparseCore.T d).loc b) := by
  unfold W2
  rw [StableHlo.reshape_result_ne _ _ _ _ _ _ _ h4, putW_ne _ _ _ h3, W1_ne m d h0 h1 h2]
theorem W2_v3 (d : Dev nD) (X : Vec F S3x2x1024x128 .f32) : W2 m d X (Proc.devRef .tc main_v3) = X := by
  unfold W2
  rw [StableHlo.reshape_result_ne _ _ _ _ _ _ _ (by decide), putW_self]
theorem W2_v4 (d : Dev nD) (X : Vec F S3x2x1024x128 .f32) : W2 m d X (Proc.devRef .tc main_v4) = iv (m (jLoc d)) := by
  unfold W2
  refine (StableHlo.reshape_result main_arg3 main_v4 _ _ _ _ _).trans ?_
  rw [putW_ne _ _ _ (by decide), W1_ne m d (by decide) (by decide) (by decide)]
  rfl

theorem W3_ne (d : Dev nD) (X : Vec F S3x2x1024x128 .f32) {b : Ref sig .tc} (h0 : b ≠ main_v5_0) (h1 : b ≠ main_v5_1) (h2 : b ≠ main_v5_2) :
    W3 m d X (Proc.devRef .tc b) = W2 m d X (Proc.devRef .tc b) := by
  unfold W3
  rw [putW_ne _ _ _ h2, putW_ne _ _ _ h1, putW_ne _ _ _ h0]
theorem W3_g (d : Dev nD) (X : Vec F S3x2x1024x128 .f32) : gsOf d (valsOf d (W3 m d X)) = gs0 m d := by
  funext p
  match p with
  | 0 =>
    show W3 m d X (Proc.devRef .tc main_v5_0) = _
    unfold W3; rw [putW_ne _ _ _ (by decide), putW_ne _ _ _ (by decide), putW_self]
  | 1 =>
    show W3 m d X (Proc.devRef .tc main_v5_1) = _
    unfold W3; rw [putW_ne _ _ _ (by decide), putW_self]
  | 2 =>
    show W3 m d X (Proc.devRef .tc main_v5_2) = _
    unfold W3; rw [putW_self]

theorem xs_W1 (d : Dev nD) : xsOf d (valsOf d (W1 m d)) = xs0 m d := by
  unfold xsOf valsOf
  rw [W1_ne m d (by decide) (by decide) (by decide), W1_ne m d (by decide) (by decide) (by decide), W1_ne m d (by decide) (by decide) (by decide)]
theorem tb_W1 (d : Dev nD) : tbOf d (valsOf d (W1 m d)) = tb0 m d := by
  funext p
  match p with
  | 0 => exact W1_v0 m d
  | 1 => exact W1_v1 m d
  | 2 => exact W1_v2 m d
theorem W3_arg (d : Dev nD) (X : Vec F S3x2x1024x128 .f32) {b : Ref sig .tc} (h : b ∈ [main_arg0, main_arg1, main_arg2, main_arg3, main_arg4, main_arg5, main_arg6]) :
    W3 m d X (Proc.devRef .tc b) = m ((SparseCore.T d).loc b) := by
  have hne : ∀ y ∈ [main_v0, main_v1, main_v2, main_v3, main_v4, main_v5_0, main_v5_1, main_v5_2], b ≠ y := by
    revert h; revert b; decide
  rw [W3_ne m d X (hne _ (by decide)) (hne _ (by decide)) (hne _ (by decide)),
    W2_ne m d X (hne _ (by decide)) (hne _ (by decide)) (hne _ (by decide)) (hne _ (by decide)) (hne _ (by decide))]
theorem xs_W3 (d : Dev nD) (X : Vec F S3x2x1024x128 .f32) : xsOf d (valsOf d (W3 m d X)) = xs0 m d := by
  unfold xsOf valsOf
  rw [W3_arg m d X (by decide), W3_arg m d X (by decide), W3_arg m d X (by decide)]

theorem W5_arg (d : Dev nD) (X : Vec F S3x2x1024x128 .f32) {b : Ref sig .tc} (h : b ∈ [main_arg0, main_arg1, main_arg2, main_arg3, main_arg4, main_arg5, main_arg6]) :
    W5 m d X (Proc.devRef .tc b) = m ((SparseCore.T d).loc b) := by
  have hne : ∀ y ∈ [main_v6, main_v7], b ≠ y := by revert h; revert b; decide
  unfold W5 W4
  rw [StableHlo.reshape_result_ne _ _ _ _ _ _ _ (hne _ (by decide)), putW_ne _ _ _ (hne _ (by decide)), W3_arg m d X h]
/-- The loss, in the shape of the result. -/
def outOf (d : Dev nD) (X : Vec F S3x2x1024x128 .f32) : Vec F S_ .f32 := shapeCast S_ (lossOf (xs0 m d) (gs0 m d) X) shapeCasts_S1x1_S_
theorem W5_v7 (d : Dev nD) (X : Vec F S3x2x1024x128 .f32) : W5 m d X (Proc.devRef .tc main_v7) = outOf m d X := by
  unfold W5 W4
  refine (StableHlo.reshape_result main_v6 main_v7 _ _ _ _ _).trans ?_
  rw [putW_self]
  rfl

/-- The gather's operands out of the arrays, and its results back into them. -/
theorem gather_in (d : Dev nD) (X : Vec F S3x2x1024x128 .f32) : (held (T d) ucRefs (W2 m d X) : sProp 𝕄)
    ⊢ iprop(callRes d (m (fLoc d)) (m (uLoc d)) (m (wLoc d)) (iv (m (jLoc d))) (m (oLoc d)) (m (pLoc d)) (m (qLoc d))
      ∗ (callRes d (m (fLoc d)) (m (uLoc d)) (m (wLoc d)) (iv (m (jLoc d)))
          (rows (m (fLoc d)) (iv (m (jLoc d)))) (rows (m (uLoc d)) (iv (m (jLoc d)))) (rows (m (wLoc d)) (iv (m (jLoc d)))) -∗ held (T d) ucRefs (W3 m d X))) := by
  rw [held_list, held_list]
  unfold valsOf
  have e : ∀ b, (b = main_arg0 ∨ b = main_arg1 ∨ b = main_arg2 ∨ b = main_arg3 ∨ b = main_arg4 ∨ b = main_arg5 ∨ b = main_arg6 ∨ b = main_v0 ∨ b = main_v1 ∨ b = main_v2
      ∨ b = main_v3 ∨ b = main_v4 ∨ b = main_v6 ∨ b = main_v7) → W3 m d X (Proc.devRef .tc b) = W2 m d X (Proc.devRef .tc b) := fun b hb =>
    W3_ne m d X (by revert hb; revert b; decide) (by revert hb; revert b; decide) (by revert hb; revert b; decide)
  have g0 : W3 m d X (Proc.devRef .tc main_v5_0) = rows (m (fLoc d)) (iv (m (jLoc d))) := congrFun (W3_g m d X) 0
  have g1 : W3 m d X (Proc.devRef .tc main_v5_1) = rows (m (uLoc d)) (iv (m (jLoc d))) := congrFun (W3_g m d X) 1
  have g2 : W3 m d X (Proc.devRef .tc main_v5_2) = rows (m (wLoc d)) (iv (m (jLoc d))) := congrFun (W3_g m d X) 2
  rw [g0, g1, g2, e main_arg0 (by simp), e main_arg1 (by simp), e main_arg2 (by simp), e main_arg3 (by simp), e main_arg4 (by simp), e main_arg5 (by simp), e main_arg6 (by simp),
    e main_v0 (by simp), e main_v1 (by simp), e main_v2 (by simp), e main_v3 (by simp), e main_v4 (by simp), e main_v6 (by simp), e main_v7 (by simp)]
  rw [W2_v4, W2_ne m d X (b := main_arg4) (by decide) (by decide) (by decide) (by decide) (by decide),
    W2_ne m d X (b := main_arg5) (by decide) (by decide) (by decide) (by decide) (by decide),
    W2_ne m d X (b := main_arg6) (by decide) (by decide) (by decide) (by decide) (by decide),
    W2_ne m d X (b := main_v5_0) (by decide) (by decide) (by decide) (by decide) (by decide),
    W2_ne m d X (b := main_v5_1) (by decide) (by decide) (by decide) (by decide) (by decide),
    W2_ne m d X (b := main_v5_2) (by decide) (by decide) (by decide) (by decide) (by decide)]
  iintro ⟨Hc, Hr⟩
  isplitl [Hc]; · iexact Hc
  iintro Hc
  isplitl [Hc] <;> iassumption

theorem st0_eq (d : Dev nD) : (bigSep Finset.univ fun c : Fin ((K (F := F)).nCore 0) => (P m).st 0 d c)
    = callRes d (m (fLoc d)) (m (uLoc d)) (m (wLoc d)) (iv (m (jLoc d))) (m (oLoc d)) (m (pLoc d)) (m (qLoc d)) :=
  (bigSep_cores (stRes m d)).trans (callRes_split ..).symm
theorem dn0_eq (d : Dev nD) : (bigSep Finset.univ fun c : Fin ((K (F := F)).nCore 0) => (P m).dn 0 d c)
    = callRes d (m (fLoc d)) (m (uLoc d)) (m (wLoc d)) (iv (m (jLoc d)))
      (rows (m (fLoc d)) (iv (m (jLoc d)))) (rows (m (uLoc d)) (iv (m (jLoc d)))) (rows (m (wLoc d)) (iv (m (jLoc d)))) :=
  (bigSep_cores (dnRes m d)).trans (callRes_split ..).symm

/-! ## What the core owes -/

/-- The waits the TensorCore may have on record before call `n`. -/
abbrev recs (n : ℕ) (d : Dev nD) : Set (SemLoc sig × HIx 1) := {p | (K (F := F)).lev (SparseCore.T d, p.1) p.2 ≤ 8 * n}
omit [FloatOps F] in
theorem recs_records (n : ℕ) : Records (recs (F := F) n) := fun _ _ => Nat.zero_le _
omit [FloatOps F] in
theorem owed_none (n : ℕ) (d : Dev nD) (g : GSem nD τ sig) : (K (F := F)).Otc d n g none = 0 := by
  by_contra h
  have := (K (F := F)).lev_of_Otc_pos (Nat.pos_of_ne_zero h)
  simp [SparseCore.Cfg.lev] at this

/-- What @main leaves the claim: the arrays at the end, for an accumulator that the relation admits. -/
abbrev FIN (d : Dev nD) : sProp 𝕄 := iprop(∃ X : Vec F S3x2x1024x128 .f32, ⌜AccRel (xs0 m d) (tb0 m d) 48 X⌝ ∗ held (T d) ucRefs (W5 m d X))

/-- A TensorCore call as a step of @main. -/
theorem call_step (κ : GSem nD τ sig → ℕ) (n : ℕ) (d : Dev nD) (p : Fin 2) (rd : (p : Fin 2) → (c : Dev nD) → Pipeline.RDat τ (Elt F) (HIx 1) ℕ UU ℕ (Pipeline.pin (pcfgs (F := F)) adm p) c)
    (Rg : Pipeline.RDat.RegionSeg (pcfgs (F := F)) adm rd none defs₀ 𝒱₀ (K (F := F)).L (K (F := F)).lev p) (Φ : PUnit → sProp 𝕄) [∀ e, Nonempty (Elt F e)] :
    iprop((K (F := F)).ctx EH (P m) κ ∗ boundary (SparseCore.T d) ∗ Rg.pre d ∗ Pipeline.cellsGhost cfgs EP p d ∗ Pipeline.toksInit cfgs EP p d
        ∗ ((boundary (SparseCore.T d) ∗ Rg.post d) -∗ Φ ⟨⟩))
      ⊢ wp frame (wpE ((K (F := F)).defs (D (F := F))) 𝒱 (SparseCore.T d) none) Set.univ (Prog.lift (.customCall (SparseCore.inner (Pipeline.entry p)) ())) Φ := by
  refine BIBase.Entails.trans ?_ ((K (F := F)).wp_liftProg (D (F := F)) 𝒱 (SparseCore.T d) Set.univ none
    (.op (.customCall (Pipeline.entry p) ()) .ret) Φ)
  iintro ⟨#Hctx, Hb, Hpre, Hg, Ht, Hk⟩
  iapply (Pipeline.RDat.RegionSeg.wp (pcfgs (F := F)) adm rd none cellOf_inj EP defs₀ 𝒱₀ (K (F := F)).L (K (F := F)).lev Rg d none (fun _ h => nomatch h) .ret Φ)
  isplitl [Hk]
  · iintro H
    rw [wp_ret]; imodintro
    iapply Hk; iexact H
  isplitl [Hb]; · iexact Hb
  isplitl [Hpre]; · iexact Hpre
  isplitr; · iapply ((K (F := F)).ctx_levAts (EH := EH) (P := P m) κ); iexact Hctx
  isplitl [Hg] <;> iassumption

/-- The state between two calls, taken apart and put together. -/
theorem tcSt_open (n : ℕ) (d : Dev nD) : ((K (F := F)).tcSt EH d n : sProp 𝕄)
    ⊢ iprop(Pipeline.owesWithin d ((K (F := F)).Otc d n) (recs (F := F) n d) ∗ (Pipeline.owesWithin d ((K (F := F)).Otc d n) (recs (F := F) n d) -∗ (K (F := F)).tcSt EH d n)) := by
  unfold SparseCore.Cfg.tcSt
  iintro ⟨⟨%W, %hW, HO⟩, Hr⟩
  isplitl [HO]
  · iexists W; isplitr
    · ipureintro; exact fun p hp => hW p hp
    · iexact HO
  iintro ⟨%W', %hW', HO⟩
  isplitl [HO]
  · iexists W'; isplitr
    · ipureintro; exact fun p hp => hW' hp
    · iexact HO
  iexact Hr

omit [FloatOps F] in
theorem bigSep_two (Φ : Fin 2 → sProp 𝕄) : (bigSep Finset.univ Φ) = iprop(Φ 0 ∗ Φ 1) := by
  rw [show (Finset.univ : Finset (Fin 2)) = {0, 1} from rfl, SparseCore.bigSep_insert' (by decide), bigSep_singleton]

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [show (unscopedBufs d (fun b => m ((SparseCore.T d).loc b)) : sProp 𝕄) = held (T d) ucRefs (W0 m d) from unscoped_held d (W0 m d)]
  rw [show (bigSep Finset.univ fun p : Fin 2 => (Pipeline.cellsGhost cfgs EP p d : sProp 𝕄)) = iprop(Pipeline.cellsGhost cfgs EP 0 d ∗ Pipeline.cellsGhost cfgs EP 1 d) from bigSep_two _,
    show (bigSep Finset.univ fun p : Fin 2 => (Pipeline.toksInit cfgs EP p d : sProp 𝕄)) = iprop(Pipeline.toksInit cfgs EP 0 d ∗ Pipeline.toksInit cfgs EP 1 d) from bigSep_two _]
  simp only [main, wp_bind, wp_pure]
  iintro ⟨#Hctx, Hst, ⟨Hb, Hheld, Hts, -⟩, ⟨Hg0, Hg1⟩, Ht0, Ht1⟩
  iapply (wp_hlo_within 𝒱 (SparseCore.T d) none Set.univ (op := op0) (S := ucRefs) op0_in (V := W0 m d)) $$ [Hb Hheld]
  · isplitl [Hb] <;> iassumption
  iintro ⟨Hb, Hheld⟩
  rw [wp_ret]; imodintro
  iapply (wp_hlo_within 𝒱 (SparseCore.T d) none Set.univ (op := op1) (S := ucRefs) op1_in (V := op0.result (W0 m d))) $$ [Hb Hheld]
  · isplitl [Hb] <;> iassumption
  iintro ⟨Hb, Hheld⟩
  rw [wp_ret]; imodintro
  iapply (wp_hlo_within 𝒱 (SparseCore.T d) none Set.univ (op := op2) (S := ucRefs) op2_in (V := op1.result (op0.result (W0 m d)))) $$ [Hb Hheld]
  · isplitl [Hb] <;> iassumption
  iintro ⟨Hb, Hheld⟩
  rw [wp_ret]; imodintro
  ihave H := (tcSt_open (F := F) 0 d) $$ Hst
  icases H with ⟨HO, Hst⟩
  ihave Hheld := (Entails.of_eq (show (held (T d) ucRefs (op2.result (op1.result (op0.result (W0 m d)))) : sProp 𝕄) = unscopedBufs d (valsOf d (W1 m d)) from
    (unscoped_held d (W1 m d)).symm)) $$ Hheld
  iapply (call_step m κ 0 d 0 _ (reg0 (fun d => valsOf d (W1 m d)) (fun d => (K (F := F)).Otc d 0) (recs (F := F) 0) (recs_records 0) (owed_none 0)) _)
  rw [reg0_pre, reg0_post]
  isplitr; · iexact Hctx
  isplitl [Hb]; · iexact Hb
  isplitl [Hheld HO]; · isplitl [Hheld] <;> iassumption
  isplitl [Hg0]; · iexact Hg0
  isplitl [Ht0]; · iexact Ht0
  iintro ⟨Hb, %X, %hX, Hheld, HO⟩
  rw [setV_valsOf]
  ihave Hheld := (Entails.of_eq (unscoped_held d (putW (W1 m d) main_v3 X))) $$ Hheld
  ihave Hst := Hst $$ HO
  iapply (wp_hlo_within 𝒱 (SparseCore.T d) none Set.univ (op := op4) (S := ucRefs) op4_in (V := putW (W1 m d) main_v3 X)) $$ [Hb Hheld]
  · isplitl [Hb] <;> iassumption
  iintro ⟨Hb, Hheld⟩
  rw [wp_ret]; imodintro
  ihave H := (show (held (T d) ucRefs (op4.result (putW (W1 m d) main_v3 X)) : sProp 𝕄) ⊢ _ from gather_in m d X) $$ Hheld
  icases H with ⟨Hc, Hback⟩
  iapply ((K (F := F)).wp_run (D (F := F)) 𝒱 (EH := EH) (P := P m) κ d 0) $$ [Hst Hc Hback Hb Hts Hg1 Ht1]
  isplitr; · iexact Hctx
  isplitl [Hst]; · iexact Hst
  isplitl [Hc]; · rw [st0_eq]; iexact Hc
  iintro ⟨Hst, Hdn⟩
  ihave Hdn := (Entails.of_eq (dn0_eq m d)) $$ Hdn
  ihave Hheld := Hback $$ Hdn
  ihave H := (show ((K (F := F)).tcSt EH d ((0 : Fin 1).val + 1) : sProp 𝕄) ⊢ _ from tcSt_open (F := F) 1 d) $$ Hst
  icases H with ⟨HO, Hst⟩
  ihave Hheld := (Entails.of_eq (unscoped_held d (W3 m d X)).symm) $$ Hheld
  iapply (call_step m κ 1 d 1 _ (reg2 (fun d => valsOf d (W3 m d X)) (fun d => (K (F := F)).Otc d 1) (recs (F := F) 1) (recs_records 1) (owed_none 1)) _)
  rw [reg2_pre, reg2_post]
  isplitr; · iexact Hctx
  isplitl [Hb]; · iexact Hb
  isplitl [Hheld HO]; · isplitl [Hheld] <;> iassumption
  isplitl [Hg1]; · iexact Hg1
  isplitl [Ht1]; · iexact Ht1
  iintro ⟨Hb, Hheld, HO⟩
  have e6 : setV d (valsOf d (W3 m d X)) main_v6 (lossOf (xsOf d (valsOf d (W3 m d X))) (gsOf d (valsOf d (W3 m d X))) (valsOf d (W3 m d X) main_v3)) = valsOf d (W4 m d X) := by
    rw [setV_valsOf, xs_W3, W3_g, show valsOf d (W3 m d X) main_v3 = X from (W3_ne m d X (by decide) (by decide) (by decide)).trans (W2_v3 m d X)]; rfl
  ihave Hheld := (Entails.of_eq ((congrArg (fun W => (unscopedBufs d W : sProp 𝕄)) e6).trans (unscoped_held d (W4 m d X)))) $$ Hheld
  ihave Hst := Hst $$ HO
  iapply (wp_hlo_within 𝒱 (SparseCore.T d) none Set.univ (op := op7) (S := ucRefs) op7_in (V := W4 m d X)) $$ [Hb Hheld]
  · isplitl [Hb] <;> iassumption
  iintro ⟨Hb, Hheld⟩
  rw [wp_ret]; imodintro
  imodintro
  isplitl [Hst]; · iexact Hst
  isplitr [Hb Hts]
  · iexists X
    isplitr
    · ipureintro; rw [← xs_W1, ← tb_W1]; exact hX
    · iapply (Entails.of_eq (show (held (T d) ucRefs (op7.result (W4 m d X)) : sProp 𝕄) = held (T d) ucRefs (W5 m d X) from rfl)); iexact Hheld
  isplitl [Hb] <;> iassumption

/-! ## What every run leaves -/

/-- Device `d`'s memory at the end: the loss for an accumulator that the relation admits, the arguments unchanged. -/
def fm (d : Dev nD) (M : (ℓ : Loc nD τ sig) → Buf (Elt F) ℓ) : Prop :=
  (∃ X, AccRel (xs0 m d) (tb0 m d) 48 X ∧ M ((SparseCore.T d).loc main_v7) = outOf m d X)
    ∧ ∀ b ∈ [main_arg0, main_arg1, main_arg2, main_arg3, main_arg4, main_arg5, main_arg6], M ((SparseCore.T d).loc b) = m ((SparseCore.T d).loc b)

/-- Holding an array whole says what the memory holds there, and the state is kept. -/
theorem read_whole (s' : Phys nD τ sig (Elt F)) (ℓ : Loc nD τ sig) (g : Buf (Elt F) ℓ) :
    iprop((ℓ ↦{fullShare} g) ∗ SI s') ⊢ (iprop(⌜s'.mem.mem ℓ = g⌝ ∗ SI s') : sProp 𝕄) := by
  iintro ⟨H, HSI⟩
  ihave H := (persistent_entails_right (SI_pointsTo_agree (st := s') (ℓ := ℓ) (I := Finset.univ) (q := fullShare) (f := g))) $$ [HSI H]
  · isplitl [HSI] <;> iassumption
  icases H with ⟨%h, HSI, -⟩
  isplitr
  · ipureintro; exact funext fun i => h i (Finset.mem_univ i)
  · iexact HSI

/-- Holding the arrays says what the memory holds there. -/
theorem read_held (d : Dev nD) (s' : Phys nD τ sig (Elt F)) (W : Valuation τ sig (Elt F)) :
    iprop(held (T d) ucRefs W ∗ SI s') ⊢ (⌜∀ b ∈ [main_arg0, main_arg1, main_arg2, main_arg3, main_arg4, main_arg5, main_arg6, main_v7],
      s'.mem.mem ((SparseCore.T d).loc b) = W (Proc.devRef .tc b)⌝ : sProp 𝕄) := by
  rw [held_list]
  unfold callRes
  iintro ⟨⟨⟨H4, H5, H6, -, -, -, -⟩, H0, H1, H2, H3, -, -, -, -, -, H7⟩, HSI⟩
  ihave H := (read_whole s' _ _) $$ [H0 HSI]
  · isplitl [H0] <;> iassumption
  icases H with ⟨%h0, HSI⟩
  ihave H := (read_whole s' _ _) $$ [H1 HSI]
  · isplitl [H1] <;> iassumption
  icases H with ⟨%h1, HSI⟩
  ihave H := (read_whole s' _ _) $$ [H2 HSI]
  · isplitl [H2] <;> iassumption
  icases H with ⟨%h2, HSI⟩
  ihave H := (read_whole s' _ _) $$ [H3 HSI]
  · isplitl [H3] <;> iassumption
  icases H with ⟨%h3, HSI⟩
  ihave H := (read_whole s' _ _) $$ [H4 HSI]
  · isplitl [H4] <;> iassumption
  icases H with ⟨%h4, HSI⟩
  ihave H := (read_whole s' _ _) $$ [H5 HSI]
  · isplitl [H5] <;> iassumption
  icases H with ⟨%h5, HSI⟩
  ihave H := (read_whole s' _ _) $$ [H6 HSI]
  · isplitl [H6] <;> iassumption
  icases H with ⟨%h6, HSI⟩
  ihave H := (read_whole s' _ _) $$ [H7 HSI]
  · isplitl [H7] <;> iassumption
  icases H with ⟨%h7, HSI⟩
  ipureintro
  intro b hb
  simp only [List.mem_cons, List.not_mem_nil, or_false] at hb
  rcases hb with rfl | rfl | rfl | rfl | rfl | rfl | rfl | rfl
  · exact h0
  · exact h1
  · exact h2
  · exact h3
  · exact h4
  · exact h5
  · exact h6
  · exact h7

theorem hfin (d : Dev nD) (s' : Phys nD τ sig (Elt F)) : iprop(FIN m d ∗ SI s') ⊢ (⌜fm m d s'.mem.mem⌝ : sProp 𝕄) := by
  iintro ⟨⟨%X, %hX, H⟩, HSI⟩
  ihave H := (read_held d s' (W5 m d X)) $$ [H HSI]
  · isplitl [H] <;> iassumption
  icases H with %h
  ipureintro
  refine ⟨⟨X, hX, (h main_v7 (by simp)).trans (W5_v7 m d X)⟩, fun b hb => (h b ?_).trans (W5_arg m d X hb)⟩
  simp only [List.mem_cons, List.not_mem_nil, or_false] at hb ⊢
  tauto

def QC : PUnit × MemSt nD τ sig (Elt F) → Prop := fun r => (∀ d : Dev nD, fm m d r.2.mem) ∧ r.2.sem = fun _ => 0

/-- Every run ends with the loss for an accumulator that the relation admits, the arguments unchanged and every semaphore at
    zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun d => G (F := F) d) (FIN m) (u₀ (F := F)) (sep_elim_left.trans (hu₀ m)) (hmain m ρ) (fun d s' => fm m d s'.mem.mem) (hfin m) (QC m) (fun _ h hz => ⟨h, hz⟩)

end Cert.Proof.Gather

end
-- ==== Proof.Entropy.lean ====
/-
  The losses of one row over the extended reals: the kernel's sums hold each exponential scaled down by a constant, and
  each of its two cross entropies is the reference's all the same, infinities included.
-/
module

public import Idealize.ShloMosaic.PureOps.Ideal
public import Idealize.ShloMosaic.PureOps.Ideal.Laws
public import Idealize.ShloMosaic.Lib.IdealHost

@[expose] public section

noncomputable section

namespace Cert.Proof.Entropy

open Idealize.ShloMosaic
open scoped BigOperators

/-! ## The constants -/

/-- The bf16 pattern of two. -/
theorem two_bf16 : Ideal.ofBits .bf16 0x4000#16 = ((2 : ℝ) : EReal) := by
  simp [Ideal.ofBits, Ideal.ieee, -EReal.coe_mul]; norm_num

/-- The bf16 pattern of minus ten. -/
theorem neg_ten_bf16 : Ideal.ofBits .bf16 0xC120#16 = ((-10 : ℝ) : EReal) := by
  simp [Ideal.ofBits, Ideal.ieee, -EReal.coe_mul, -EReal.coe_neg]; norm_num

/-- The f32 pattern of two. -/
theorem two_f32 : Ideal.ofBits .f32 0x40000000#32 = ((2 : ℝ) : EReal) := by
  simp [Ideal.ofBits, Ideal.ieee, -EReal.coe_mul]; norm_num

/-- The f32 pattern of twenty. -/
theorem twenty_f32 : Ideal.ofBits .f32 0x41A00000#32 = ((20 : ℝ) : EReal) := by
  simp [Ideal.ofBits, Ideal.ieee, -EReal.coe_mul]; norm_num

/-- The f32 pattern of the tables' height. -/
theorem height_f32 : Ideal.ofBits .f32 0x47C35000#32 = ((100000 : ℝ) : EReal) := by
  simp [Ideal.ofBits, Ideal.ieee, -EReal.coe_mul]; norm_num

/-! ## The exponentials -/

theorem coe_min (a b : ℝ) : ((min a b : ℝ) : EReal) = min (a : EReal) (b : EReal) := EReal.coe_strictMono.monotone.map_min

theorem coe_max (a b : ℝ) : ((max a b : ℝ) : EReal) = max (a : EReal) (b : EReal) := EReal.coe_strictMono.monotone.map_max

/-- The squared distance of two directions of a cosine, held at or above nothing. -/
def arc (s : EReal) : EReal := max (((2 : ℝ) : EReal) - ((2 : ℝ) : EReal) * s) 0

/-- The kernel's two exponentials of a cosine. -/
def small (ch : Fin 2) (s : EReal) : EReal :=
  match ch with
  | 0 => Ideal.exp (((-10 : ℝ) : EReal) * arc s)
  | 1 => Ideal.exp (Ideal.sqrt (arc s) - ((2 : ℝ) : EReal))

/-- The reference's two. -/
def whole (ch : Fin 2) (s : EReal) : EReal :=
  match ch with
  | 0 => Ideal.exp (min s 1 * ((20 : ℝ) : EReal))
  | 1 => Ideal.exp (Ideal.sqrt (((2 : ℝ) : EReal) - ((2 : ℝ) : EReal) * min s 1))

/-- What the kernel's are scaled down by. -/
def scale (ch : Fin 2) : ℝ :=
  match ch with
  | 0 => Real.exp (-20)
  | 1 => Real.exp (-2)

theorem scale_pos (ch : Fin 2) : 0 < scale ch := by
  match ch with
  | 0 => exact Real.exp_pos _
  | 1 => exact Real.exp_pos _

/-- The squared distance is that of the cosine held at or below one. -/
theorem arc_eq (s : EReal) : arc s = ((2 : ℝ) : EReal) - ((2 : ℝ) : EReal) * min s 1 := by
  unfold arc
  induction s with
  | bot => simp [EReal.coe_mul_bot_of_pos, EReal.coe_sub_bot]
  | top =>
    rw [EReal.coe_mul_top_of_pos (by norm_num), min_eq_right le_top, mul_one, EReal.sub_top,
      max_eq_right bot_le, ← EReal.coe_sub, sub_self, EReal.coe_zero]
  | coe r =>
    rw [show (1 : EReal) = ((1 : ℝ) : EReal) from rfl, ← coe_min, ← EReal.coe_mul, ← EReal.coe_mul, ← EReal.coe_sub,
      ← EReal.coe_sub, show (0 : EReal) = ((0 : ℝ) : EReal) from rfl, ← coe_max]
    congr 1
    rcases le_total r 1 with h | h
    · rw [min_eq_left h, max_eq_left (by linarith)]
    · rw [min_eq_right h, max_eq_right (by linarith)]; ring

/-- An exponential's argument lowered by a real scales it down. -/
theorem exp_sub (x : EReal) (c : ℝ) : Ideal.exp (x - (c : EReal)) = ((Real.exp (-c) : ℝ) : EReal) * Ideal.exp x := by
  induction x with
  | bot => rw [EReal.bot_sub]; show (0 : EReal) = _ * 0; rw [mul_zero]
  | top => rw [EReal.top_sub_coe]; exact (EReal.coe_mul_top_of_pos (Real.exp_pos _)).symm
  | coe r =>
    rw [← EReal.coe_sub]
    show ((Real.exp (r - c) : ℝ) : EReal) = ((Real.exp (-c) : ℝ) : EReal) * ((Real.exp r : ℝ) : EReal)
    rw [← EReal.coe_mul, ← Real.exp_add]; congr 2; ring

/-- Minus ten times the squared distance is twenty times the cosine, less twenty. -/
theorem ten_arc (s : EReal) : ((-10 : ℝ) : EReal) * arc s = min s 1 * ((20 : ℝ) : EReal) - ((20 : ℝ) : EReal) := by
  rw [arc_eq]
  induction s with
  | bot =>
    rw [min_eq_left bot_le, EReal.coe_mul_bot_of_pos (by norm_num), EReal.coe_sub_bot, EReal.coe_mul_top_of_neg (by norm_num),
      EReal.bot_mul_coe_of_pos (by norm_num), EReal.bot_sub]
  | top =>
    rw [min_eq_right le_top, mul_one, one_mul, ← EReal.coe_sub, ← EReal.coe_sub, ← EReal.coe_mul]; norm_num
  | coe r =>
    rw [show (1 : EReal) = ((1 : ℝ) : EReal) from rfl, ← coe_min, ← EReal.coe_mul, ← EReal.coe_mul, ← EReal.coe_sub,
      ← EReal.coe_sub, ← EReal.coe_mul]
    congr 1; ring

/-- The kernel's exponentials are the reference's, scaled down. -/
theorem small_eq (ch : Fin 2) (s : EReal) : small ch s = ((scale ch : ℝ) : EReal) * whole ch s := by
  match ch with
  | 0 => show Ideal.exp _ = _; rw [ten_arc, exp_sub]; rfl
  | 1 => show Ideal.exp _ = _; rw [exp_sub, arc_eq]; rfl

theorem exp_nonneg (x : EReal) : 0 ≤ Ideal.exp x := by
  induction x with
  | bot => exact le_refl _
  | top => exact le_top
  | coe r => exact EReal.coe_nonneg.mpr (Real.exp_pos r).le

theorem whole_nonneg (ch : Fin 2) (s : EReal) : 0 ≤ whole ch s := by
  match ch with
  | 0 => exact exp_nonneg _
  | 1 => exact exp_nonneg _

/-- The second exponential is at least one: a squared distance is not negative. -/
theorem whole_pos (s : EReal) : 0 < whole 1 s := by
  show 0 < Ideal.exp (Ideal.sqrt _)
  rw [← arc_eq]
  have h : 0 ≤ arc s := le_max_right _ _
  revert h
  generalize arc s = a
  intro h
  induction a with
  | bot => exact absurd h (by simp)
  | top => exact EReal.zero_lt_top
  | coe r =>
    have hr : ¬ r < 0 := not_lt.mpr (EReal.coe_nonneg.mp h)
    show 0 < Ideal.exp (if r < 0 then ⊥ else ((Real.sqrt r : ℝ) : EReal))
    rw [if_neg hr]
    exact EReal.coe_pos.mpr (Real.exp_pos _)

/-- A factor comes out of a sum of terms that are not negative. -/
theorem mul_sum {ι : Type} (S : Finset ι) (c : EReal) (f : ι → EReal) (hf : ∀ i, 0 ≤ f i) :
    ∑ i ∈ S, c * f i = c * ∑ i ∈ S, f i := by
  classical
  induction S using Finset.induction_on with
  | empty => simp
  | insert a S ha ih =>
    rw [Finset.sum_insert ha, Finset.sum_insert ha, ih, EReal.left_distrib_of_nonneg (hf a) (Finset.sum_nonneg fun i _ => hf i)]

/-- The kernel's sum is the reference's, scaled down. -/
theorem sum_small {N : ℕ} (ch : Fin 2) (s : Fin N → EReal) :
    ∑ j, small ch (s j) = ((scale ch : ℝ) : EReal) * ∑ j, whole ch (s j) := by
  simp only [small_eq]
  exact mul_sum _ _ _ fun j => whole_nonneg ch (s j)

/-! ## The two cross entropies -/

/-- A logarithm of a scaled sum. -/
theorem log_scaled (b : EReal) (hb : 0 ≤ b) : ((20 : ℝ) : EReal) + Ideal.log (((scale 0 : ℝ) : EReal) * b) = Ideal.log b := by
  induction b with
  | bot => exact absurd hb (by simp)
  | top =>
    rw [EReal.coe_mul_top_of_pos (scale_pos 0)]
    exact EReal.coe_add_top 20
  | coe r =>
    have hr : 0 ≤ r := EReal.coe_nonneg.mp hb
    rw [← EReal.coe_mul]
    show ((20 : ℝ) : EReal) + (if scale 0 * r ≤ 0 then ⊥ else ((Real.log (scale 0 * r) : ℝ) : EReal)) = if r ≤ 0 then ⊥ else ((Real.log r : ℝ) : EReal)
    rcases hr.eq_or_lt with rfl | h
    · simp
    · rw [if_neg (not_le.mpr (mul_pos (scale_pos 0) h)), if_neg (not_le.mpr h), Real.log_mul (scale_pos 0).ne' h.ne',
        show Real.log (scale 0) = -20 from Real.log_exp _, ← EReal.coe_add]
      congr 1; ring

/-- The first cross entropy of a row. -/
theorem outer_eq {N : ℕ} (s : Fin N → EReal) (t : EReal) :
    ((20 : ℝ) : EReal) + Ideal.log (∑ j, small 0 (s j)) - ((20 : ℝ) : EReal) * t
      = Ideal.log (∑ j, whole 0 (s j)) - t * ((20 : ℝ) : EReal) := by
  rw [sum_small, log_scaled _ (Finset.sum_nonneg fun j _ => whole_nonneg 0 (s j)), mul_comm t]

/-- A quotient by the reciprocal of a scaled sum. -/
theorem div_scaled (c : ℝ) (hc : 0 < c) (a b : EReal) (hb : 0 < b) :
    ((c : ℝ) : EReal) * a * Ideal.div 1 (((c : ℝ) : EReal) * b) = Ideal.div a b := by
  have hc' : 0 < ((c : ℝ) : EReal) := EReal.coe_pos.mpr hc
  unfold Ideal.div
  rw [if_neg (EReal.mul_pos hc' hb).ne', if_neg hb.ne', one_mul, EReal.mul_inv, mul_assoc, ← mul_assoc a, mul_comm a, mul_assoc, ← mul_assoc,
    ← EReal.coe_inv, ← EReal.coe_mul, mul_inv_cancel₀ hc.ne', EReal.coe_one, one_mul]

/-- One added to each of the quotients of a row. -/
theorem sum_one_add {N : ℕ} (f : Fin N → EReal) (hf : ∀ j, 0 ≤ f j) (b : EReal) (hb : 0 < b) :
    ∑ j, (1 + Ideal.div (f j) b) = ((N : ℝ) : EReal) + Ideal.div (∑ j, f j) b := by
  have h : ∀ a, Ideal.div a b = b⁻¹ * a := fun a => by unfold Ideal.div; rw [if_neg hb.ne', mul_comm]
  simp only [h]
  rw [Finset.sum_add_distrib, mul_sum _ _ _ hf, Finset.sum_const, Finset.card_univ, Fintype.card_fin, nsmul_one]
  rfl

/-- The second cross entropy of a row. -/
theorem inner_eq (s : Fin 100000 → EReal) (t : EReal) :
    Ideal.log (((100000 : ℝ) : EReal) + (∑ j, small 1 (s j)) * Ideal.div 1 (∑ j, small 1 (s j)))
        - small 1 t * Ideal.div 1 (∑ j, small 1 (s j))
      = Ideal.log (∑ j, (1 + Ideal.div (whole 1 (s j)) (∑ k, whole 1 (s k)))) - Ideal.div (whole 1 t) (∑ k, whole 1 (s k)) := by
  have hb : 0 < ∑ k, whole 1 (s k) :=
    lt_of_lt_of_le (whole_pos (s 0)) (Finset.single_le_sum (f := fun k => whole 1 (s k)) (fun k _ => whole_nonneg 1 (s k)) (Finset.mem_univ 0))
  rw [sum_one_add _ (fun j => whole_nonneg 1 (s j)) _ hb, sum_small, small_eq, div_scaled _ (scale_pos 1) _ _ hb,
    div_scaled _ (scale_pos 1) _ _ hb]
  norm_num

/-! ## Sums by blocks -/

/-- A sum over consecutive numbers, by blocks. -/
theorem sum_blocks (f : ℕ → EReal) (a b : ℕ) :
    ∑ j ∈ Finset.range (a * b), f j = ∑ t ∈ Finset.range a, ∑ r ∈ Finset.range b, f (b * t + r) := by
  induction a with
  | zero => simp
  | succ n ih => rw [Nat.succ_mul, Finset.sum_range_add, ih, Finset.sum_range_succ, Nat.mul_comm n b]

end Cert.Proof.Entropy

end
-- ==== Proof.Accum.lean ====
/-
  What the accumulator holds over the extended reals.
-/
module

public import proofs.«01_k».proof.Proof.Stream
public import proofs.«01_k».proof.Proof.FinishBody
public import proofs.«01_k».proof.Proof.Entropy
public import Idealize.ShloMosaic.Lib.Pointwise

@[expose] public section

noncomputable section

namespace Cert.Proof.Accum

open Cert.KernelIdeal Cert.KernelIdeal.Gen

open Idealize.ShloMosaic
open Cert.Proof.Gather Cert.Proof.Entropy
open scoped BigOperators

/-- A row brought to length one, its length held at or above the floor. -/
def un (x : FVec Ideal S1024x128 .f32) (r : Fin 1024) (q : Fin 128) : EReal :=
  Ideal.div (x (ix2 r q)) (max (Ideal.sqrt (∑ k : Fin 128, x (ix2 r k) * x (ix2 r k))) (Ideal.ofBits .f32 0x2B8CBCCC#32))

/-- The cosine of a row of the batch and a row of the table. -/
def cosOf (x : FVec Ideal S1024x128 .f32) (f : FVec Ideal S100000x128 .f32) (r : Fin 1024) (j : Fin 100000) : EReal :=
  ∑ q : Fin 128, un x r q * f (ix2 j q)

/-- The unit rows as the first step stores them. -/
theorem pay5_apply (x : FVec Ideal S1024x128 .f32) (u : Fin 1) (r : Fin 1024) (q : Fin 128) :
    k0_pay5 (F := Ideal) x (ix3 u r q) = un x r q := by
  pointwise [k0_pay5]
  rfl

/-- They again, as the last call makes them. -/
theorem unitOf_apply (x : FVec Ideal S1024x128 .f32) (r : Fin 1024) (q : Fin 128) :
    unitOf (F := Ideal) x (ix2 r q) = un x r q := by
  pointwise [unitOf, rowSum]
  rfl

/-- The products of a row of the batch and a row of a block. -/
def dotOf (x : Vec Ideal S1x1024x128 .bf16) (b : Vec Ideal S2048x128 .bf16) (r : Fin 1024) (c : Fin 2048) : EReal :=
  ∑ q : Fin 128, x (ix3 (0 : Fin 1) r q) * b (ix2 c q)

theorem pay9_apply (x : Vec Ideal S1x1024x128 .bf16) (b : Vec Ideal S2048x128 .bf16) (r : Fin 1024) (c : Fin 2048) :
    k0_pay9 x b (ix2 r c) = arc (dotOf x b r c) := by
  pointwise [k0_pay9]
  rw [two_bf16]
  rfl

theorem expOf_apply (ch : Fin 2) (x : Vec Ideal S1x1024x128 .bf16) (b : Vec Ideal S2048x128 .bf16) (r : Fin 1024) (c : Fin 2048) :
    expOf ch x b (ix2 r c) = small ch (dotOf x b r c) := by
  match ch with
  | 0 =>
    show k0_pay10 x b (ix2 r c) = _
    pointwise [k0_pay10]
    rw [pay9_apply, neg_ten_bf16]; rfl
  | 1 =>
    show k0_pay11 x b (ix2 r c) = _
    pointwise [k0_pay11]
    rw [pay9_apply, two_bf16]; rfl

theorem sum16 (g : Fin 16 → EReal) :
    ∑ k, g k = g 0 + g 1 + g 2 + g 3 + g 4 + g 5 + g 6 + g 7 + g 8 + g 9 + g 10 + g 11 + g 12 + g 13 + g 14 + g 15 := by
  simp only [Fin.sum_univ_castSucc, Fin.sum_univ_zero, zero_add]
  rfl

/-- The sixteen groups of a lane. -/
theorem lanes16_apply (e : FVec Ideal S1024x2048 .bf16) (r : Fin 1024) (l : Fin 128) :
    lanes16 e (ix2 r l) = ∑ k : Fin 16, e (ix2 r ⟨128 * k.val + l.val, by omega⟩) := by
  pointwise [lanes16]
  rw [sum16]
  simp only [Fin.val_zero, Nat.mul_zero, Nat.zero_add]
  rfl

/-- A tile after a step. -/
theorem tileOf_apply (e : FVec Ideal S1024x2048 .bf16) (a : Vec Ideal S1x1x1024x128 .f32) (u v : Fin 1) (r : Fin 1024) (l : Fin 128) :
    tileOf e a (ix4 u v r l) = a (ix4 u v r l) + ∑ k : Fin 16, e (ix2 r ⟨128 * k.val + l.val, by omega⟩) := by
  rw [← lanes16_apply]
  obtain rfl : u = 0 := Subsingleton.elim _ _
  obtain rfl : v = 0 := Subsingleton.elim _ _
  pointwise [tileOf]

theorem mask_apply (ch : Fin 2) (x : Vec Ideal S1x1024x128 .bf16) (b : Vec Ideal S2048x128 .bf16) (r : Fin 1024) (c : Fin 2048) :
    expMaskOf (BitVec.ofNat 32 48) ch x b (ix2 r c) = if 2048 * 48 + c.val < 100000 then small ch (dotOf x b r c) else 0 := by
  pointwise [expMaskOf]
  rw [expOf_apply]
  have hc : IntOp.cmpi .slt (IntOp.addi (Scalar.muli 48#32 2048#32) (BitVec.ofNat 32 c.val)) 100000#32
      = BitVec.ofBool (decide (2048 * 48 + c.val < 100000)) := by
    have h1 : (IntOp.addi (Scalar.muli 48#32 2048#32) (BitVec.ofNat 32 c.val)).toNat = 2048 * 48 + c.val := by
      show ((48#32 * 2048#32) + BitVec.ofNat 32 c.val).toNat = _
      rw [BitVec.toNat_add, BitVec.toNat_ofNat]
      have : (48#32 * 2048#32).toNat = 98304 := rfl
      omega
    show BitVec.ofBool (BitVec.slt _ _) = _
    rw [BitVec.slt_eq_ult_of_msb_eq (by
      rw [BitVec.msb_eq_false_iff_two_mul_lt.mpr (by omega)]; rfl), BitVec.ult, h1]
    rfl
  pointwise [k0_pay36]
  rw [hc]
  by_cases h : 2048 * 48 + c.val < 100000
  · rw [if_pos h, decide_eq_true h]; rfl
  · rw [if_neg h, decide_eq_false h]; rfl

/-- The term a number adds to a row's sum: the exponential of its column, nothing at or beyond the table's last row. -/
def term (ch : Fin 2) (x : FVec Ideal S1024x128 .f32) (f : Vec Ideal S100000x128 .bf16) (r : Fin 1024) (j : ℕ) : EReal :=
  if h : j < 100000 then small ch (∑ q : Fin 128, un x r q * f (ix2 (⟨j, h⟩ : Fin 100000) q)) else 0

/-- What one step adds to a lane. -/
theorem step_apply (n : ℕ) (hn : n ≤ 48) (xs : Fin 3 → Vec Ideal S1024x128 .f32) (tb : Fin 3 → Vec Ideal S100000x128 .bf16)
    (b : Fin 3 → Vec Ideal S2048x128 .bf16) (hb : BlkOf tb n b) (a : Vec Ideal S3x2x1024x128 .f32)
    (p : Fin 3) (ch : Fin 2) (r : Fin 1024) (l : Fin 128) :
    stepAcc n (F := Ideal) xs b a (ix4 p ch r l)
      = a (ix4 p ch r l) + ∑ k : Fin 16, term ch (xs p) (tb p) r (2048 * n + (128 * k.val + l.val)) := by
  have hdot : ∀ (c : Fin 2048) (h : 2048 * n + c.val < 100000),
      dotOf (xRow (unitRows (F := Ideal) xs) p) (b p) r c = ∑ q : Fin 128, un (xs p) r q * tb p (ix2 (⟨2048 * n + c.val, h⟩ : Fin 100000) q) := fun c h => by
    refine Finset.sum_congr rfl fun q _ => congrArg₂ (· * ·) (pay5_apply (xs p) 0 r q) ?_
    exact hb p (ix2 c q) h
  unfold stepAcc
  by_cases h48 : n = 48
  · subst h48
    rw [if_pos rfl]
    refine (tileOf_apply (expMaskOf (BitVec.ofNat 32 48) ch (xRow (unitRows (F := Ideal) xs) p) (b p)) (accTile a p ch) 0 0 r l).trans ?_
    refine congrArg (a (ix4 p ch r l) + ·) (Finset.sum_congr rfl fun k _ => ?_)
    rw [mask_apply]
    unfold term
    by_cases h : 2048 * 48 + (128 * k.val + l.val) < 100000
    · rw [if_pos h, dif_pos h]; exact congrArg (small ch) (hdot _ h)
    · rw [if_neg h, dif_neg h]
  · rw [if_neg h48]
    refine (tileOf_apply (expOf ch (xRow (unitRows (F := Ideal) xs) p) (b p)) (accTile a p ch) 0 0 r l).trans ?_
    refine congrArg (a (ix4 p ch r l) + ·) (Finset.sum_congr rfl fun k _ => ?_)
    have h : 2048 * n + (128 * k.val + l.val) < 100000 := by omega
    rw [expOf_apply]
    unfold term
    rw [dif_pos h]; exact congrArg (small ch) (hdot _ h)

/-- The accumulator after step `n`: each lane holds the terms of its columns so far. -/
theorem accRel_apply (xs : Fin 3 → Vec Ideal S1024x128 .f32) (tb : Fin 3 → Vec Ideal S100000x128 .bf16) :
    ∀ (n : ℕ) (hn : n ≤ 48) (X : Vec Ideal S3x2x1024x128 .f32), AccRel (F := Ideal) xs tb n X →
      ∀ (p : Fin 3) (ch : Fin 2) (r : Fin 1024) (l : Fin 128),
        X (ix4 p ch r l) = ∑ t ∈ Finset.range (n + 1), ∑ k : Fin 16, term ch (xs p) (tb p) r (2048 * t + (128 * k.val + l.val))
  | 0, hn, X, ⟨b, hb, hX⟩ => fun p ch r l => by
    rw [hX, step_apply 0 hn xs tb b hb]
    rw [show accZero (F := Ideal) (ix4 p ch r l) = 0 from by pointwise [accZero, k0_pay4]]
    simp
  | n + 1, hn, X, ⟨a, b, ha, hb, hX⟩ => fun p ch r l => by
    rw [hX, step_apply (n + 1) hn xs tb b hb, accRel_apply xs tb n (by omega) a ha, Finset.sum_range_succ _ (n + 1)]

/-- A row's lanes add up to the exponentials of all the table's columns. -/
theorem lanes_sum (xs : Fin 3 → Vec Ideal S1024x128 .f32) (tb : Fin 3 → Vec Ideal S100000x128 .bf16)
    (X : Vec Ideal S3x2x1024x128 .f32) (h : AccRel (F := Ideal) xs tb 48 X) (p : Fin 3) (ch : Fin 2) (r : Fin 1024) :
    lanesOf (F := Ideal) (accTile X p ch) (ix1 r)
      = ∑ j : Fin 100000, small ch (∑ q : Fin 128, un (xs p) r q * tb p (ix2 j q)) := by
  have h1 : lanesOf (F := Ideal) (accTile X p ch) (ix1 r) = ∑ l : Fin 128, X (ix4 p ch r l) := by
    pointwise [lanesOf, rowSum]
    rfl
  rw [h1]
  simp only [accRel_apply xs tb 48 le_rfl X h]
  have h2 : ∑ j ∈ Finset.range (49 * (16 * 128)), term ch (xs p) (tb p) r j
      = ∑ l : Fin 128, ∑ t ∈ Finset.range (48 + 1), ∑ k : Fin 16, term ch (xs p) (tb p) r (2048 * t + (128 * k.val + l.val)) := by
    refine (sum_blocks _ 49 (16 * 128)).trans (Eq.trans ?_ Finset.sum_comm)
    refine Finset.sum_congr rfl fun t _ => ?_
    refine (sum_blocks (fun j => term ch (xs p) (tb p) r (16 * 128 * t + j)) 16 128).trans (Eq.trans ?_ Finset.sum_comm)
    rw [Finset.sum_range]
    exact Finset.sum_congr rfl fun k _ => Finset.sum_range _
  rw [← h2, show 49 * (16 * 128) = 100000 + 352 from rfl, Finset.sum_range_add]
  rw [Finset.sum_range (fun j => term ch (xs p) (tb p) r j)]
  rw [Finset.sum_eq_zero (s := Finset.range 352) fun j _ => dif_neg (by omega), add_zero]
  exact Finset.sum_congr rfl fun j _ => dif_pos j.isLt

end Cert.Proof.Accum

end
-- ==== Proof.Taken.lean ====
/-
  What the reference computes. `jnp.take_along_axis` wraps a negative index, gathers at the clamped index, and puts a NaN
  wherever the index fell outside the row. Of indices inside it is the named entry of each row; the rest of a table's loss
  is read at an index over the extended reals.
-/
module

public import proofs.«01_k».proof.Proof.Accum
public import proofs.«01_k».proof.Proof.Gen.ReferenceIdeal.Run
public import Idealize.ShloMosaic.Lib.StableHlo.Predicate
public import Idealize.ShloMosaic.Lib.Pointwise
public import Idealize.ShloMosaic.Lib.WordCmp

@[expose] public section

noncomputable section

namespace Cert.Proof.Taken

open Cert.ReferenceIdeal Cert.ReferenceIdeal.Gen

open Idealize.ShloMosaic
open Idealize.ShloMosaic.WordCmp
open Cert.Proof.Gather (rowOf)
open Cert.Proof.Entropy Cert.Proof.Accum
open scoped BigOperators

/-! ## A reduction by `and` -/

/-- The `and` of bits is one exactly when each of them is one. -/
theorem fold_andi_one {ι : Type} [DecidableEq ι] (S : Finset ι) (f : ι → BitVec 1) :
    S.fold IntOp.andi 1#1 f = 1#1 ↔ ∀ i ∈ S, f i = 1#1 := by
  have hand : ∀ a b : BitVec 1, IntOp.andi a b = 1#1 ↔ a = 1#1 ∧ b = 1#1 := by decide
  induction S using Finset.cons_induction with
  | empty => simp
  | cons a S ha ih => simp only [Finset.fold_cons, hand, ih, Finset.forall_mem_cons]

theorem reduce_andi_one {s t u : Shape} {axes : List (Fin s.rank)} (x : IVec s 1) (h : s.ReducesTo axes t) (hu : 0 < u.numel) (j : t.Idx) :
    Host.reduce IntOp.andi x (constantI u 1 1#1) h hu j = 1#1 ↔ ∀ i, h.drop i = j → x i = 1#1 := by
  classical
  rw [Host.reduce_eq_fold, show constantI u 1 1#1 (Shape.Idx.first hu) = 1#1 from rfl, fold_andi_one]
  simp only [Finset.mem_filter, Finset.mem_univ, true_and]

/-! ## One entry of each row -/

/-- A gather of one entry of each row reads, in row `p`, the column that number `p` names, read signed and held inside the
    row. -/
theorem gather_entry_apply {α : Type} (x : S1024x100000.Idx → α) (idx : IVec S1024x1x1 32) (p : Fin 1024) (u : Fin 1) :
    Host.gather gather_S1024x100000_S1024x1x1_S1024x1_n_1_0_0_1_2_11 x idx (ix2 p u)
      = x (ix2 p (⟨min (idx (ix3 p u (0 : Fin 1))).toInt.toNat 99999, by omega⟩ : Fin 100000)) := by
  unfold Host.gather
  congr 1
  funext a
  refine Fin.ext ?_
  show GatherDims.start _ _ idx a + GatherDims.batchCoord _ _ a + GatherDims.offCoord _ _ a = _
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).2 (List.mem_singleton.mpr rfl)), Nat.add_zero]
    unfold GatherDims.start
    have h1 : (0 : Fin 2) ∉ gather_S1024x100000_S1024x1x1_S1024x1_n_1_0_0_1_2_11.startIndexMap := fun h => absurd (List.mem_singleton.mp h) (by decide)
    rw [dif_neg h1, Nat.zero_add]
    rfl
  · rw [GatherDims.offCoord_eq_zero _ _ _ (fun h => ((GatherDims.mem_sKept _ _).mp h).1 (List.mem_singleton.mpr rfl)), Nat.add_zero]
    rw [GatherDims.batchCoord_eq_zero _ _ _ (fun h => absurd (List.mem_singleton.mp h) (by decide)), Nat.add_zero]
    unfold GatherDims.start
    have h0 : (1 : Fin 2) ∈ gather_S1024x100000_S1024x1x1_S1024x1_n_1_0_0_1_2_11.startIndexMap := List.mem_singleton.mpr rfl
    rw [dif_pos h0]
    have hsi : gather_S1024x100000_S1024x1x1_S1024x1_n_1_0_0_1_2_11.siIdx (ix2 p u)
        ⟨List.idxOf (1 : Fin 2) gather_S1024x100000_S1024x1x1_S1024x1_n_1_0_0_1_2_11.startIndexMap,
          List.idxOf_lt_length_iff.2 h0⟩ = ix3 p u (0 : Fin 1) := by
      funext b; refine Fin.ext ?_
      match b with
      | ⟨0, _⟩ => rfl
      | ⟨1, _⟩ => rfl
      | ⟨2, _⟩ => rfl
    exact congrArg (fun k => min (idx k).toInt.toNat 99999) hsi

/-- The indices as a column, a negative one wrapped around once. -/
abbrev col (t : IVec S1024 32) : IVec S1024x1x1 32 :=
  shapeCast S1024x1x1 (select (cmpi .slt (broadcastInDim S1024x1 ![0] bcast_S1024_S1024x1_0 t) (broadcastInDim S1024x1 ![] bcast_S_S1024x1 (constantI S_ 32 0#32)))
    (addi (broadcastInDim S1024x1 ![0] bcast_S1024_S1024x1_0 t) (broadcastInDim S1024x1 ![] bcast_S_S1024x1 (constantI S_ 32 100000#32)))
    (broadcastInDim S1024x1 ![0] bcast_S1024_S1024x1_0 t)) shapeCasts_S1024x1_S1024x1x1

/-- Which of them lie inside a row. -/
abbrev inside (t : IVec S1024 32) : IVec S1024x1x1 1 :=
  andi (cmpi .sge (col t) (broadcastInDim S1024x1x1 ![] bcast_S_S1024x1x1 (constantI S_ 32 0#32)))
    (cmpi .sle (col t) (broadcastInDim S1024x1x1 ![0, 1, 2] bcast_S1x1x1_S1024x1x1_0_1_2
      (broadcastInDim S1x1x1 ![2] bcast_S1_S1x1x1_2 (constantI S1 32 99999#32))))

/-- The entries the reference takes, one of each row. -/
abbrev taken {F : FTy → Type} [FloatOps F] (x : FVec F S1024x100000 .f32) (t : IVec S1024 32) : FVec F S1024 .f32 :=
  shapeCast S1024 (select (Host.reduce IntOp.andi (inside t) (constantI S_ 1 1#1) reducesTo_S1024x1x1_S1024x1_d2 h_S_)
    (Host.gather gather_S1024x100000_S1024x1x1_S1024x1_n_1_0_0_1_2_11 x (col t))
    (broadcastInDim S1024x1 ![] bcast_S_S1024x1 (constant S_ .f32 0x7FC00000#32))) shapeCasts_S1024x1_S1024

/-- An index inside a row is not wrapped. -/
theorem col_apply (t : IVec S1024 32) (ht : ∀ j, (t j).toNat < 100000) (p : Fin 1024) (u v : Fin 1) : col t (ix3 p u v) = t (ix1 p) := by
  have h : IntOp.cmpi .slt (t (ix1 p)) 0#32 ≠ 1#1 := by
    rw [cmpi_slt_zero, Ne, ofBool_decide_eq_one_iff]
    have := ht (ix1 p)
    omega
  obtain rfl : u = 0 := Subsingleton.elim _ _
  obtain rfl : v = 0 := Subsingleton.elim _ _
  pointwise [col]
  exact if_neg h

theorem inside_one (t : IVec S1024 32) (ht : ∀ j, (t j).toNat < 100000) (i : S1024x1x1.Idx) : inside t i = 1#1 := by
  obtain ⟨p, u, v, rfl⟩ : ∃ (p : Fin 1024) (u v : Fin 1), i = ix3 p u v := ⟨i 0, i 1, i 2, funext fun a => by
    match a with
    | 0 => rfl
    | 1 => rfl
    | 2 => rfl⟩
  show IntOp.andi (IntOp.cmpi .sge (col t _) 0#32) (IntOp.cmpi .sle (col t _) 99999#32) = 1#1
  rw [col_apply t ht]
  have h := ht (ix1 p)
  rw [cmpi_sge_zero, cmpi_sle_of_lt (by omega) (by decide), andi_ofBool, ← Bool.decide_and, ofBool_decide_eq_one_iff]
  exact ⟨by omega, show _ ≤ 99999 by omega⟩

/-- Of indices inside a row the reference takes the named entries. -/
theorem taken_apply {F : FTy → Type} [FloatOps F] (x : FVec F S1024x100000 .f32) (t : IVec S1024 32) (ht : ∀ j, (t j).toNat < 100000)
    (p : Fin 1024) : taken x t (ix1 p) = x (ix2 p (rowOf (t (ix1 p)))) := by
  have hm : ∀ j, Host.reduce IntOp.andi (inside t) (constantI S_ 1 1#1) reducesTo_S1024x1x1_S1024x1_d2 h_S_ j = 1#1 := fun j =>
    (reduce_andi_one ..).mpr fun i _ => inside_one t ht i
  have hg := gather_entry_apply x (col t) p 0
  unfold taken
  revert hm hg
  generalize Host.reduce IntOp.andi (inside t) (constantI S_ 1 1#1) reducesTo_S1024x1x1_S1024x1_d2 h_S_ = msk
  generalize Host.gather gather_S1024x100000_S1024x1x1_S1024x1_n_1_0_0_1_2_11 x (col t) = g
  intro hm hg
  pointwise
  refine (if_pos (hm (ix2 p 0))).trans (hg.trans ?_)
  refine congrArg (fun k => x (ix2 p k)) (Fin.ext ?_)
  show min (col t (ix3 p (0 : Fin 1) (0 : Fin 1))).toInt.toNat 99999 = min (t (ix1 p)).toNat 99999
  rw [col_apply t ht]
  have h := ht (ix1 p)
  rw [toInt_eq_toNat_of_lt_half (by omega), Int.toNat_natCast]

/-! ## One table's loss, in the reference's operations -/

section
variable {F : FTy → Type} [FloatOps F]

/-- The products of the unit rows and the table's rows. -/
def dots (x : FVec F S1024x128 .f32) (f : FVec F S100000x128 .f32) : FVec F S1024x100000 .f32 :=
  Host.dotGeneral dot_S1024x128_S128x100000_S1024x100000_1_0_0_1_n_n none
    (Host.divf x (broadcastInDim S1024x128 ![0, 1] bcast_S1024x1_S1024x128_0_1
      (maximumf (Host.sqrt (broadcastInDim S1024x1 ![0] bcast_S1024_S1024x1_0
        (Host.reduceAdd (mulf x x) (constant S_ .f32 0x00000000#32) reducesTo_S1024x128_S1024_d1 h_S_)))
        (broadcastInDim S1024x1 ![] bcast_S_S1024x1 (constant S_ .f32 0x2B8CBCCC#32)))))
    (transpose S128x100000 [1, 0] f transposes_S100000x128_S128x100000_1_0)

/-- The cosines, held at or below one. -/
def held (s : FVec F S1024x100000 .f32) : FVec F S1024x100000 .f32 :=
  minimumf s (broadcastInDim S1024x100000 ![] bcast_S_S1024x100000 (constant S_ .f32 0x3F800000#32))

/-- The exponentials of the distances. -/
def dist (s : FVec F S1024x100000 .f32) : FVec F S1024x100000 .f32 :=
  Host.exp (Host.sqrt (subf (broadcastInDim S1024x100000 ![] bcast_S_S1024x100000 (constant S_ .f32 0x40000000#32))
    (mulf (broadcastInDim S1024x100000 ![] bcast_S_S1024x100000 (constant S_ .f32 0x40000000#32)) (held s))))

/-- They over their row's sum. -/
def soft (s : FVec F S1024x100000 .f32) : FVec F S1024x100000 .f32 :=
  Host.divf (dist s) (broadcastInDim S1024x100000 ![0, 1] bcast_S1024x1_S1024x100000_0_1
    (broadcastInDim S1024x1 ![0] bcast_S1024_S1024x1_0
      (Host.reduceAdd (dist s) (constant S_ .f32 0x00000000#32) reducesTo_S1024x100000_S1024_d1 h_S_)))

/-- The first cross entropy of each row. -/
def refOuter (s : FVec F S1024x100000 .f32) (t : IVec S1024 32) : FVec F S1024 .f32 :=
  subf (Host.log (Host.reduceAdd (Host.exp (mulf (held s) (broadcastInDim S1024x100000 ![] bcast_S_S1024x100000 (constant S_ .f32 0x41A00000#32))))
      (constant S_ .f32 0x00000000#32) reducesTo_S1024x100000_S1024_d1 h_S_))
    (mulf (taken s t) (broadcastInDim S1024 ![] bcast_S_S1024 (constant S_ .f32 0x41A00000#32)))

/-- The second cross entropy of each row. -/
def refInner (s : FVec F S1024x100000 .f32) (t : IVec S1024 32) : FVec F S1024 .f32 :=
  subf (Host.log (Host.reduceAdd (addf (broadcastInDim S1024x100000 ![] bcast_S_S1024x100000 (constant S_ .f32 0x3F800000#32)) (soft s))
      (constant S_ .f32 0x00000000#32) reducesTo_S1024x100000_S1024_d1 h_S_))
    (taken (soft s) t)

/-- The mean over the rows. -/
def refMean (v : FVec F S1024 .f32) : FVec F S_ .f32 :=
  Host.divf (Host.reduceAdd v (constant S_ .f32 0x00000000#32) reducesTo_S1024_S_d0 h_S_) (constant S_ .f32 0x44800000#32)

/-- One table's share of the loss. -/
def refPair (x : FVec F S1024x128 .f32) (f : FVec F S100000x128 .f32) (t : IVec S1024 32) : FVec F S_ .f32 :=
  mulf (constant S_ .f32 0x3F000000#32) (addf (refMean (refOuter (dots x f) t)) (refMean (refInner (dots x f) t)))

end

/-! ## The same at an index -/

theorem dots_apply (x : FVec Ideal S1024x128 .f32) (f : FVec Ideal S100000x128 .f32) (r : Fin 1024) (j : Fin 100000) :
    dots (F := Ideal) x f (ix2 r j) = cosOf x f r j := by
  pointwise [dots]
  rfl

theorem dist_apply (s : FVec Ideal S1024x100000 .f32) (r : Fin 1024) (j : Fin 100000) :
    dist (F := Ideal) s (ix2 r j) = whole 1 (s (ix2 r j)) := by
  pointwise [dist, held]
  rw [two_f32]
  rfl

theorem soft_apply (s : FVec Ideal S1024x100000 .f32) (r : Fin 1024) (j : Fin 100000) :
    soft (F := Ideal) s (ix2 r j) = Ideal.div (whole 1 (s (ix2 r j))) (∑ k : Fin 100000, whole 1 (s (ix2 r k))) := by
  pointwise [soft]
  simp only [dist_apply]

theorem refOuter_apply (s : FVec Ideal S1024x100000 .f32) (t : IVec S1024 32) (ht : ∀ j, (t j).toNat < 100000) (r : Fin 1024) :
    refOuter (F := Ideal) s t (ix1 r)
      = Ideal.log (∑ j : Fin 100000, whole 0 (s (ix2 r j))) - s (ix2 r (rowOf (t (ix1 r)))) * ((20 : ℝ) : EReal) := by
  unfold refOuter
  generalize hv : taken (F := Ideal) s t = v
  have hv' : v (ix1 r) = s (ix2 r (rowOf (t (ix1 r)))) := by rw [← hv]; exact taken_apply s t ht r
  pointwise [held]
  rw [hv', twenty_f32]
  rfl

theorem refInner_apply (s : FVec Ideal S1024x100000 .f32) (t : IVec S1024 32) (ht : ∀ j, (t j).toNat < 100000) (r : Fin 1024) :
    refInner (F := Ideal) s t (ix1 r)
      = Ideal.log (∑ j : Fin 100000, (1 + Ideal.div (whole 1 (s (ix2 r j))) (∑ k : Fin 100000, whole 1 (s (ix2 r k)))))
        - Ideal.div (whole 1 (s (ix2 r (rowOf (t (ix1 r)))))) (∑ k : Fin 100000, whole 1 (s (ix2 r k))) := by
  unfold refInner
  generalize hv : taken (F := Ideal) (soft s) t = v
  have hv' : v (ix1 r) = soft (F := Ideal) s (ix2 r (rowOf (t (ix1 r)))) := by rw [← hv]; exact taken_apply _ t ht r
  pointwise
  rw [hv']
  simp only [soft_apply]

end Cert.Proof.Taken

end
-- ==== Proof.Pair.lean ====
/-
  One table's share of the loss: the last call's is the reference's.
-/
module

public import proofs.«01_k».proof.Proof.Taken
public import proofs.«01_k».proof.Proof.Main

@[expose] public section

noncomputable section

namespace Cert.Proof.Pair

open Cert.KernelIdeal Cert.KernelIdeal.Gen

open Idealize.ShloMosaic
open Cert.Proof.Gather Cert.Proof.Entropy Cert.Proof.Accum
open Cert.Proof.Taken (refOuter refInner refMean refPair dots)
open scoped BigOperators

/-- The last call's mean. -/
theorem meanOf_eq (v : FVec Ideal S1024 .f32) :
    meanOf (F := Ideal) v = Ideal.div (∑ r : Fin 1024, v (ix1 r)) (Ideal.ofBits .f32 0x44800000#32) := by
  unfold meanOf
  rw [show ∀ w : FVec Ideal S1x1 .f32, extractAt ![0, 0] w inpos_S1x1_p0_0 = w (ix2 0 0) from fun w => congrArg w (funext fun a => by
    match a with
    | 0 => rfl
    | 1 => rfl)]
  pointwise

/-- The reference's mean. -/
theorem refMean_eq (v : FVec Ideal S1024 .f32) (z) :
    refMean (F := Ideal) v z = Ideal.div (∑ r : Fin 1024, v (ix1 r)) (Ideal.ofBits .f32 0x44800000#32) := by
  pointwise [refMean]

/-- The cosine of each row and the row gathered for it. -/
theorem cosAt_apply (x : FVec Ideal S1024x128 .f32) (f : FVec Ideal S100000x128 .f32) (t : IVec S1024 32) (r : Fin 1024) :
    cosAt (F := Ideal) x (rows (F := Ideal) f (iv (F := Ideal) t)) (ix1 r) = cosOf x f r (rowOf (t (ix1 r))) := by
  have hl : iv (F := Ideal) t (lix r) = t (ix1 r) := by
    have hl : (lix r : S1x1024.Idx) = ix2 (0 : Fin 1) r := funext fun a => by
      match a with
      | 0 => rfl
      | 1 => rfl
    rw [hl]
    pointwise [iv]
  have hr : ∀ q : Fin 128, rows (F := Ideal) f (iv (F := Ideal) t) (ix2 r q) = f (ix2 (rowOf (t (ix1 r))) q) := fun q => by
    show f (tix (rowOf (iv (F := Ideal) t (lix r))) q) = _
    rw [hl]
    exact congrArg f (funext fun a => by
      match a with
      | 0 => rfl
      | 1 => rfl)
  pointwise [cosAt, rowSum]
  simp only [unitOf_apply, hr]
  rfl

/-- One table's share of the loss. -/
theorem pair_eq (xs : Fin 3 → Vec Ideal S1024x128 .f32) (tb : Fin 3 → Vec Ideal S100000x128 .bf16)
    (X : Vec Ideal S3x2x1024x128 .f32) (h : AccRel (F := Ideal) xs tb 48 X) (p : Fin 3) (f : FVec Ideal S100000x128 .f32)
    (hf : tb p = cast16 (F := Ideal) f) (t : IVec S1024 32) (ht : ∀ j, (t j).toNat < 100000) (z) :
    pairOf (F := Ideal) (xs p) (rows (F := Ideal) f (iv (F := Ideal) t)) (accTile X p 0) (accTile X p 1) = refPair (F := Ideal) (xs p) f t z := by
  have hlan : ∀ (ch : Fin 2) (r : Fin 1024), lanesOf (F := Ideal) (accTile X p ch) (ix1 r) = ∑ j : Fin 100000, small ch (cosOf (xs p) f r j) := fun ch r => by
    rw [lanes_sum xs tb X h p ch r, hf]
    rfl
  have ho : ∀ r : Fin 1024, outerOf (F := Ideal) (cosAt (F := Ideal) (xs p) (rows (F := Ideal) f (iv (F := Ideal) t))) (accTile X p 0) (ix1 r)
      = refOuter (F := Ideal) (dots (F := Ideal) (xs p) f) t (ix1 r) := fun r => by
    rw [Taken.refOuter_apply _ t ht]
    simp only [Taken.dots_apply]
    rw [← outer_eq, ← hlan 0 r, ← cosAt_apply, ← twenty_f32]
    pointwise [outerOf]
  have hi : ∀ r : Fin 1024, innerOf (F := Ideal) (cosAt (F := Ideal) (xs p) (rows (F := Ideal) f (iv (F := Ideal) t))) (accTile X p 1) (ix1 r)
      = refInner (F := Ideal) (dots (F := Ideal) (xs p) f) t (ix1 r) := fun r => by
    rw [Taken.refInner_apply _ t ht]
    simp only [Taken.dots_apply]
    rw [← inner_eq, ← hlan 1 r, ← cosAt_apply, ← height_f32]
    pointwise [innerOf, recipOf]
    rw [two_f32]
    rfl
  pointwise [refPair]
  rw [refMean_eq, refMean_eq]
  unfold pairOf
  rw [meanOf_eq, meanOf_eq]
  simp only [ho, hi]
  rfl

end Cert.Proof.Pair

end
-- ==== Proof.lean ====
/-
  The certificate. Every run of the kernel leaves the loss its last call makes of an accumulator that its first call may
  leave (`Gather.run_main`, Proof/Main.lean, over any float values); over the extended reals that loss is the reference's,
  whichever accumulator it was (`Pair.pair_eq`, Proof/Pair.lean, once for each table). The frames are the same run read at
  `Bits` and at `Ideal`.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.Pre_in_range
public import proofs.«01_k».proof.Proof.Gen.ReferenceIdeal.Run
public import proofs.«01_k».proof.Proof.Main
public import proofs.«01_k».proof.Proof.Taken
public import proofs.«01_k».proof.Proof.Pair
public import Idealize.ShloMosaic.Lib.Quiescent

@[expose] public section

noncomputable section

namespace Cert.Proof

open Idealize.ShloMosaic Idealize.SL.Sem
open Cert.Proof.Gather (iv rows PreOK QC fm run_main AccRel outOf xs0 tb0)
open Cert.Proof.Taken (refPair reduce_andi_one)

/-! ## The precondition -/

/-- The precondition, read at an index: it lies inside the table. -/
theorem lt_of_pre {F : FTy → Type} [FloatOps F] (x₀ x₁ x₂ : FVec F Cert.Pre_in_range.S1024x128 .f32) (t : IVec Cert.Pre_in_range.S1024 32)
    (f₀ f₁ f₂ : FVec F Cert.Pre_in_range.S100000x128 .f32)
    (h : Cert.Pre_in_range.fn x₀ x₁ x₂ t f₀ f₁ f₂ = fun _ => 1#1) (j : Cert.Pre_in_range.S1024.Idx) : (t j).toNat < 100000 := by
  have e := (reduce_andi_one _ _ _ _).mp (congrFun h ValueIdx.ix0) j (funext fun a => a.elim0)
  have e' : IntOp.andi (IntOp.cmpi .sge (t j) 0#32) (IntOp.cmpi .slt (t j) (BitVec.ofNat 32 100000)) = 1#1 := e
  rwa [WordCmp.andi_sge_zero_slt_ofNat (by decide), WordCmp.ofBool_decide_eq_one_iff] at e'

/-! ## The frames -/

/-- The arguments at the end of a run are those at its start. -/
theorem args_eq {F : FTy → Type} [FloatOps F] {m M : (ℓ : Loc Cert.KernelIdeal.nD Cert.KernelIdeal.τ Cert.KernelIdeal.sig) → Buf (Elt F) ℓ}
    {c : Dev Cert.KernelIdeal.nD} (h : fm m c M) :
    M ((SparseCore.T c).loc Cert.KernelIdeal.main_arg0) = m ((SparseCore.T c).loc Cert.KernelIdeal.main_arg0)
      ∧ M ((SparseCore.T c).loc Cert.KernelIdeal.main_arg1) = m ((SparseCore.T c).loc Cert.KernelIdeal.main_arg1)
      ∧ M ((SparseCore.T c).loc Cert.KernelIdeal.main_arg2) = m ((SparseCore.T c).loc Cert.KernelIdeal.main_arg2)
      ∧ M ((SparseCore.T c).loc Cert.KernelIdeal.main_arg3) = m ((SparseCore.T c).loc Cert.KernelIdeal.main_arg3)
      ∧ M ((SparseCore.T c).loc Cert.KernelIdeal.main_arg4) = m ((SparseCore.T c).loc Cert.KernelIdeal.main_arg4)
      ∧ M ((SparseCore.T c).loc Cert.KernelIdeal.main_arg5) = m ((SparseCore.T c).loc Cert.KernelIdeal.main_arg5)
      ∧ M ((SparseCore.T c).loc Cert.KernelIdeal.main_arg6) = m ((SparseCore.T c).loc Cert.KernelIdeal.main_arg6) :=
  ⟨h.2 _ (by simp), h.2 _ (by simp), h.2 _ (by simp), h.2 _ (by simp), h.2 _ (by simp), h.2 _ (by simp), h.2 _ (by simp)⟩

set_option maxHeartbeats 4000000 in
/-- The two copies of the kernel have the same bodies on the device's numbers. -/
theorem defs₀_eq : Cert.Kernel.defs₀ (F := Bits) = Cert.KernelIdeal.defs₀ := by
  funext p ℓ a
  match p, ℓ, a with
  | .tc, 0, (t, s) => rfl
  | .tc, 1, _ => rfl
  | .tc, 2, (t, s) => rfl
  | .scVector c s, 0, _ => rfl
  | .scVector c s, 1, _ => rfl
  | .scVector c s, 2, _ => rfl
  | .scScalar c, 0, _ => rfl
  | .scScalar c, 1, _ => rfl
  | .scScalar c, 2, _ => rfl

/-- So they have the same definitions. -/
theorem defs_eq : Cert.Kernel.defs (F := Bits) = Cert.KernelIdeal.defs :=
  congrArg (fun d => Cert.KernelIdeal.sc.defs (Pipeline.defs Cert.KernelIdeal.pcfgs d)) defs₀_eq

theorem frame_kernel : Cert.quiescent_Kernel := fun m ρ hpre => by
  show θ_run Cert.Kernel.defs _ _ _
  rw [defs_eq]
  exact (θ_run Cert.KernelIdeal.defs _ _).mono (fun _ h => ⟨fun c => args_eq (h.1 c), h.2⟩)
    (run_main (F := Bits) m ρ fun d j => lt_of_pre _ _ _ _ _ _ _ (hpre d) j)

theorem frame_kernelIdeal : Cert.quiescent_KernelIdeal := fun m ρ hpre =>
  (θ_run Cert.KernelIdeal.defs _ _).mono (fun _ h => ⟨fun c => args_eq (h.1 c), h.2⟩)
    (run_main (F := Ideal) m ρ fun d j => lt_of_pre _ _ _ _ _ _ _ (hpre d) j)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- The reference's loss of the arguments. -/
def refLoss {F : FTy → Type} [FloatOps F] (x₀ x₁ x₂ : FVec F Cert.ReferenceIdeal.S1024x128 .f32) (t : IVec Cert.ReferenceIdeal.S1024 32)
    (f₀ f₁ f₂ : FVec F Cert.ReferenceIdeal.S100000x128 .f32) : FVec F Cert.ReferenceIdeal.S_ .f32 :=
  addf (addf (refPair x₀ f₀ t) (refPair x₁ f₁ t)) (refPair x₂ f₂ t)

/-- The loss the kernel makes of any accumulator that its first call may leave. -/
theorem outOf_eq (m : (ℓ : Loc Cert.KernelIdeal.nD Cert.KernelIdeal.τ Cert.KernelIdeal.sig) → Buf (Elt Ideal) ℓ)
    (d : Dev Cert.KernelIdeal.nD) (hlt : PreOK m) (X : Vec Ideal Cert.KernelIdeal.S3x2x1024x128 .f32)
    (hX : AccRel (xs0 m d) (tb0 m d) 48 X) :
    outOf m d X = refLoss (F := Ideal) (m ((SparseCore.T d).loc Cert.KernelIdeal.main_arg0)) (m ((SparseCore.T d).loc Cert.KernelIdeal.main_arg1))
      (m ((SparseCore.T d).loc Cert.KernelIdeal.main_arg2)) (m (Gather.jLoc d)) (m (Gather.fLoc d)) (m (Gather.uLoc d)) (m (Gather.wLoc d)) :=
  funext fun z => by
    have e0 := Pair.pair_eq (xs0 m d) (tb0 m d) X hX 0 (m (Gather.fLoc d)) rfl (m (Gather.jLoc d)) (hlt d) z
    have e1 := Pair.pair_eq (xs0 m d) (tb0 m d) X hX 1 (m (Gather.uLoc d)) rfl (m (Gather.jLoc d)) (hlt d) z
    have e2 := Pair.pair_eq (xs0 m d) (tb0 m d) X hX 2 (m (Gather.wLoc d)) rfl (m (Gather.jLoc d)) (hlt d) z
    refine (congrArg₂ (· + ·) (congrArg₂ (· + ·) ((congrArg (Ideal.ofBits .f32 0x00000000#32 + ·) e0).trans ?_) e1) e2 :)
    rw [Ideal.ofBits_zero_f32]
    exact zero_add _

theorem algebraic : Cert.algebraic_KernelIdeal_ReferenceIdeal := fun m ρ m' ρ' hpre hag =>
  have hlt : PreOK m := fun d j => lt_of_pre _ _ _ _ _ _ _ (hpre d) j
  ⟨fun d => refLoss (F := Ideal) (m ((SparseCore.T d).loc Cert.KernelIdeal.main_arg0)) (m ((SparseCore.T d).loc Cert.KernelIdeal.main_arg1))
      (m ((SparseCore.T d).loc Cert.KernelIdeal.main_arg2)) (m (Gather.jLoc d)) (m (Gather.fLoc d)) (m (Gather.uLoc d)) (m (Gather.wLoc d)),
    (θ_run Cert.KernelIdeal.defs _ _).mono (fun _ h c =>
      ⟨by obtain ⟨X, hX, e⟩ := (h.1 c).1; exact e.trans (outOf_eq m c hlt X hX), args_eq (h.1 c)⟩) (run_main (F := Ideal) m ρ hlt),
    (θ_run Cert.ReferenceIdeal.defs _ _).mono (fun _ h c =>
      ⟨(h c).1.trans (by
        obtain ⟨h0, h1, h2, h3, h4, h5, h6⟩ := hag c
        refine Eq.trans (b := refLoss (F := Ideal) (m' ((SparseCore.T c).loc Cert.ReferenceIdeal.main_arg0)) (m' ((SparseCore.T c).loc Cert.ReferenceIdeal.main_arg1))
          (m' ((SparseCore.T c).loc Cert.ReferenceIdeal.main_arg2)) (m' ((SparseCore.T c).loc Cert.ReferenceIdeal.main_arg3))
          (m' ((SparseCore.T c).loc Cert.ReferenceIdeal.main_arg4)) (m' ((SparseCore.T c).loc Cert.ReferenceIdeal.main_arg5))
          (m' ((SparseCore.T c).loc Cert.ReferenceIdeal.main_arg6))) rfl ?_
        rw [h0, h1, h2, h3, h4, h5, h6]), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_in_range.Gen.facts,
    frame_kernel, frame_kernelIdeal, frame_referenceIdeal, fun m ρ _ => frame_referenceIdeal m ρ trivial, trivial, algebraic⟩

end Cert.Proof

end
